-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 8192]⟩ ⟨2, ![4096, 8192]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![256, 8192]⟩ ⟨2, ![2048, 8192]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![256, 8192]⟩ ⟨2, ![2048, 8192]⟩ 0 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S512x8192 : Shape := ⟨2, ![512, 8192]⟩
abbrev S256x8192 : Shape := ⟨2, ![256, 8192]⟩
abbrev S4096x8192 : Shape := ⟨2, ![4096, 8192]⟩
abbrev S2x256x8192 : Shape := ⟨3, ![2, 256, 8192]⟩
abbrev S256x512 : Shape := ⟨2, ![256, 512]⟩
abbrev S1x128 : Shape := ⟨2, ![1, 128]⟩
abbrev S7x1x128 : Shape := ⟨3, ![7, 1, 128]⟩
abbrev S2 : Shape := ⟨1, ![2]⟩
abbrev S7 : Shape := ⟨1, ![7]⟩
abbrev S_ : Shape := ⟨0, ![]⟩
abbrev S1 : Shape := ⟨1, ![1]⟩
abbrev S1x256x8192 : Shape := ⟨3, ![1, 256, 8192]⟩
abbrev S1x256x2048 : Shape := ⟨3, ![1, 256, 2048]⟩
abbrev S256x2048 : Shape := ⟨2, ![256, 2048]⟩
abbrev S512x2048 : Shape := ⟨2, ![512, 2048]⟩
abbrev S1x1x1 : Shape := ⟨3, ![1, 1, 1]⟩
abbrev S1x1x128 : Shape := ⟨3, ![1, 1, 128]⟩

abbrev nBuf : Space → Nat
  | .hbm => 5
  | .vmem => 10
  | .smem => 0
  | _ => 0

abbrev bufTy : (tb : Table) → Fin (tcTables nBuf tb) → BufTy
  | .hbm, ⟨0, _⟩ => ⟨S4096x512, .f32⟩
  | .hbm, ⟨1, _⟩ => ⟨S512x8192, .f32⟩
  | .hbm, ⟨2, _⟩ => ⟨S256x8192, .bf16⟩
  | .hbm, ⟨3, _⟩ => ⟨S256x8192, .bf16⟩
  | .hbm, ⟨4, _⟩ => ⟨S4096x8192, .f32⟩
  | .local _ .vmem, ⟨0, _⟩ => ⟨S2x256x8192, .bf16⟩
  | .local _ .vmem, ⟨1, _⟩ => ⟨S2x256x8192, .bf16⟩
  | .local _ .vmem, ⟨2, _⟩ => ⟨S2x256x8192, .i8⟩
  | .local _ .vmem, ⟨3, _⟩ => ⟨S2x256x8192, .i8⟩
  | .local _ .vmem, ⟨4, _⟩ => ⟨S512x8192, .bf16⟩
  | .local _ .vmem, ⟨5, _⟩ => ⟨S256x512, .f32⟩
  | .local _ .vmem, ⟨6, _⟩ => ⟨S256x512, .f32⟩
  | .local _ .vmem, ⟨7, _⟩ => ⟨S2x256x8192, .f32⟩
  | .local _ .vmem, ⟨8, _⟩ => ⟨S1x128, .f32⟩
  | .local _ .vmem, ⟨9, _⟩ => ⟨S7x1x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 3 → Bool
  | ⟨0, _⟩ => true
  | ⟨1, _⟩ => true
  | ⟨2, _⟩ => false
  | _ => false

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  (ofTc nBuf bufTy 3 28 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev barrier0 : Sem sig := 2

abbrev nD : Nat := 8
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_dev3 (d0 : Dev nD) : Nat :=
  let c0_i32_70 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_69 : BitVec 32 := 1#32
  let v78 : BitVec 32 := Scalar.muli v24 c1_i32_69
  let v79 : BitVec 32 := Scalar.addi c0_i32_70 v78
  v79.toNat
def k0_dev4 (d0 : Dev nD) : Nat :=
  let c0_i32_80 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_79 : BitVec 32 := 1#32
  let v88 : BitVec 32 := Scalar.muli v13 c1_i32_79
  let v89 : BitVec 32 := Scalar.addi c0_i32_80 v88
  v89.toNat
def k0_off1 (d0 : Dev nD) (c1_i32_85 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v98 : BitVec 32 := Scalar.subi v2 c1_i32_85
  let c1_i32_86 : BitVec 32 := 1#32
  let v99 : BitVec 32 := Scalar.subi v98 c1_i32_86
  let c8_i32_87 : BitVec 32 := 8#32
  let c0_i32_88 : BitVec 32 := 0#32
  let v100 : BitVec 1 := Scalar.cmpi .eq c8_i32_87 c0_i32_88
  let c1_i32_89 : BitVec 32 := 1#32
  let v101 : BitVec 32 := Scalar.select v100 c1_i32_89 c8_i32_87
  let v102 : BitVec 32 := Scalar.remsi v99 v101
  let c0_i32_91 : BitVec 32 := 0#32
  let v104 : BitVec 1 := Scalar.cmpi .slt v102 c0_i32_91
  let c0_i32_92 : BitVec 32 := 0#32
  let v105 : BitVec 1 := Scalar.cmpi .slt v101 c0_i32_92
  let v106 : BitVec 1 := Scalar.xori v104 v105
  let c0_i32_90 : BitVec 32 := 0#32
  let v103 : BitVec 1 := Scalar.cmpi .ne v102 c0_i32_90
  let v107 : BitVec 1 := Scalar.andi v106 v103
  let v108 : BitVec 32 := Scalar.addi v102 v101
  let v109 : BitVec 32 := Scalar.select v107 v108 v102
  let c512_i32 : BitVec 32 := 512#32
  let v122 : BitVec 32 := Scalar.muli v109 c512_i32
  let c0_i32_102 : BitVec 32 := 0#32
  ![v122.toNat, 0]
def k0_off2 (d0 : Dev nD) (c1_i32_93 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v110 : BitVec 32 := Scalar.addi v2 c1_i32_93
  let c1_i32_94 : BitVec 32 := 1#32
  let v111 : BitVec 32 := Scalar.addi v110 c1_i32_94
  let c8_i32_95 : BitVec 32 := 8#32
  let c0_i32_96 : BitVec 32 := 0#32
  let v112 : BitVec 1 := Scalar.cmpi .eq c8_i32_95 c0_i32_96
  let c1_i32_97 : BitVec 32 := 1#32
  let v113 : BitVec 32 := Scalar.select v112 c1_i32_97 c8_i32_95
  let v114 : BitVec 32 := Scalar.remsi v111 v113
  let c0_i32_99 : BitVec 32 := 0#32
  let v116 : BitVec 1 := Scalar.cmpi .slt v114 c0_i32_99
  let c0_i32_100 : BitVec 32 := 0#32
  let v117 : BitVec 1 := Scalar.cmpi .slt v113 c0_i32_100
  let v118 : BitVec 1 := Scalar.xori v116 v117
  let c0_i32_98 : BitVec 32 := 0#32
  let v115 : BitVec 1 := Scalar.cmpi .ne v114 c0_i32_98
  let v119 : BitVec 1 := Scalar.andi v118 v115
  let v120 : BitVec 32 := Scalar.addi v114 v113
  let v121 : BitVec 32 := Scalar.select v119 v120 v114
  let c512_i32_103 : BitVec 32 := 512#32
  let v126 : BitVec 32 := Scalar.muli v121 c512_i32_103
  let c256_i32_104 : BitVec 32 := 256#32
  let v127 : BitVec 32 := Scalar.addi v126 c256_i32_104
  let c0_i32_106 : BitVec 32 := 0#32
  ![v127.toNat, 0]
def k0_dev5 (d0 : Dev nD) : Nat :=
  let c0_i32_147 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_146 : BitVec 32 := 1#32
  let v159 : BitVec 32 := Scalar.muli v13 c1_i32_146
  let v160 : BitVec 32 := Scalar.addi c0_i32_147 v159
  v160.toNat
def k0_dev6 (d0 : Dev nD) : Nat :=
  let c0_i32_150 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_149 : BitVec 32 := 1#32
  let v161 : BitVec 32 := Scalar.muli v24 c1_i32_149
  let v162 : BitVec 32 := Scalar.addi c0_i32_150 v161
  v162.toNat
def k0_dev7 (d0 : Dev nD) : Nat :=
  let c0_i32_248 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_247 : BitVec 32 := 1#32
  let v265 : BitVec 32 := Scalar.muli v24 c1_i32_247
  let v266 : BitVec 32 := Scalar.addi c0_i32_248 v265
  v266.toNat
def k0_dev8 (d0 : Dev nD) : Nat :=
  let c0_i32_258 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_257 : BitVec 32 := 1#32
  let v275 : BitVec 32 := Scalar.muli v13 c1_i32_257
  let v276 : BitVec 32 := Scalar.addi c0_i32_258 v275
  v276.toNat
def k0_dev9 (d0 : Dev nD) : Nat :=
  let c0_i32_326 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_325 : BitVec 32 := 1#32
  let v346 : BitVec 32 := Scalar.muli v13 c1_i32_325
  let v347 : BitVec 32 := Scalar.addi c0_i32_326 v346
  v347.toNat
def k0_dev10 (d0 : Dev nD) : Nat :=
  let c0_i32_329 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_328 : BitVec 32 := 1#32
  let v348 : BitVec 32 := Scalar.muli v24 c1_i32_328
  let v349 : BitVec 32 := Scalar.addi c0_i32_329 v348
  v349.toNat
def k0_dev11 (d0 : Dev nD) : Nat :=
  let c0_i32_431 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_430 : BitVec 32 := 1#32
  let v452 : BitVec 32 := Scalar.muli v24 c1_i32_430
  let v453 : BitVec 32 := Scalar.addi c0_i32_431 v452
  v453.toNat
def k0_dev12 (d0 : Dev nD) : Nat :=
  let c0_i32_441 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_440 : BitVec 32 := 1#32
  let v462 : BitVec 32 := Scalar.muli v13 c1_i32_440
  let v463 : BitVec 32 := Scalar.addi c0_i32_441 v462
  v463.toNat
def k0_dev13 (d0 : Dev nD) : Nat :=
  let c0_i32_508 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_507 : BitVec 32 := 1#32
  let v533 : BitVec 32 := Scalar.muli v13 c1_i32_507
  let v534 : BitVec 32 := Scalar.addi c0_i32_508 v533
  v534.toNat
def k0_dev14 (d0 : Dev nD) : Nat :=
  let c0_i32_511 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_510 : BitVec 32 := 1#32
  let v535 : BitVec 32 := Scalar.muli v24 c1_i32_510
  let v536 : BitVec 32 := Scalar.addi c0_i32_511 v535
  v536.toNat
def k0_dev15 (d0 : Dev nD) : Nat :=
  let c0_i32_613 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_612 : BitVec 32 := 1#32
  let v639 : BitVec 32 := Scalar.muli v24 c1_i32_612
  let v640 : BitVec 32 := Scalar.addi c0_i32_613 v639
  v640.toNat
def k0_dev16 (d0 : Dev nD) : Nat :=
  let c0_i32_623 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_622 : BitVec 32 := 1#32
  let v649 : BitVec 32 := Scalar.muli v13 c1_i32_622
  let v650 : BitVec 32 := Scalar.addi c0_i32_623 v649
  v650.toNat
def k0_dev17 (d0 : Dev nD) : Nat :=
  let c0_i32_690 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_689 : BitVec 32 := 1#32
  let v720 : BitVec 32 := Scalar.muli v13 c1_i32_689
  let v721 : BitVec 32 := Scalar.addi c0_i32_690 v720
  v721.toNat
def k0_dev18 (d0 : Dev nD) : Nat :=
  let c0_i32_693 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_692 : BitVec 32 := 1#32
  let v722 : BitVec 32 := Scalar.muli v24 c1_i32_692
  let v723 : BitVec 32 := Scalar.addi c0_i32_693 v722
  v723.toNat
def k0_dev19 (d0 : Dev nD) : Nat :=
  let c0_i32_795 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_794 : BitVec 32 := 1#32
  let v826 : BitVec 32 := Scalar.muli v24 c1_i32_794
  let v827 : BitVec 32 := Scalar.addi c0_i32_795 v826
  v827.toNat
def k0_dev20 (d0 : Dev nD) : Nat :=
  let c0_i32_805 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_804 : BitVec 32 := 1#32
  let v836 : BitVec 32 := Scalar.muli v13 c1_i32_804
  let v837 : BitVec 32 := Scalar.addi c0_i32_805 v836
  v837.toNat
def k0_dev21 (d0 : Dev nD) : Nat :=
  let c0_i32_872 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_871 : BitVec 32 := 1#32
  let v907 : BitVec 32 := Scalar.muli v13 c1_i32_871
  let v908 : BitVec 32 := Scalar.addi c0_i32_872 v907
  v908.toNat
def k0_dev22 (d0 : Dev nD) : Nat :=
  let c0_i32_875 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_874 : BitVec 32 := 1#32
  let v909 : BitVec 32 := Scalar.muli v24 c1_i32_874
  let v910 : BitVec 32 := Scalar.addi c0_i32_875 v909
  v910.toNat
def k0_dev23 (d0 : Dev nD) : Nat :=
  let c0_i32_977 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_976 : BitVec 32 := 1#32
  let v1013 : BitVec 32 := Scalar.muli v24 c1_i32_976
  let v1014 : BitVec 32 := Scalar.addi c0_i32_977 v1013
  v1014.toNat
def k0_dev24 (d0 : Dev nD) : Nat :=
  let c0_i32_987 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_986 : BitVec 32 := 1#32
  let v1023 : BitVec 32 := Scalar.muli v13 c1_i32_986
  let v1024 : BitVec 32 := Scalar.addi c0_i32_987 v1023
  v1024.toNat
def k0_dev25 (d0 : Dev nD) : Nat :=
  let c0_i32_1054 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1053 : BitVec 32 := 1#32
  let v1094 : BitVec 32 := Scalar.muli v13 c1_i32_1053
  let v1095 : BitVec 32 := Scalar.addi c0_i32_1054 v1094
  v1095.toNat
def k0_dev26 (d0 : Dev nD) : Nat :=
  let c0_i32_1057 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1056 : BitVec 32 := 1#32
  let v1096 : BitVec 32 := Scalar.muli v24 c1_i32_1056
  let v1097 : BitVec 32 := Scalar.addi c0_i32_1057 v1096
  v1097.toNat
def k0_dev27 (d0 : Dev nD) : Nat :=
  let c0_i32_1164 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1163 : BitVec 32 := 1#32
  let v1221 : BitVec 32 := Scalar.muli v24 c1_i32_1163
  let v1222 : BitVec 32 := Scalar.addi c0_i32_1164 v1221
  v1222.toNat
def k0_dev28 (d0 : Dev nD) : Nat :=
  let c0_i32_1189 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1188 : BitVec 32 := 1#32
  let v1246 : BitVec 32 := Scalar.muli v24 c1_i32_1188
  let v1247 : BitVec 32 := Scalar.addi c0_i32_1189 v1246
  v1247.toNat
def k0_dev29 (d0 : Dev nD) : Nat :=
  let c0_i32_1214 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1213 : BitVec 32 := 1#32
  let v1271 : BitVec 32 := Scalar.muli v24 c1_i32_1213
  let v1272 : BitVec 32 := Scalar.addi c0_i32_1214 v1271
  v1272.toNat
def k0_dev30 (d0 : Dev nD) : Nat :=
  let c0_i32_1238 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1237 : BitVec 32 := 1#32
  let v1296 : BitVec 32 := Scalar.muli v24 c1_i32_1237
  let v1297 : BitVec 32 := Scalar.addi c0_i32_1238 v1296
  v1297.toNat
def k0_dev31 (d0 : Dev nD) : Nat :=
  let c0_i32_1262 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1261 : BitVec 32 := 1#32
  let v1321 : BitVec 32 := Scalar.muli v24 c1_i32_1261
  let v1322 : BitVec 32 := Scalar.addi c0_i32_1262 v1321
  v1322.toNat
def k0_dev32 (d0 : Dev nD) : Nat :=
  let c0_i32_1286 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1285 : BitVec 32 := 1#32
  let v1346 : BitVec 32 := Scalar.muli v24 c1_i32_1285
  let v1347 : BitVec 32 := Scalar.addi c0_i32_1286 v1346
  v1347.toNat
def k0_dev33 (d0 : Dev nD) : Nat :=
  let c0_i32_1310 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1309 : BitVec 32 := 1#32
  let v1371 : BitVec 32 := Scalar.muli v24 c1_i32_1309
  let v1372 : BitVec 32 := Scalar.addi c0_i32_1310 v1371
  v1372.toNat
def k0_dev34 (d0 : Dev nD) : Nat :=
  let c0_i32_1354 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1353 : BitVec 32 := 1#32
  let v1421 : BitVec 32 := Scalar.muli v24 c1_i32_1353
  let v1422 : BitVec 32 := Scalar.addi c0_i32_1354 v1421
  v1422.toNat
def k0_dev35 (d0 : Dev nD) : Nat :=
  let c0_i32_1364 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1363 : BitVec 32 := 1#32
  let v1431 : BitVec 32 := Scalar.muli v13 c1_i32_1363
  let v1432 : BitVec 32 := Scalar.addi c0_i32_1364 v1431
  v1432.toNat
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1369 : BitVec 32 := 1#32
  let v1441 : BitVec 32 := Scalar.addi v2 c1_i32_1369
  let c8_i32_1370 : BitVec 32 := 8#32
  let c0_i32_1371 : BitVec 32 := 0#32
  let v1442 : BitVec 1 := Scalar.cmpi .eq c8_i32_1370 c0_i32_1371
  let c1_i32_1372 : BitVec 32 := 1#32
  let v1443 : BitVec 32 := Scalar.select v1442 c1_i32_1372 c8_i32_1370
  let v1444 : BitVec 32 := Scalar.remsi v1441 v1443
  let c0_i32_1374 : BitVec 32 := 0#32
  let v1446 : BitVec 1 := Scalar.cmpi .slt v1444 c0_i32_1374
  let c0_i32_1375 : BitVec 32 := 0#32
  let v1447 : BitVec 1 := Scalar.cmpi .slt v1443 c0_i32_1375
  let v1448 : BitVec 1 := Scalar.xori v1446 v1447
  let c0_i32_1373 : BitVec 32 := 0#32
  let v1445 : BitVec 1 := Scalar.cmpi .ne v1444 c0_i32_1373
  let v1449 : BitVec 1 := Scalar.andi v1448 v1445
  let v1450 : BitVec 32 := Scalar.addi v1444 v1443
  let v1451 : BitVec 32 := Scalar.select v1449 v1450 v1444
  let c512_i32_1383 : BitVec 32 := 512#32
  let v1463 : BitVec 32 := Scalar.muli v1451 c512_i32_1383
  let c0_i32_1392 : BitVec 32 := 0#32
  ![v1463.toNat, 0]
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1376 : BitVec 32 := 1#32
  let v1452 : BitVec 32 := Scalar.subi v2 c1_i32_1376
  let c8_i32_1377 : BitVec 32 := 8#32
  let c0_i32_1378 : BitVec 32 := 0#32
  let v1453 : BitVec 1 := Scalar.cmpi .eq c8_i32_1377 c0_i32_1378
  let c1_i32_1379 : BitVec 32 := 1#32
  let v1454 : BitVec 32 := Scalar.select v1453 c1_i32_1379 c8_i32_1377
  let v1455 : BitVec 32 := Scalar.remsi v1452 v1454
  let c0_i32_1381 : BitVec 32 := 0#32
  let v1457 : BitVec 1 := Scalar.cmpi .slt v1455 c0_i32_1381
  let c0_i32_1382 : BitVec 32 := 0#32
  let v1458 : BitVec 1 := Scalar.cmpi .slt v1454 c0_i32_1382
  let v1459 : BitVec 1 := Scalar.xori v1457 v1458
  let c0_i32_1380 : BitVec 32 := 0#32
  let v1456 : BitVec 1 := Scalar.cmpi .ne v1455 c0_i32_1380
  let v1460 : BitVec 1 := Scalar.andi v1459 v1456
  let v1461 : BitVec 32 := Scalar.addi v1455 v1454
  let v1462 : BitVec 32 := Scalar.select v1460 v1461 v1455
  let c512_i32_1395 : BitVec 32 := 512#32
  let v1477 : BitVec 32 := Scalar.muli v1462 c512_i32_1395
  let c256_i32_1396 : BitVec 32 := 256#32
  let v1478 : BitVec 32 := Scalar.addi v1477 c256_i32_1396
  let c0_i32_1405 : BitVec 32 := 0#32
  ![v1478.toNat, 0]
def k0_dev36 (d0 : Dev nD) : Nat :=
  let c0_i32_1448 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1447 : BitVec 32 := 1#32
  let v1520 : BitVec 32 := Scalar.muli v13 c1_i32_1447
  let v1521 : BitVec 32 := Scalar.addi c0_i32_1448 v1520
  v1521.toNat
def k0_dev37 (d0 : Dev nD) : Nat :=
  let c0_i32_1451 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1450 : BitVec 32 := 1#32
  let v1522 : BitVec 32 := Scalar.muli v24 c1_i32_1450
  let v1523 : BitVec 32 := Scalar.addi c0_i32_1451 v1522
  v1523.toNat
def k0_dev38 (d0 : Dev nD) : Nat :=
  let c0_i32_1461 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1460 : BitVec 32 := 1#32
  let v1524 : BitVec 32 := Scalar.muli v24 c1_i32_1460
  let v1525 : BitVec 32 := Scalar.addi c0_i32_1461 v1524
  v1525.toNat
def k0_dev39 (d0 : Dev nD) : Nat :=
  let c0_i32_1471 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1470 : BitVec 32 := 1#32
  let v1534 : BitVec 32 := Scalar.muli v13 c1_i32_1470
  let v1535 : BitVec 32 := Scalar.addi c0_i32_1471 v1534
  v1535.toNat
def k0_off5 (d0 : Dev nD) (c0_i32_1476 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1544 : BitVec 32 := Scalar.subi v2 c0_i32_1476
  let c8_i32_1477 : BitVec 32 := 8#32
  let c0_i32_1478 : BitVec 32 := 0#32
  let v1545 : BitVec 1 := Scalar.cmpi .eq c8_i32_1477 c0_i32_1478
  let c1_i32_1479 : BitVec 32 := 1#32
  let v1546 : BitVec 32 := Scalar.select v1545 c1_i32_1479 c8_i32_1477
  let v1547 : BitVec 32 := Scalar.remsi v1544 v1546
  let c0_i32_1481 : BitVec 32 := 0#32
  let v1549 : BitVec 1 := Scalar.cmpi .slt v1547 c0_i32_1481
  let c0_i32_1482 : BitVec 32 := 0#32
  let v1550 : BitVec 1 := Scalar.cmpi .slt v1546 c0_i32_1482
  let v1551 : BitVec 1 := Scalar.xori v1549 v1550
  let c0_i32_1480 : BitVec 32 := 0#32
  let v1548 : BitVec 1 := Scalar.cmpi .ne v1547 c0_i32_1480
  let v1552 : BitVec 1 := Scalar.andi v1551 v1548
  let v1553 : BitVec 32 := Scalar.addi v1547 v1546
  let v1554 : BitVec 32 := Scalar.select v1552 v1553 v1547
  let c512_i32_1490 : BitVec 32 := 512#32
  let v1566 : BitVec 32 := Scalar.muli v1554 c512_i32_1490
  let c0_i32_1504 : BitVec 32 := 0#32
  ![v1566.toNat, 0]
def k0_off6 (d0 : Dev nD) (c0_i32_1483 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1555 : BitVec 32 := Scalar.addi v2 c0_i32_1483
  let c8_i32_1484 : BitVec 32 := 8#32
  let c0_i32_1485 : BitVec 32 := 0#32
  let v1556 : BitVec 1 := Scalar.cmpi .eq c8_i32_1484 c0_i32_1485
  let c1_i32_1486 : BitVec 32 := 1#32
  let v1557 : BitVec 32 := Scalar.select v1556 c1_i32_1486 c8_i32_1484
  let v1558 : BitVec 32 := Scalar.remsi v1555 v1557
  let c0_i32_1488 : BitVec 32 := 0#32
  let v1560 : BitVec 1 := Scalar.cmpi .slt v1558 c0_i32_1488
  let c0_i32_1489 : BitVec 32 := 0#32
  let v1561 : BitVec 1 := Scalar.cmpi .slt v1557 c0_i32_1489
  let v1562 : BitVec 1 := Scalar.xori v1560 v1561
  let c0_i32_1487 : BitVec 32 := 0#32
  let v1559 : BitVec 1 := Scalar.cmpi .ne v1558 c0_i32_1487
  let v1563 : BitVec 1 := Scalar.andi v1562 v1559
  let v1564 : BitVec 32 := Scalar.addi v1558 v1557
  let v1565 : BitVec 32 := Scalar.select v1563 v1564 v1558
  let c512_i32_1507 : BitVec 32 := 512#32
  let v1585 : BitVec 32 := Scalar.muli v1565 c512_i32_1507
  let c256_i32_1508 : BitVec 32 := 256#32
  let v1586 : BitVec 32 := Scalar.addi v1585 c256_i32_1508
  let c0_i32_1522 : BitVec 32 := 0#32
  ![v1586.toNat, 0]
def k0_dev40 (d0 : Dev nD) : Nat :=
  let c0_i32_1565 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1564 : BitVec 32 := 1#32
  let v1633 : BitVec 32 := Scalar.muli v13 c1_i32_1564
  let v1634 : BitVec 32 := Scalar.addi c0_i32_1565 v1633
  v1634.toNat
def k0_dev41 (d0 : Dev nD) : Nat :=
  let c0_i32_1568 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1567 : BitVec 32 := 1#32
  let v1635 : BitVec 32 := Scalar.muli v24 c1_i32_1567
  let v1636 : BitVec 32 := Scalar.addi c0_i32_1568 v1635
  v1636.toNat
def k0_dev42 (d0 : Dev nD) : Nat :=
  let c0_i32_1578 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1577 : BitVec 32 := 1#32
  let v1637 : BitVec 32 := Scalar.muli v24 c1_i32_1577
  let v1638 : BitVec 32 := Scalar.addi c0_i32_1578 v1637
  v1638.toNat
def k0_dev43 (d0 : Dev nD) : Nat :=
  let c0_i32_1588 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1587 : BitVec 32 := 1#32
  let v1647 : BitVec 32 := Scalar.muli v13 c1_i32_1587
  let v1648 : BitVec 32 := Scalar.addi c0_i32_1588 v1647
  v1648.toNat
def k0_dev44 (d0 : Dev nD) : Nat :=
  let c0_i32_1682 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1681 : BitVec 32 := 1#32
  let v1746 : BitVec 32 := Scalar.muli v13 c1_i32_1681
  let v1747 : BitVec 32 := Scalar.addi c0_i32_1682 v1746
  v1747.toNat
def k0_dev45 (d0 : Dev nD) : Nat :=
  let c0_i32_1685 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1684 : BitVec 32 := 1#32
  let v1748 : BitVec 32 := Scalar.muli v24 c1_i32_1684
  let v1749 : BitVec 32 := Scalar.addi c0_i32_1685 v1748
  v1749.toNat
def k0_dev46 (d0 : Dev nD) : Nat :=
  let c0_i32_1695 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1694 : BitVec 32 := 1#32
  let v1750 : BitVec 32 := Scalar.muli v24 c1_i32_1694
  let v1751 : BitVec 32 := Scalar.addi c0_i32_1695 v1750
  v1751.toNat
def k0_dev47 (d0 : Dev nD) : Nat :=
  let c0_i32_1705 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1704 : BitVec 32 := 1#32
  let v1760 : BitVec 32 := Scalar.muli v13 c1_i32_1704
  let v1761 : BitVec 32 := Scalar.addi c0_i32_1705 v1760
  v1761.toNat
def k0_dev48 (d0 : Dev nD) : Nat :=
  let c0_i32_1799 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1798 : BitVec 32 := 1#32
  let v1859 : BitVec 32 := Scalar.muli v13 c1_i32_1798
  let v1860 : BitVec 32 := Scalar.addi c0_i32_1799 v1859
  v1860.toNat
def k0_dev49 (d0 : Dev nD) : Nat :=
  let c0_i32_1802 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1801 : BitVec 32 := 1#32
  let v1861 : BitVec 32 := Scalar.muli v24 c1_i32_1801
  let v1862 : BitVec 32 := Scalar.addi c0_i32_1802 v1861
  v1862.toNat
def k0_dev50 (d0 : Dev nD) : Nat :=
  let c0_i32_1812 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1811 : BitVec 32 := 1#32
  let v1863 : BitVec 32 := Scalar.muli v24 c1_i32_1811
  let v1864 : BitVec 32 := Scalar.addi c0_i32_1812 v1863
  v1864.toNat
def k0_dev51 (d0 : Dev nD) : Nat :=
  let c0_i32_1822 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1821 : BitVec 32 := 1#32
  let v1873 : BitVec 32 := Scalar.muli v13 c1_i32_1821
  let v1874 : BitVec 32 := Scalar.addi c0_i32_1822 v1873
  v1874.toNat
def k0_dev52 (d0 : Dev nD) : Nat :=
  let c0_i32_1916 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1915 : BitVec 32 := 1#32
  let v1972 : BitVec 32 := Scalar.muli v13 c1_i32_1915
  let v1973 : BitVec 32 := Scalar.addi c0_i32_1916 v1972
  v1973.toNat
def k0_dev53 (d0 : Dev nD) : Nat :=
  let c0_i32_1919 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1918 : BitVec 32 := 1#32
  let v1974 : BitVec 32 := Scalar.muli v24 c1_i32_1918
  let v1975 : BitVec 32 := Scalar.addi c0_i32_1919 v1974
  v1975.toNat
def k0_dev54 (d0 : Dev nD) : Nat :=
  let c0_i32_1929 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1928 : BitVec 32 := 1#32
  let v1976 : BitVec 32 := Scalar.muli v24 c1_i32_1928
  let v1977 : BitVec 32 := Scalar.addi c0_i32_1929 v1976
  v1977.toNat
def k0_dev55 (d0 : Dev nD) : Nat :=
  let c0_i32_1939 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1938 : BitVec 32 := 1#32
  let v1986 : BitVec 32 := Scalar.muli v13 c1_i32_1938
  let v1987 : BitVec 32 := Scalar.addi c0_i32_1939 v1986
  v1987.toNat
def k0_dev56 (d0 : Dev nD) : Nat :=
  let c0_i32_2033 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2032 : BitVec 32 := 1#32
  let v2085 : BitVec 32 := Scalar.muli v13 c1_i32_2032
  let v2086 : BitVec 32 := Scalar.addi c0_i32_2033 v2085
  v2086.toNat
def k0_dev57 (d0 : Dev nD) : Nat :=
  let c0_i32_2036 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2035 : BitVec 32 := 1#32
  let v2087 : BitVec 32 := Scalar.muli v24 c1_i32_2035
  let v2088 : BitVec 32 := Scalar.addi c0_i32_2036 v2087
  v2088.toNat
def k0_dev58 (d0 : Dev nD) : Nat :=
  let c0_i32_2046 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2045 : BitVec 32 := 1#32
  let v2089 : BitVec 32 := Scalar.muli v24 c1_i32_2045
  let v2090 : BitVec 32 := Scalar.addi c0_i32_2046 v2089
  v2090.toNat
def k0_dev59 (d0 : Dev nD) : Nat :=
  let c0_i32_2056 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2055 : BitVec 32 := 1#32
  let v2099 : BitVec 32 := Scalar.muli v13 c1_i32_2055
  let v2100 : BitVec 32 := Scalar.addi c0_i32_2056 v2099
  v2100.toNat
-- ==== ReferenceIdeal.lean ====
abbrev S4096x4096 : Shape := ⟨2, ![4096, 4096]⟩
abbrev S4096x8192 : Shape := ⟨2, ![4096, 8192]⟩
abbrev S2048x8192 : Shape := ⟨2, ![2048, 8192]⟩
abbrev S8x2x8 : Shape := ⟨3, ![8, 2, 8]⟩
abbrev S_ : Shape := ⟨0, ![]⟩
abbrev S8x2x1x8x1 : Shape := ⟨5, ![8, 2, 1, 8, 1]⟩
abbrev S8x2x256x8x512 : Shape := ⟨5, ![8, 2, 256, 8, 512]⟩
abbrev S8x256x8192 : Shape := ⟨3, ![8, 256, 8192]⟩
abbrev S7x256x8192 : Shape := ⟨3, ![7, 256, 8192]⟩
abbrev S1x256x8192 : Shape := ⟨3, ![1, 256, 8192]⟩
abbrev S8x1x256x8192 : Shape := ⟨4, ![8, 1, 256, 8192]⟩
abbrev S8x2x256x8192 : Shape := ⟨4, ![8, 2, 256, 8192]⟩

abbrev nBuf : Space → Nat
  | .hbm => 66
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S2048x8192, .bf16⟩
  | .hbm, ⟨3, _⟩ => ⟨S2048x8192, .bf16⟩
  | .hbm, ⟨4, _⟩ => ⟨S8x2x8, .i32⟩
  | .hbm, ⟨5, _⟩ => ⟨S8x2x8, .i32⟩
  | .hbm, ⟨6, _⟩ => ⟨S8x2x8, .i32⟩
  | .hbm, ⟨7, _⟩ => ⟨S_, .i32⟩
  | .hbm, ⟨8, _⟩ => ⟨S8x2x8, .i32⟩
  | .hbm, ⟨9, _⟩ => ⟨S8x2x8, .i1⟩
  | .hbm, ⟨10, _⟩ => ⟨S8x2x8, .i32⟩
  | .hbm, ⟨11, _⟩ => ⟨S8x2x8, .i32⟩
  | .hbm, ⟨12, _⟩ => ⟨S8x2x8, .i32⟩
  | .hbm, ⟨13, _⟩ => ⟨S_, .i32⟩
  | .hbm, ⟨14, _⟩ => ⟨S8x2x8, .i32⟩
  | .hbm, ⟨15, _⟩ => ⟨S8x2x8, .i1⟩
  | .hbm, ⟨16, _⟩ => ⟨S_, .i32⟩
  | .hbm, ⟨17, _⟩ => ⟨S8x2x8, .i32⟩
  | .hbm, ⟨18, _⟩ => ⟨S8x2x8, .i1⟩
  | .hbm, ⟨19, _⟩ => ⟨S8x2x8, .i1⟩
  | .hbm, ⟨20, _⟩ => ⟨S_, .i32⟩
  | .hbm, ⟨21, _⟩ => ⟨S8x2x8, .i32⟩
  | .hbm, ⟨22, _⟩ => ⟨S8x2x8, .i1⟩
  | .hbm, ⟨23, _⟩ => ⟨S8x2x8, .i1⟩
  | .hbm, ⟨24, _⟩ => ⟨S8x2x1x8x1, .i1⟩
  | .hbm, ⟨25, _⟩ => ⟨S8x2x256x8x512, .f32⟩
  | .hbm, ⟨26, _⟩ => ⟨S_, .f32⟩
  | .hbm, ⟨27, _⟩ => ⟨S_, .f32⟩
  | .hbm, ⟨28, _⟩ => ⟨S8x2x256x8x512, .i1⟩
  | .hbm, ⟨29, _⟩ => ⟨S8x2x256x8x512, .f32⟩
  | .hbm, ⟨30, _⟩ => ⟨S8x2x256x8x512, .f32⟩
  | .hbm, ⟨31, _⟩ => ⟨S4096x4096, .f32⟩
  | .hbm, ⟨32, _⟩ => ⟨S2048x8192, .f32⟩
  | .hbm, ⟨33, _⟩ => ⟨S8x256x8192, .f32⟩
  | .hbm, ⟨34, _⟩ => ⟨S2048x8192, .f32⟩
  | .hbm, ⟨35, _⟩ => ⟨S8x256x8192, .f32⟩
  | .hbm, ⟨36, _⟩ => ⟨S7x256x8192, .f32⟩
  | .hbm, ⟨37, _⟩ => ⟨S1x256x8192, .f32⟩
  | .hbm, ⟨38, _⟩ => ⟨S8x256x8192, .f32⟩
  | .hbm, ⟨39, _⟩ => ⟨S1x256x8192, .f32⟩
  | .hbm, ⟨40, _⟩ => ⟨S7x256x8192, .f32⟩
  | .hbm, ⟨41, _⟩ => ⟨S8x256x8192, .f32⟩
  | .hbm, ⟨42, _⟩ => ⟨S8x1x256x8192, .f32⟩
  | .hbm, ⟨43, _⟩ => ⟨S8x1x256x8192, .f32⟩
  | .hbm, ⟨44, _⟩ => ⟨S8x2x256x8192, .f32⟩
  | .hbm, ⟨45, _⟩ => ⟨S4096x8192, .f32⟩
  | .hbm, ⟨46, _⟩ => ⟨S4096x8192, .f32⟩
  | .hbm, ⟨47, _⟩ => ⟨S4096x8192, .f32⟩
  | .hbm, ⟨48, _⟩ => ⟨S4096x8192, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S4096x8192, .f32⟩
  | .hbm, ⟨54, _⟩ => ⟨S4096x8192, .f32⟩
  | .hbm, ⟨55, _⟩ => ⟨S4096x8192, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S4096x8192, .f32⟩
  | .hbm, ⟨60, _⟩ => ⟨S4096x8192, .f32⟩
  | .hbm, ⟨61, _⟩ => ⟨S_, .f32⟩
  | .hbm, ⟨62, _⟩ => ⟨S4096x8192, .f32⟩
  | .hbm, ⟨63, _⟩ => ⟨S4096x8192, .f32⟩
  | .hbm, ⟨64, _⟩ => ⟨S4096x8192, .f32⟩
  | .hbm, ⟨65, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_3 : Ref sig .tc := ⟨.hbm, 49, rfl⟩
abbrev main_v37 : Ref sig .tc := ⟨.hbm, 50, rfl⟩
abbrev main_cst_4 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_5 : Ref sig .tc := ⟨.hbm, 56, rfl⟩
abbrev main_cst_6 : Ref sig .tc := ⟨.hbm, 57, rfl⟩
abbrev main_call3_v0 : Ref sig .tc := ⟨.hbm, 58, rfl⟩
abbrev main_call3_v1 : Ref sig .tc := ⟨.hbm, 59, rfl⟩
abbrev main_call3_v2 : Ref sig .tc := ⟨.hbm, 60, rfl⟩
abbrev main_call3_v3 : Ref sig .tc := ⟨.hbm, 61, rfl⟩
abbrev main_call3_v4 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩

abbrev nD : Nat := 1
abbrev τ : Topo := Topo.v7x

variable {F : FTy → Type} [FloatOps F]
-- ==== Proof.Steps.lean ====
/-
  The kernel's body, written as the composition of the pieces it repeats: the barrier, the load of the weights, the
  seeding of the two accumulators, one reduce-scatter step, one hop of the scalar ring, the quantiser, one all-gather
  step, the tail. Each piece is a program over the call's own buffers and semaphores with the step's slots, devices and
  offsets as parameters, and `body_eq` says that the printed body IS their composition. The proofs about the body are
  then made once per piece.
-/
module

public import proofs.«01_k».proof.Defs
public import proofs.«01_k».proof.Proof.Gen.KernelIdeal
public import proofs.«01_k».proof.Proof.Gen.KernelIdeal.Skeleton

@[expose] public section

set_option maxRecDepth 16384

noncomputable section

namespace Cert.Proof

open Cert.KernelIdeal Cert.KernelIdeal.Gen
open Idealize.ShloMosaic Idealize.ShloMosaic.TcCoe Idealize.SL.Sem

variable {F : FTy → Type} [FloatOps F]

/-! ## The buffers -/

/-- The arguments and the result of the call. -/
abbrev xA : Memref sig .tc .hbm S4096x512 .f32 := Memref.whole main_arg0
abbrev wA : Memref sig .tc .hbm S512x8192 .f32 := Memref.whole main_arg1
abbrev outA : Memref sig .tc .hbm S4096x8192 .f32 := Memref.whole main_v1
/-- The seed of the accumulator of direction `d` (`false`: the ring to the right, half A; `true`: to the left, half B). -/
abbrev accA (d : Bool) : Memref sig .tc .hbm S256x8192 .bf16 := match d with | false => Memref.whole main_arg2 | true => Memref.whole main_arg3
/-- The two slots of the bf16 partial sums of direction `d`, -/
abbrev commM (d : Bool) : Memref sig .tc .vmem S2x256x8192 .bf16 := match d with | false => Memref.whole cc0_scratch0 | true => Memref.whole cc0_scratch1
/-- the two slots of its quantised blocks, -/
abbrev qM (d : Bool) : Memref sig .tc .vmem S2x256x8192 .i8 := match d with | false => Memref.whole cc0_scratch2 | true => Memref.whole cc0_scratch3
/-- the weights in bf16, -/
abbrev wM : Memref sig .tc .vmem S512x8192 .bf16 := Memref.whole cc0_scratch4
/-- the block of `x` of direction `d`, -/
abbrev xM (d : Bool) : Memref sig .tc .vmem S256x512 .f32 := match d with | false => Memref.whole cc0_scratch5 | true => Memref.whole cc0_scratch6
/-- the staging slots of the loads and of the stores, -/
abbrev stM : Memref sig .tc .vmem S2x256x8192 .f32 := Memref.whole cc0_scratch7
/-- and the two buffers of the scalar ring. -/
abbrev ssM : Memref sig .tc .vmem S1x128 .f32 := Memref.whole cc0_scratch8
abbrev srM : Memref sig .tc .vmem S7x1x128 .f32 := Memref.whole cc0_scratch9

theorem comm_whole (d : Bool) : (commM d).IsWhole := by cases d <;> exact Memref.isWhole_whole _
theorem q_whole (d : Bool) : (qM d).IsWhole := by cases d <;> exact Memref.isWhole_whole _
theorem x_whole (d : Bool) : (xM d).IsWhole := by cases d <;> exact Memref.isWhole_whole _
theorem acc_whole (d : Bool) : (accA d).IsWhole := by cases d <;> exact Memref.isWhole_whole _

/-! ## The slots and strips -/

/-- Slot `s` of a two-slot buffer: all of it, -/
theorem slot_inb (s : Fin 2) : ∀ a, (![s.val, 0, 0] : Fin 3 → Nat) a + S1x256x8192.size a ≤ S2x256x8192.size a := by
  revert s; decide
abbrev slotR (s : Fin 2) : Rect S2x256x8192 := Rect.unit (s := S2x256x8192) ![s.val, 0, 0] S1x256x8192.size (slot_inb s)
/-- and its `k`-th strip of 2048 columns. -/
theorem strip_inb (s : Fin 2) (k : Fin 4) : ∀ a, (![s.val, 0, 2048 * k.val] : Fin 3 → Nat) a + S1x256x2048.size a ≤ S2x256x8192.size a := by
  revert s k; decide
abbrev stripR (s : Fin 2) (k : Fin 4) : Rect S2x256x8192 :=
  Rect.unit (s := S2x256x8192) ![s.val, 0, 2048 * k.val] S1x256x2048.size (strip_inb s k)
theorem wstrip_inb (k : Fin 4) : ∀ a, (![0, 2048 * k.val] : Fin 2 → Nat) a + S512x2048.size a ≤ S512x8192.size a := by
  revert k; decide
abbrev wstripR (k : Fin 4) : Rect S512x8192 := Rect.unit (s := S512x8192) ![0, 2048 * k.val] S512x2048.size (wstrip_inb k)
theorem whalf_inb (h : Fin 2) : ∀ a, (![256 * h.val, 0] : Fin 2 → Nat) a + S256x8192.size a ≤ S512x8192.size a := by
  revert h; decide
abbrev whalfR (h : Fin 2) : Rect S512x8192 := Rect.unit (s := S512x8192) ![256 * h.val, 0] S256x8192.size (whalf_inb h)
theorem sr_inb (h : Fin 7) : ∀ a, (![h.val, 0, 0] : Fin 3 → Nat) a + S1x1x128.size a ≤ S7x1x128.size a := by
  revert h; decide
theorem sr1_inb (h : Fin 7) : ∀ a, (![h.val, 0, 0] : Fin 3 → Nat) a + S1x1x1.size a ≤ S7x1x128.size a := by
  revert h; decide

/-- The slot as the memref the copies name. -/
abbrev slot {e : EltTy} (m : Memref sig .tc .vmem S2x256x8192 e) (s : Fin 2) : Memref sig .tc .vmem S256x8192 e :=
  (m.slice (slotR s) (fun _ => rfl)).squeeze S256x8192 squeezes_S1x256x8192_S256x8192
/-- The row of the scalar ring's receive buffer that hop `h` lands in. -/
abbrev srow (h : Fin 7) : Memref sig .tc .vmem S1x128 .f32 :=
  (srM.slice (Rect.unit (s := S7x1x128) ![h.val, 0, 0] S1x1x128.size (sr_inb h)) (fun _ => rfl)).squeeze S1x128 squeezes_S1x1x128_S1x128

theorem wholeWords_bf16 (s : Fin 2) : (slotR s).WholeWords (EltTy.packing .bf16) := by
  match s with
  | 0 => exact wordsbf16_S2x256x8192_S1x256x8192_0_0_0
  | 1 => exact wordsbf16_S2x256x8192_S1x256x8192_1_0_0
theorem wholeWords_i8 (s : Fin 2) : (slotR s).WholeWords (EltTy.packing .i8) := by
  match s with
  | 0 => exact wordsi8_S2x256x8192_S1x256x8192_0_0_0
  | 1 => exact wordsi8_S2x256x8192_S1x256x8192_1_0_0
theorem comm_exact (d : Bool) (s : Fin 2) : (slot (commM d) s).view.WordExact :=
  ((comm_whole d).wordExact_slice rfl _ (wholeWords_bf16 s)).reshape _ _
theorem q_exact (d : Bool) (s : Fin 2) : (slot (qM d) s).view.WordExact :=
  ((q_whole d).wordExact_slice rfl _ (wholeWords_i8 s)).reshape _ _
theorem packed_strip (s : Fin 2) (k : Fin 4) : (stripR s k).PackedRows (EltTy.packing .bf16) := by
  match s, k with
  | 0, 0 => exact packedbf16_S2x256x8192_S1x256x2048_0_0_0
  | 0, 1 => exact packedbf16_S2x256x8192_S1x256x2048_0_0_2048
  | 0, 2 => exact packedbf16_S2x256x8192_S1x256x2048_0_0_4096
  | 0, 3 => exact packedbf16_S2x256x8192_S1x256x2048_0_0_6144
  | 1, 0 => exact packedbf16_S2x256x8192_S1x256x2048_1_0_0
  | 1, 1 => exact packedbf16_S2x256x8192_S1x256x2048_1_0_2048
  | 1, 2 => exact packedbf16_S2x256x8192_S1x256x2048_1_0_4096
  | 1, 3 => exact packedbf16_S2x256x8192_S1x256x2048_1_0_6144
theorem packed_whalf (h : Fin 2) : (whalfR h).PackedRows (EltTy.packing .bf16) := by
  match h with
  | 0 => exact packedbf16_S512x8192_S256x8192_0_0
  | 1 => exact packedbf16_S512x8192_S256x8192_256_0

/-! ## The semaphores -/

abbrev sendSem (d : Bool) (s : Fin 2) : DmaSem sig :=
  (((match d with | false => cc0_scratch10 | true => cc0_scratch12 : DmaSems sig S2).slice (Rect.unit (s := S2) ![s.val] S1.size (by revert s; decide))).squeeze S_ squeezes_S1_S_).sem
abbrev recvSem (d : Bool) (s : Fin 2) : DmaSem sig :=
  (((match d with | false => cc0_scratch11 | true => cc0_scratch13 : DmaSems sig S2).slice (Rect.unit (s := S2) ![s.val] S1.size (by revert s; decide))).squeeze S_ squeezes_S1_S_).sem
abbrev copySem (s : Fin 2) : DmaSem sig :=
  ((cc0_scratch14.slice (Rect.unit (s := S2) ![s.val] S1.size (by revert s; decide))).squeeze S_ squeezes_S1_S_).sem
abbrev storeSem (d : Bool) : DmaSem sig :=
  (((match d with | false => cc0_scratch15 | true => cc0_scratch16 : DmaSems sig S2).slice (Rect.unit (s := S2) ![0] S1.size (by decide))).squeeze S_ squeezes_S1_S_).sem
abbrev ssendSem (h : Fin 7) : DmaSem sig :=
  ((cc0_scratch17.slice (Rect.unit (s := S7) ![h.val] S1.size (by revert h; decide))).squeeze S_ squeezes_S1_S_).sem
abbrev srecvSem (h : Fin 7) : DmaSem sig :=
  ((cc0_scratch18.slice (Rect.unit (s := S7) ![h.val] S1.size (by revert h; decide))).squeeze S_ squeezes_S1_S_).sem
abbrev creditSem (d : Bool) : Sem sig := (match d with | false => cc0_scratch19 | true => cc0_scratch20 : Sems sig S_).sem
abbrev barSem : Sem sig := (SemArray.scalar (sig.barrier 0 rfl) : Sems sig S_).sem

/-- The programs of the body. -/
abbrev Pg (F : FTy → Type) [FloatOps F] (α : Type) : Type 1 := Prog (TpuEff nD τ sig (Elt F) Λ₀ .tc) α

/-! ## The pieces -/

def barrierP (dL dR : Dev nD) : Pg F PUnit := do
  semSignalWord dL barSem 1#32
  semSignalWord dR barSem 1#32
  semWaitWord barSem 2#32

/-- The copies of the two halves of the weights into the two staging slots, each cast into its half of `wM`. -/
abbrev wSrc (h : Fin 2) : Memref sig .tc .hbm S256x8192 .f32 := wA.slice (whalfR h) (fun _ => rfl)
def wStart (h : Fin 2) : Pg F PUnit :=
  Prog.lift (.enqueueDma (wSrc h) (.here (slot stM h)) (.dma (copySem h)) (View.wordExact_bits rfl) ((View.wordExact_bits rfl).reshape _ _) ⟨Or.inl rfl, trivial⟩)
def wCast (h : Fin 2) : Pg F PUnit := do
  Prog.lift (.waitDma2 (copySem h) (wSrc h) (slot stM h) (View.wordExact_bits rfl) ((View.wordExact_bits rfl).reshape _ _))
  let v : Vec F S1x256x8192 .f32 ← Prog.lift (.load stM (slotR h).toLoadRect (View.loadsAt_vmem h_S1x256x8192))
  let _ : Vec F S256x8192 .bf16 ← Prog.lift (.load wM (whalfR h).toLoadRect (View.loadsAt_vmem h_S256x8192))
  Prog.lift (.store wM (whalfR h) (k0_pay1 v) Finset.univ (View.stores_vmem h_S256x8192 ((Memref.isWhole_whole _).storeExact_slice rfl _ (packed_whalf h)) (fun _ => rfl)) (.inl rfl))

/-- The copy of the seed of direction `d` into slot 1 of its accumulator. -/
abbrev seedSem (d : Bool) : DmaSem sig := copySem (match d with | false => 0 | true => 1)
def seedStart (d : Bool) : Pg F PUnit :=
  Prog.lift (.enqueueDma (accA d) (.here (slot (commM d) 1)) (.dma (seedSem d)) (acc_whole d).wordExact (comm_exact d 1) ⟨Or.inl rfl, trivial⟩)
def seedWait (d : Bool) : Pg F PUnit :=
  Prog.lift (.waitDma2 (seedSem d) (accA d) (slot (commM d) 1) (acc_whole d).wordExact (comm_exact d 1))

/-- The remote copy of slot `s` into slot `r` of device `dev`, and the two waits for it and for the one that arrives. -/
def sendComm (d : Bool) (s r : Fin 2) (dev : Dev nD) : Pg F PUnit :=
  Prog.lift (.enqueueDma (slot (commM d) s) (.remote (Dev.tc dev) (slot (commM d) r) (.dma (sendSem d s)) (by cases d <;> rfl)) (.dma (recvSem d r)) (comm_exact d s) (comm_exact d r) ⟨⟨rfl, Or.inl rfl⟩, trivial⟩)
def waitComm (d : Bool) (s r : Fin 2) : Pg F PUnit := do
  Prog.lift (.waitDma2 (sendSem d s) (slot (commM d) r) (slot (commM d) s) (comm_exact d r) (comm_exact d s))
  Prog.lift (.waitDma2 (recvSem d r) (slot (commM d) s) (slot (commM d) r) (comm_exact d s) (comm_exact d r))
def sendQ (d : Bool) (s r : Fin 2) (dev : Dev nD) : Pg F PUnit :=
  Prog.lift (.enqueueDma (slot (qM d) s) (.remote (Dev.tc dev) (slot (qM d) r) (.dma (sendSem d s)) (by cases d <;> rfl)) (.dma (recvSem d r)) (q_exact d s) (q_exact d r) ⟨⟨rfl, Or.inl rfl⟩, trivial⟩)
def waitQ (d : Bool) (s r : Fin 2) : Pg F PUnit := do
  Prog.lift (.waitDma2 (sendSem d s) (slot (qM d) r) (slot (qM d) s) (q_exact d r) (q_exact d s))
  Prog.lift (.waitDma2 (recvSem d r) (slot (qM d) s) (slot (qM d) r) (q_exact d s) (q_exact d r))

/-- The waits for both credits, the signals of both. -/
def creditWait : Pg F PUnit := do
  semWaitWord (creditSem false) 1#32
  semWaitWord (creditSem true) 1#32
def creditSignal (dL dR : Dev nD) : Pg F PUnit := do
  semSignalWord dL (creditSem false) 1#32
  semSignalWord dR (creditSem true) 1#32

/-- The load of a block of 256 rows of `x`. -/
abbrev xSrc (off : Fin 2 → Nat) (inb : ∀ a, off a + S256x512.size a ≤ S4096x512.size a) : Memref sig .tc .hbm S256x512 .f32 :=
  xA.slice (Rect.unit (s := S4096x512) off S256x512.size inb) (fun _ => rfl)
def xStart (d : Bool) (off : Fin 2 → Nat) (inb : ∀ a, off a + S256x512.size a ≤ S4096x512.size a) : Pg F PUnit :=
  Prog.lift (.enqueueDma (xSrc off inb) (.here (xM d)) (.dma (seedSem d)) (View.wordExact_bits rfl) (x_whole d).wordExact ⟨Or.inl rfl, trivial⟩)
def xWait (d : Bool) (off : Fin 2 → Nat) (inb : ∀ a, off a + S256x512.size a ≤ S4096x512.size a) : Pg F PUnit :=
  Prog.lift (.waitDma2 (seedSem d) (xSrc off inb) (xM d) (View.wordExact_bits rfl) (x_whole d).wordExact)

/-- One strip of the product added to slot `r` of the accumulator, -/
def strip (d : Bool) (r : Fin 2) (k : Fin 4) : Pg F PUnit := do
  let c : Vec F S1x256x2048 .bf16 ← Prog.lift (.load (commM d) (stripR r k).toLoadRect (View.loadsAt_vmem h_S1x256x2048))
  let x : Vec F S256x512 .f32 ← Prog.lift (.load (xM d) (Rect.unit (s := S256x512) ![0, 0] S256x512.size inb_S256x512_S256x512_0_0).toLoadRect (View.loadsAt_vmem h_S256x512))
  let w : Vec F S512x2048 .bf16 ← Prog.lift (.load wM (wstripR k).toLoadRect (View.loadsAt_vmem h_S512x2048))
  let _ : Vec F S1x256x2048 .bf16 ← Prog.lift (.load (commM d) (stripR r k).toLoadRect (View.loadsAt_vmem h_S1x256x2048))
  Prog.lift (.store (commM d) (stripR r k) (k0_pay5 c x w) Finset.univ (View.stores_vmem h_S1x256x2048 ((comm_whole d).storeExact_slice rfl _ (packed_strip r k)) (fun _ => rfl)) (.inl rfl))
/-- and all four. -/
def strips (d : Bool) (r : Fin 2) : Pg F PUnit := do
  strip d r 0
  strip d r 1
  strip d r 2
  strip d r 3

/-- The devices a step names: where its two copies go, and where its two signals go. -/
structure Devs where
  sA : Dev nD
  sB : Dev nD
  gA : Dev nD
  gB : Dev nD

/-- One reduce-scatter step: the copies of slot `s` into slot `r` of the neighbours, the loads of `x` under them, then
    the product added to what arrived. -/
def rsTail (s r : Fin 2) (D : Devs) (o1 : Fin 2 → Nat) (i1 : ∀ a, o1 a + S256x512.size a ≤ S4096x512.size a)
    (o2 : Fin 2 → Nat) (i2 : ∀ a, o2 a + S256x512.size a ≤ S4096x512.size a) : Pg F PUnit := do
  sendComm false s r D.sA
  sendComm true s r D.sB
  xStart false o1 i1
  xStart true o2 i2
  waitComm false s r
  waitComm true s r
  creditSignal D.gA D.gB
  xWait false o1 i1
  strips false r
  xWait true o2 i2
  strips true r

/-- The maximum of the two accumulators' absolute values. -/
def amaxP : Pg F (F .f32) := do
  let a : Vec F S1x256x8192 .bf16 ← Prog.lift (.load (commM false) (slotR 1).toLoadRect (View.loadsAt_vmem h_S1x256x8192))
  let b : Vec F S1x256x8192 .bf16 ← Prog.lift (.load (commM true) (slotR 1).toLoadRect (View.loadsAt_vmem h_S1x256x8192))
  pure (k0_pay71 (k0_pay70 a) b)

/-- A row of one value. -/
def bcS (v : F .f32) : FVec F S1x128 .f32 := shapeCast S1x128 (broadcast S1x128 v) shapeCasts_S1x128_S1x128

/-- One hop of the scalar ring: `v` sent to the right in every lane, and the value that arrives from the left. -/
def hopP (h : Fin 7) (dev : Dev nD) (v : F .f32) : Pg F (Vec F S1x1x1 .f32) := do
  let _ : Vec F S1x128 .f32 ← Prog.lift (.load ssM (Rect.unit (s := S1x128) ![0, 0] S1x128.size inb_S1x128_S1x128_0_0).toLoadRect (View.loadsAt_vmem h_S1x128))
  Prog.lift (.store ssM (Rect.unit (s := S1x128) ![0, 0] S1x128.size inb_S1x128_S1x128_0_0) (bcS v) Finset.univ (View.stores_vmem_bits_univ h_S1x128 rfl) (.inl rfl))
  Prog.lift (.enqueueDma ssM (.remote (Dev.tc dev) (srow h) (.dma (ssendSem h))) (.dma (srecvSem h)) (Memref.isWhole_whole _).wordExact ((View.wordExact_bits rfl).reshape _ _) ⟨⟨rfl, Or.inl rfl⟩, trivial⟩)
  Prog.lift (.waitDma2 (ssendSem h) (srow h) ssM ((View.wordExact_bits rfl).reshape _ _) (Memref.isWhole_whole _).wordExact)
  Prog.lift (.waitDma2 (srecvSem h) ssM (srow h) (Memref.isWhole_whole _).wordExact ((View.wordExact_bits rfl).reshape _ _))
  Prog.lift (.load srM (Rect.unit (s := S7x1x128) ![h.val, 0, 0] S1x1x1.size (sr1_inb h)).toLoadRect (View.loadsAt_vmem h_S1x1x1))

/-- The quantiser on slot 1 of the accumulator of direction `d`. -/
theorem packed_slot_i8 (s : Fin 2) : (slotR s).PackedRows (EltTy.packing .i8) := by
  match s with
  | 0 => decide
  | 1 => exact packedi8_S2x256x8192_S1x256x8192_1_0_0
def quantP (d : Bool) (sc : F .f32) : Pg F PUnit := do
  let v : Vec F S1x256x8192 .bf16 ← Prog.lift (.load (commM d) (slotR 1).toLoadRect (View.loadsAt_vmem h_S1x256x8192))
  let _ : Vec F S1x256x8192 .i8 ← Prog.lift (.load (qM d) (slotR 1).toLoadRect (View.loadsAt_vmem h_S1x256x8192))
  Prog.lift (.store (qM d) (slotR 1) (k0_pay88 sc v) Finset.univ (View.stores_vmem h_S1x256x8192 ((q_whole d).storeExact_slice rfl _ (packed_slot_i8 1)) (fun _ => rfl)) (.inl rfl))

/-- The staging slot of direction `d`, and the rows of the result. -/
abbrev stSlot (d : Bool) : Fin 2 := match d with | false => 0 | true => 1
abbrev oDst (off : Fin 2 → Nat) (inb : ∀ a, off a + S256x8192.size a ≤ S4096x8192.size a) : Memref sig .tc .hbm S256x8192 .f32 :=
  outA.slice (Rect.unit (s := S4096x8192) off S256x8192.size inb) (fun _ => rfl)
/-- Slot `s` of the quantised blocks dequantised into the staging slot and copied to the rows of the result at `off`; the
    wait for that copy. -/
def deqP (d : Bool) (s : Fin 2) (sc : F .f32) (off : Fin 2 → Nat) (inb : ∀ a, off a + S256x8192.size a ≤ S4096x8192.size a) : Pg F PUnit := do
  let v : Vec F S1x256x8192 .i8 ← Prog.lift (.load (qM d) (slotR s).toLoadRect (View.loadsAt_vmem h_S1x256x8192))
  let _ : Vec F S1x256x8192 .f32 ← Prog.lift (.load stM (slotR (stSlot d)).toLoadRect (View.loadsAt_vmem h_S1x256x8192))
  Prog.lift (.store stM (slotR (stSlot d)) (k0_pay91 sc v) Finset.univ (View.stores_vmem_bits_univ h_S1x256x8192 rfl) (.inl rfl))
  Prog.lift (.enqueueDma (slot stM (stSlot d)) (.here (oDst off inb)) (.dma (storeSem d)) ((View.wordExact_bits rfl).reshape _ _) (View.wordExact_bits rfl) ⟨Or.inl rfl, trivial⟩)
def deqWait (d : Bool) (off : Fin 2 → Nat) (inb : ∀ a, off a + S256x8192.size a ≤ S4096x8192.size a) : Pg F PUnit :=
  Prog.lift (.waitDma2 (storeSem d) (slot stM (stSlot d)) (oDst off inb) ((View.wordExact_bits rfl).reshape _ _) (View.wordExact_bits rfl))

/-- Rows of the result: an offset and that it is in bounds. -/
structure Off where
  off : Fin 2 → Nat
  inb : ∀ a, off a + S256x8192.size a ≤ S4096x8192.size a

def agSend (s r : Fin 2) (D : Devs) : Pg F PUnit := do
  creditWait
  sendQ false s r D.sA
  sendQ true s r D.sB
def agWait (s r : Fin 2) : Pg F PUnit := do
  waitQ false s r
  waitQ true s r
def deqNext (s : Fin 2) (sc : F .f32) (pA nA pB nB : Off) : Pg F PUnit := do
  deqWait false pA.off pA.inb
  deqP false s sc nA.off nA.inb
  deqWait true pB.off pB.inb
  deqP true s sc nB.off nB.inb
/-- The first all-gather step, a middle one, the last. -/
def agFirst (s r : Fin 2) (D : Devs) (sc : F .f32) (nA nB : Off) : Pg F PUnit := do
  agSend s r D
  deqP false s sc nA.off nA.inb
  deqP true s sc nB.off nB.inb
  agWait s r
  creditSignal D.gA D.gB
def agMid (s r : Fin 2) (D : Devs) (sc : F .f32) (pA nA pB nB : Off) : Pg F PUnit := do
  agSend s r D
  deqNext s sc pA nA pB nB
  agWait s r
  creditSignal D.gA D.gB
def agLast (s r : Fin 2) (D : Devs) (sc : F .f32) (pA nA pB nB : Off) : Pg F PUnit := do
  agSend s r D
  deqNext s sc pA nA pB nB
  agWait s r

/-! ## The body -/

def rs1 (c : Dev nD) : Pg F PUnit :=
  rsTail 1 0 ⟨⟨k0_dev3 c, k0_dev3_lt c⟩, ⟨k0_dev4 c, k0_dev4_lt c⟩, ⟨k0_dev5 c, k0_dev5_lt c⟩, ⟨k0_dev6 c, k0_dev6_lt c⟩⟩
    (k0_off1 c 1#32) (k0_off1_inb c 0) (k0_off2 c 1#32) (k0_off2_inb c 0)
def rs2 (c : Dev nD) : Pg F PUnit := do
  creditWait
  rsTail 0 1 ⟨⟨k0_dev7 c, k0_dev7_lt c⟩, ⟨k0_dev8 c, k0_dev8_lt c⟩, ⟨k0_dev9 c, k0_dev9_lt c⟩, ⟨k0_dev10 c, k0_dev10_lt c⟩⟩
    (k0_off1 c 2#32) (k0_off1_inb c 1) (k0_off2 c 2#32) (k0_off2_inb c 1)
def rs3 (c : Dev nD) : Pg F PUnit := do
  creditWait
  rsTail 1 0 ⟨⟨k0_dev11 c, k0_dev11_lt c⟩, ⟨k0_dev12 c, k0_dev12_lt c⟩, ⟨k0_dev13 c, k0_dev13_lt c⟩, ⟨k0_dev14 c, k0_dev14_lt c⟩⟩
    (k0_off1 c 3#32) (k0_off1_inb c 2) (k0_off2 c 3#32) (k0_off2_inb c 2)
def rs4 (c : Dev nD) : Pg F PUnit := do
  creditWait
  rsTail 0 1 ⟨⟨k0_dev15 c, k0_dev15_lt c⟩, ⟨k0_dev16 c, k0_dev16_lt c⟩, ⟨k0_dev17 c, k0_dev17_lt c⟩, ⟨k0_dev18 c, k0_dev18_lt c⟩⟩
    (k0_off1 c 4#32) (k0_off1_inb c 3) (k0_off2 c 4#32) (k0_off2_inb c 3)
def rs5 (c : Dev nD) : Pg F PUnit := do
  creditWait
  rsTail 1 0 ⟨⟨k0_dev19 c, k0_dev19_lt c⟩, ⟨k0_dev20 c, k0_dev20_lt c⟩, ⟨k0_dev21 c, k0_dev21_lt c⟩, ⟨k0_dev22 c, k0_dev22_lt c⟩⟩
    (k0_off1 c 5#32) (k0_off1_inb c 4) (k0_off2 c 5#32) (k0_off2_inb c 4)
def rs6 (c : Dev nD) : Pg F PUnit := do
  creditWait
  rsTail 0 1 ⟨⟨k0_dev23 c, k0_dev23_lt c⟩, ⟨k0_dev24 c, k0_dev24_lt c⟩, ⟨k0_dev25 c, k0_dev25_lt c⟩, ⟨k0_dev26 c, k0_dev26_lt c⟩⟩
    (k0_off1 c 6#32) (k0_off1_inb c 5) (k0_off2 c 6#32) (k0_off2_inb c 5)

/-- From the start to the end of the reduce-scatter. -/
def headP (c : Dev nD) : Pg F PUnit := do
  barrierP ⟨k0_dev1 c, k0_dev1_lt c⟩ ⟨k0_dev2 c, k0_dev2_lt c⟩
  wStart 0
  wStart 1
  wCast 0
  wCast 1
  seedStart false
  seedStart true
  seedWait false
  seedWait true
  rs1 c
  rs2 c
  rs3 c
  rs4 c
  rs5 c
  rs6 c

/-- The scalar ring: the scale. -/
def scaleP (c : Dev nD) : Pg F (F .f32) := do
  let v0 ← amaxP
  let l0 ← hopP 0 ⟨k0_dev27 c, k0_dev27_lt c⟩ v0
  let l1 ← hopP 1 ⟨k0_dev28 c, k0_dev28_lt c⟩ (k0_pay73 v0 l0)
  let l2 ← hopP 2 ⟨k0_dev29 c, k0_dev29_lt c⟩ (k0_pay73 (k0_pay73 v0 l0) l1)
  let l3 ← hopP 3 ⟨k0_dev30 c, k0_dev30_lt c⟩ (k0_pay73 (k0_pay73 (k0_pay73 v0 l0) l1) l2)
  let l4 ← hopP 4 ⟨k0_dev31 c, k0_dev31_lt c⟩ (k0_pay73 (k0_pay73 (k0_pay73 (k0_pay73 v0 l0) l1) l2) l3)
  let l5 ← hopP 5 ⟨k0_dev32 c, k0_dev32_lt c⟩ (k0_pay73 (k0_pay73 (k0_pay73 (k0_pay73 (k0_pay73 v0 l0) l1) l2) l3) l4)
  let l6 ← hopP 6 ⟨k0_dev33 c, k0_dev33_lt c⟩ (k0_pay73 (k0_pay73 (k0_pay73 (k0_pay73 (k0_pay73 (k0_pay73 v0 l0) l1) l2) l3) l4) l5)
  pure (k0_pay86 (k0_pay73 (k0_pay73 (k0_pay73 (k0_pay73 (k0_pay73 (k0_pay73 v0 l0) l1) l2) l3) l4) l5) l6)

/-- The rows of the result each block goes to. -/
abbrev oA0 (c : Dev nD) : Off := ⟨k0_off3 c, k0_off3_inb c⟩
abbrev oB0 (c : Dev nD) : Off := ⟨k0_off4 c, k0_off4_inb c⟩
abbrev oA (c : Dev nD) (h : Fin 7) : Off := ⟨k0_off5 c (BitVec.ofNat 32 h.val), k0_off5_inb c h⟩
abbrev oB (c : Dev nD) (h : Fin 7) : Off := ⟨k0_off6 c (BitVec.ofNat 32 h.val), k0_off6_inb c h⟩

/-- The all-gather. -/
def gatherP (c : Dev nD) (sc : F .f32) : Pg F PUnit := do
  quantP false sc
  quantP true sc
  agFirst 1 0 ⟨⟨k0_dev34 c, k0_dev34_lt c⟩, ⟨k0_dev35 c, k0_dev35_lt c⟩, ⟨k0_dev36 c, k0_dev36_lt c⟩, ⟨k0_dev37 c, k0_dev37_lt c⟩⟩ sc (oA0 c) (oB0 c)
  agMid 0 1 ⟨⟨k0_dev38 c, k0_dev38_lt c⟩, ⟨k0_dev39 c, k0_dev39_lt c⟩, ⟨k0_dev40 c, k0_dev40_lt c⟩, ⟨k0_dev41 c, k0_dev41_lt c⟩⟩ sc (oA0 c) (oA c 0) (oB0 c) (oB c 0)
  agMid 1 0 ⟨⟨k0_dev42 c, k0_dev42_lt c⟩, ⟨k0_dev43 c, k0_dev43_lt c⟩, ⟨k0_dev44 c, k0_dev44_lt c⟩, ⟨k0_dev45 c, k0_dev45_lt c⟩⟩ sc (oA c 0) (oA c 1) (oB c 0) (oB c 1)
  agMid 0 1 ⟨⟨k0_dev46 c, k0_dev46_lt c⟩, ⟨k0_dev47 c, k0_dev47_lt c⟩, ⟨k0_dev48 c, k0_dev48_lt c⟩, ⟨k0_dev49 c, k0_dev49_lt c⟩⟩ sc (oA c 1) (oA c 2) (oB c 1) (oB c 2)
  agMid 1 0 ⟨⟨k0_dev50 c, k0_dev50_lt c⟩, ⟨k0_dev51 c, k0_dev51_lt c⟩, ⟨k0_dev52 c, k0_dev52_lt c⟩, ⟨k0_dev53 c, k0_dev53_lt c⟩⟩ sc (oA c 2) (oA c 3) (oB c 2) (oB c 3)
  agMid 0 1 ⟨⟨k0_dev54 c, k0_dev54_lt c⟩, ⟨k0_dev55 c, k0_dev55_lt c⟩, ⟨k0_dev56 c, k0_dev56_lt c⟩, ⟨k0_dev57 c, k0_dev57_lt c⟩⟩ sc (oA c 3) (oA c 4) (oB c 3) (oB c 4)
  agLast 1 0 ⟨⟨k0_dev58 c, k0_dev58_lt c⟩, ⟨k0_dev59 c, k0_dev59_lt c⟩, c, c⟩ sc (oA c 4) (oA c 5) (oB c 4) (oB c 5)
  deqNext 0 sc (oA c 5) (oA c 6) (oB c 5) (oB c 6)
  deqWait false (oA c 6).off (oA c 6).inb
  deqWait true (oB c 6).off (oB c 6).inb

def bodyP : Pg F PUnit := do
  let c : Dev nD ← Prog.lift .deviceId
  headP c
  let sc ← scaleP c
  gatherP c sc

end Cert.Proof

end
-- ==== Proof.Base.lean ====
/-
  The resource algebra of the proof and the rules of one step over OWNED memrefs: a load and a store through a rectangle
  of a memref owned whole or through one of its slices, a copy of a slot of a two-slot buffer to a neighbour, a local copy
  and its wait.
-/
module

public import proofs.«01_k».proof.Proof.Steps
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Memref
public import Idealize.ShloMosaic.Lib.ViewIndex
public import Idealize.ShloMosaic.Lib.Tactic

@[expose] public section

set_option maxRecDepth 16384

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's rounds, the ring's rounds (duties named by `Bool`), counters for the local copies -/

abbrev UB : Type := URounds (GSem nD τ sig) Bool
abbrev UP : Type := URounds (GSem nD τ sig) Unit
abbrev UU : Type := UP × (UB × Counters)

local notation "𝕄" => MT nD τ sig ℕ (Elt F) ℕ UU ℕ

def EP : Emb UP (MT nD τ sig ℕ (Elt F) ℕ UU ℕ) :=
  (Emb.inl : Emb UP UU).trans (uEmb (nD := nD) (sig := sig) (Ix := ℕ) (Val := Elt F) (Name := ℕ) (U := UU) (Lvl := ℕ)).toEmb
instance EP_landsIn : (EP : Emb UP 𝕄).LandsIn (upEmb : UEmb _ 𝕄) := by unfold EP; infer_instance
def ER : Emb UB (MT nD τ sig ℕ (Elt F) ℕ UU ℕ) :=
  ((Emb.inl : Emb UB (UB × Counters)).trans (Emb.inr : Emb (UB × Counters) UU)).trans
    (uEmb (nD := nD) (sig := sig) (Ix := ℕ) (Val := Elt F) (Name := ℕ) (U := UU) (Lvl := ℕ)).toEmb
instance ER_landsIn : (ER : Emb UB 𝕄).LandsIn (upEmb : UEmb _ 𝕄) := by unfold ER; infer_instance
abbrev EC : UEmb Counters (MT nD τ sig ℕ (Elt F) ℕ UU ℕ) := countersEmb (U := UU)

abbrev 𝒱₀ : Variants := Variants.none

/-- The weakest precondition of a program of device `c`'s core. -/
abbrev WP {α : Type} (c : Dev nD) (p : Pg F α) (Q : α → sProp 𝕄) : sProp 𝕄 :=
  wp frame (wpE (defs₀ (F := F)) 𝒱₀ (c : Thread nD τ) none) Set.univ p Q

/-- A memref owned on device `c`. -/
abbrev own (c : Dev nD) {sp : Space} {s : Shape} {e : EltTy} (m : Memref sig .tc sp s e) (q : PosShare TreeShare) (X : s.Idx → Elt F e) : sProp 𝕄 :=
  ownsTc c m q X

theorem access_sub {s : Shape} {e : EltTy} (m : Memref sig .tc .vmem s e) (r r' : Rect s) (ix : r'.shape.Idx → r.shape.Idx)
    (hix : ∀ i, r.emb (ix i) = r'.emb i) : (m.view.slice r').set ⊆ (m.view.slice r).set := by
  rw [View.set_slice, View.set_slice]
  refine Finset.map_subset_map.mpr fun j hj => ?_
  rw [← Rect.map_emb_univ, Finset.mem_map] at hj ⊢
  obtain ⟨i, -, rfl⟩ := hj
  exact ⟨ix i, Finset.mem_univ _, hix i⟩

section Rules

variable {α : Type} {s : Shape} {e : EltTy} (c : Dev nD)

/-- A load through a rectangle inside an owned slice. -/
theorem wp_load_sub {Q : α → sProp (MT nD τ sig ℕ (Elt F) ℕ UU ℕ)} (m : Memref sig .tc .vmem s e) (r : Rect s) (hr : ∀ a, r.stride a = 1) (r' : Rect s) (ix : r'.shape.Idx → r.shape.Idx)
    (hix : ∀ i, r.emb (ix i) = r'.emb i) {hl : m.view.LoadsAt r'.toLoadRect} {q : PosShare TreeShare} {X : r.shape.Idx → Elt F e}
    {k : (r'.shape.Idx → Elt F e) → Pg F α} :
    own c (m.slice r hr) q X
      ⊢ iprop((own c (m.slice r hr) q X -∗ WP c (k (fun i => X (ix i))) Q) -∗ WP c (.op (.load m r'.toLoadRect hl) k) Q) := by
  unfold own ownsTc owns
  iintro ⟨%f, %hf, H⟩ Hk
  iapply (wp_load_rect 𝒱₀ (c : Thread nD τ) none Set.univ (m := m) (r := r') (S := (m.slice r hr).view.set) (f := f) (access_sub m r r' ix hix)) $$ H
  iintro H
  rw [show (m.access r').read (Elt F) f = fun i => X (ix i) from by
    subst hf
    funext i
    show m.view.read (Elt F) f (r'.emb i) = m.view.read (Elt F) f (r.emb (ix i))
    rw [hix]]
  iapply Hk
  iexists f
  isplitr; · ipureintro; exact hf
  iexact H

/-- A load through a rectangle of an owned memref. -/
theorem wp_load_own {Q : α → sProp (MT nD τ sig ℕ (Elt F) ℕ UU ℕ)} (m : Memref sig .tc .vmem s e) (r' : Rect s) {hl : m.view.LoadsAt r'.toLoadRect} {q : PosShare TreeShare} {X : s.Idx → Elt F e}
    {k : (r'.shape.Idx → Elt F e) → Pg F α} :
    own c m q X
      ⊢ iprop((own c m q X -∗ WP c (k (fun i => X (r'.emb i))) Q) -∗ WP c (.op (.load m r'.toLoadRect hl) k) Q) := by
  unfold own ownsTc owns
  iintro ⟨%f, %hf, H⟩ Hk
  iapply (wp_load_rect 𝒱₀ (c : Thread nD τ) none Set.univ (m := m) (r := r') (S := m.view.set) (f := f) (m.view.set_slice_subset r')) $$ H
  iintro H
  rw [show (m.access r').read (Elt F) f = fun i => X (r'.emb i) from by subst hf; rfl]
  iapply Hk
  iexists f
  isplitr; · ipureintro; exact hf
  iexact H

/-- A store through a rectangle inside an owned slice: the slice's contents are then `X'`, which is what was stored there
    and the old contents elsewhere. -/
theorem wp_store_sub {Q : α → sProp (MT nD τ sig ℕ (Elt F) ℕ UU ℕ)} (m : Memref sig .tc .vmem s e) (r : Rect s) (hr : ∀ a, r.stride a = 1) (r' : Rect s) (ix : r'.shape.Idx → r.shape.Idx)
    (hix : ∀ i, r.emb (ix i) = r'.emb i) {w : r'.shape.Idx → Elt F e} {hx : (m.access r').Stores Finset.univ}
    {hm : (Finset.univ : Finset r'.shape.Idx) = Finset.univ ∨ ∀ a, r'.stride a = 1} {X : r.shape.Idx → Elt F e} (X' : r.shape.Idx → Elt F e)
    (hin : ∀ i, X' (ix i) = w i) (hout : ∀ j, (∀ i, ix i ≠ j) → X' j = X j) {k : PUnit → Pg F α} :
    own c (m.slice r hr) fullShare X
      ⊢ iprop((own c (m.slice r hr) fullShare X' -∗ WP c (k ⟨⟩) Q) -∗ WP c (.op (.store m r' w Finset.univ hx hm) k) Q) := by
  unfold own ownsTc owns
  iintro ⟨%f, %hf, H⟩ Hk
  iapply (wp_store 𝒱₀ (c : Thread nD τ) none Set.univ (m := m) (r := r') (Mk := Finset.univ) (S := (m.slice r hr).view.set) (f := f) (access_sub m r r' ix hix)) $$ H
  iintro H
  iapply Hk
  iexists (m.access r').write (Elt F) f w Finset.univ
  isplitr
  · ipureintro
    subst hf
    funext j
    show m.view.read (Elt F) ((m.view.slice r').write (Elt F) f w Finset.univ) (r.emb j) = X' j
    by_cases h : ∃ i, ix i = j
    · obtain ⟨i, rfl⟩ := h
      rw [hix, View.read_slice_write_emb _ _ _ (Finset.mem_univ _), hin]
    · have h' : ∀ i, ix i ≠ j := fun i hi => h ⟨i, hi⟩
      rw [View.read_slice_write_of_not_mem, hout j h']
      · rfl
      · intro hj
        obtain ⟨i, -, hi⟩ := Finset.mem_map.mp hj
        exact h' i (r.emb.injective ((hix i).trans hi))
  iexact H

/-- A store through a rectangle of an owned memref. -/
theorem wp_store_own {Q : α → sProp (MT nD τ sig ℕ (Elt F) ℕ UU ℕ)} (m : Memref sig .tc .vmem s e) (r' : Rect s) {w : r'.shape.Idx → Elt F e} {hx : (m.access r').Stores Finset.univ}
    {hm : (Finset.univ : Finset r'.shape.Idx) = Finset.univ ∨ ∀ a, r'.stride a = 1} {X : s.Idx → Elt F e} (X' : s.Idx → Elt F e)
    (hin : ∀ i, X' (r'.emb i) = w i) (hout : ∀ j, (∀ i, r'.emb i ≠ j) → X' j = X j) {k : PUnit → Pg F α} :
    own c m fullShare X
      ⊢ iprop((own c m fullShare X' -∗ WP c (k ⟨⟩) Q) -∗ WP c (.op (.store m r' w Finset.univ hx hm) k) Q) := by
  unfold own ownsTc owns
  iintro ⟨%f, %hf, H⟩ Hk
  iapply (wp_store 𝒱₀ (c : Thread nD τ) none Set.univ (m := m) (r := r') (Mk := Finset.univ) (S := m.view.set) (f := f) (m.view.set_slice_subset r')) $$ H
  iintro H
  iapply Hk
  iexists (m.access r').write (Elt F) f w Finset.univ
  isplitr
  · ipureintro
    subst hf
    funext j
    show m.view.read (Elt F) ((m.view.slice r').write (Elt F) f w Finset.univ) j = X' j
    by_cases h : ∃ i, r'.emb i = j
    · obtain ⟨i, rfl⟩ := h
      rw [View.read_slice_write_emb _ _ _ (Finset.mem_univ _), hin]
    · have h' : ∀ i, r'.emb i ≠ j := fun i hi => h ⟨i, hi⟩
      rw [View.read_slice_write_of_not_mem, hout j h']
      intro hj
      obtain ⟨i, -, hi⟩ := Finset.mem_map.mp hj
      exact h' i hi
  iexact H

/-- The same elements through a squeezed memref. -/
theorem own_squeeze {sp : Space} (m : Memref sig .tc sp s e) (s' : Shape) (h : s.Squeezes s') (q : PosShare TreeShare) (X : s.Idx → Elt F e) :
    (own c (m.squeeze s' h) q (fun i => X (Shape.reshapeEquiv h.numel_eq i)) : sProp 𝕄) = own c m q X := by
  unfold own ownsTc owns
  have hr (f : m.view.ty.Contents (Elt F)) : ((m.squeeze s' h).view.read (Elt F) f = fun i => X (Shape.reshapeEquiv h.numel_eq i)) ↔ m.view.read (Elt F) f = X := by
    constructor
    · intro hh; funext j
      have := congrFun hh ((Shape.reshapeEquiv h.numel_eq).symm j)
      rw [Equiv.apply_symm_apply] at this
      rw [← this]
      show m.view.read (Elt F) f j = m.view.read (Elt F) f (Shape.reshapeEquiv h.numel_eq ((Shape.reshapeEquiv h.numel_eq).symm j))
      rw [Equiv.apply_symm_apply]
    · rintro rfl; rfl
  have hs : (m.squeeze s' h).view.set = m.view.set := m.view.set_reshape h.numel_eq
  have h₁ : iprop(∃ f, ⌜(m.squeeze s' h).view.read (Elt F) f = fun i => X (Shape.reshapeEquiv h.numel_eq i)⌝ ∗ ((m.squeeze s' h).view.loc (c : Thread nD τ) ↦[(m.squeeze s' h).view.set]{q} f))
      ⊢ (iprop(∃ f, ⌜m.view.read (Elt F) f = X⌝ ∗ (m.view.loc (c : Thread nD τ) ↦[m.view.set]{q} f)) : sProp 𝕄) := by
    iintro ⟨%f, %hf, H⟩
    iexists f
    isplitr; · ipureintro; exact (hr f).mp hf
    rw [← hs]; iexact H
  have h₂ : iprop(∃ f, ⌜m.view.read (Elt F) f = X⌝ ∗ (m.view.loc (c : Thread nD τ) ↦[m.view.set]{q} f))
      ⊢ (iprop(∃ f, ⌜(m.squeeze s' h).view.read (Elt F) f = fun i => X (Shape.reshapeEquiv h.numel_eq i)⌝ ∗ ((m.squeeze s' h).view.loc (c : Thread nD τ) ↦[(m.squeeze s' h).view.set]{q} f)) : sProp 𝕄) := by
    iintro ⟨%f, %hf, H⟩
    iexists f
    isplitr; · ipureintro; exact (hr f).mpr hf
    rw [← hs] at *; iexact H
  exact BI.Entails.antisymm h₁ h₂

/-- An owned memref in two half shares. -/
theorem own_halves {sp : Space} (m : Memref sig .tc sp s e) (X : s.Idx → Elt F e) :
    (own c m fullShare X : sProp 𝕄) ⊢ iprop(own c m fullShare.left X ∗ own c m fullShare.right X) := by
  unfold own ownsTc owns
  iintro ⟨%f, %hf, H⟩
  ihave H' := (pointsTo_share (PosShare.mem_left_op_right fullShare)).1 $$ H
  icases H' with ⟨H1, H2⟩
  isplitl [H1]
  · iexists f; isplitr; · ipureintro; exact hf
    iexact H1
  · iexists f; isplitr; · ipureintro; exact hf
    iexact H2

/-- Two half shares of a memref, both at the same contents, are the whole. -/
theorem own_join {sp : Space} (m : Memref sig .tc sp s e) (X : s.Idx → Elt F e) :
    iprop(own c m fullShare.left X ∗ own c m fullShare.right X) ⊢ (own c m fullShare X : sProp 𝕄) := by
  unfold own ownsTc owns
  iintro ⟨⟨%f, %hf, H1⟩, ⟨%g, %hg, H2⟩⟩
  iexists f
  isplitr; · ipureintro; exact hf
  iapply (pointsTo_share (PosShare.mem_left_op_right fullShare)).2
  isplitl [H1]; · iexact H1
  have hfg : ∀ i ∈ m.view.set, g i = f i := by
    intro i hi
    rw [View.set, Finset.mem_map] at hi
    obtain ⟨x, -, rfl⟩ := hi
    exact View.eq_of_read_eq (congrFun (hg.trans hf.symm) x)
  iapply (Entails.of_eq (pointsTo_congr (ℓ := m.view.loc (c : Thread nD τ)) (q := fullShare.right) hfg)) $$ H2

/-- A copy into a memref of device `n`, both ends owned: what is lent of the source is the first payload, the target
    rewritten with the source's contents (and `P` besides) the second. -/
theorem wp_send_own {Q : α → sProp (MT nD τ sig ℕ (Elt F) ℕ UU ℕ)} (Rd : Rounds.Schedule (GSem nD τ sig) Bool (MT nD τ sig ℕ (Elt F) ℕ UU ℕ)) (n : Dev nD)
    {sp sp' : Space} (src : Memref sig .tc sp s e) (dst : Memref sig .tc sp' s e) {sS sR : DmaSem sig}
    {hsc : (dst : Memref sig (Dev.tc n : Thread nD τ).2.kind sp' s e).view.ref.isScScratch = false} {hsrc : src.view.WordExact} {hdst : dst.view.WordExact}
    {hsem : DmaTarget.Typed sp (.dma sR) (.remote (Dev.tc n : Thread nD τ) (dst : Memref sig (Dev.tc n : Thread nD τ).2.kind sp' s e) (.dma sS) hsc)}
    {k : PUnit → Pg F α} {q : PosShare TreeShare} {X Y : s.Idx → Elt F e} {P : sProp (MT nD τ sig ℕ (Elt F) ℕ UU ℕ)} {r₁ r₂ : ℕ} {κ₁ κ₂ : ℕ}
    (hd₁ : false ∈ Rd.duties ((c : Thread nD τ), .dma sS) r₁) (hd₂ : false ∈ Rd.duties ((n : Thread nD τ), .dma sR) r₂)
    (ι ι' : ℕ) (N : ℕ) (hN : dst.view.dmaCredit = N)
    (hk₁ : Rd.amount ((c : Thread nD τ), .dma sS) r₁ false = N) (hk₂ : Rd.amount ((n : Thread nD τ), .dma sR) r₂ false = N)
    {O₀ : CellTallies nD τ sig ℕ} (O : CellTallies nD τ sig ℕ) (hO : O₀ = O + tallyAt ((n : Thread nD τ), .dma sR) ι N) {W : Waits sig ℕ}
    (hpay₁ : own c src q X ⊢ Rd.payload ((c : Thread nD τ), .dma sS) r₁ false)
    (hpay₂ : iprop(own n dst fullShare X ∗ P) ⊢ Rd.payload ((n : Thread nD τ), .dma sR) r₂ false) :
    iprop(cellInv ER Rd κ₁ ((c : Thread nD τ), .dma sS) ∗ cellInv ER Rd κ₂ ((n : Thread nD τ), .dma sR)
        ∗ own c src q X ∗ (own n dst fullShare Y ∗ P)
        ∗ owes (c : Thread nD τ) O₀ W
        ∗ dutyTok ER ((c : Thread nD τ), .dma sS) r₁ false ∗ reached ER ((c : Thread nD τ), .dma sS) r₁
        ∗ dutyTok ER ((n : Thread nD τ), .dma sR) r₂ false ∗ reached ER ((n : Thread nD τ), .dma sR) r₂)
      ⊢ iprop(((cred (tallyAt ((c : Thread nD τ), .dma sS) ι' N) ∗ owes (c : Thread nD τ) O W) -∗ WP c (k ⟨⟩) Q)
          -∗ WP c (.op (.enqueueDma src (.remote (Dev.tc n : Thread nD τ) dst (.dma sS) hsc) (.dma sR) hsrc hdst hsem) k) Q) := by
  iintro ⟨HI1, HI2, Hs, ⟨Hd, HP⟩, HO, Ht1, Hr1, Ht2, Hr2⟩
  unfold own ownsTc owns at hpay₁ hpay₂ ⊢
  icases Hs with ⟨%fs, %hfs, Hs⟩
  icases Hd with ⟨%fd, %hfd, Hd⟩
  iapply (Rounds.wp_send_pointsTo_with 𝒱₀ ER Rd (c : Thread nD τ) none (κ₁ := κ₁) (κ₂ := κ₂) (r₁ := r₁) (r₂ := r₂) (d₁ := false) (d₂ := false)
      (fs := fs) (fd := fd) (F := P) hd₁ hd₂ ι ι' N hN hk₁ hk₂ O hO (W := W)
      (by
        refine BIBase.Entails.trans ?_ hpay₁
        iintro H; iexists fs; isplitr; · ipureintro; exact hfs
        iexact H)
      (by
        refine BIBase.Entails.trans ?_ hpay₂
        iintro ⟨H, HP⟩
        isplitr [HP]
        · iexists dst.view.write (Elt F) fd (src.view.read (Elt F) fs) Finset.univ
          isplitr; · ipureintro; rw [← hfs]; exact View.read_write_univ _ _
          iexact H
        · iexact HP)) $$ [HI1 HI2 Hs Hd HP HO Ht1 Hr1 Ht2 Hr2]
  isplitl [HI1]; · iexact HI1
  isplitl [HI2]; · iexact HI2
  isplitl [Hs]; · iexact Hs
  isplitl [Hd HP]
  · isplitl [Hd]; · iexact Hd
    iexact HP
  isplitl [HO]; · iexact HO
  isplitl [Ht1]; · iexact Ht1
  isplitl [Hr1]; · iexact Hr1
  isplitl [Ht2]; · iexact Ht2
  iexact Hr2

/-- A local copy between owned memrefs, on a semaphore at zero. -/
theorem wp_copy_own {Q : α → sProp (MT nD τ sig ℕ (Elt F) ℕ UU ℕ)}
    {sp sp' : Space} (src : Memref sig .tc sp s e) (dst : Memref sig .tc sp' s e) {sm : DmaSem sig}
    {hsrc : src.view.WordExact} {hdst : dst.view.WordExact} {hsem : DmaTarget.Typed (nD := nD) (τ := τ) (p := .tc) sp (.dma sm) (.here dst)}
    {k : PUnit → Pg F α} {q : PosShare TreeShare} {X Y : s.Idx → Elt F e} (N : ℕ) (hN : dst.view.amount (.dma sm) = N) (hN0 : 0 < N) :
    iprop(own c src q X ∗ own c dst fullShare Y ∗ semVal ((c : Thread nD τ), .dma sm) 0)
      ⊢ iprop((Transfers.Flight EC (c : Thread nD τ) (.dma sm) 0 N iprop(own c dst fullShare X ∗ own c src q X) -∗ WP c (k ⟨⟩) Q)
          -∗ WP c (.op (.enqueueDma src (.here dst) (.dma sm) hsrc hdst hsem) k) Q) := by
  unfold own ownsTc owns
  iintro ⟨⟨%fs, %hfs, Hs⟩, ⟨%fd, %hfd, Hd⟩, Hv⟩ Hk
  iapply (Transfers.wp_dmaLocal EC 𝒱₀ (c : Thread nD τ) none (src := src) (via := .same) (dst := dst) (fs := fs) (fd := fd) (Sd := dst.view.set) 0 N hN hN0 subset_rfl) $$ [Hs Hd Hv]
  · isplitl [Hs]; · iexact Hs
    isplitl [Hd]; · iexact Hd
    iexact Hv
  iintro HF
  iapply Hk
  iapply (Transfers.Flight_mono EC (c : Thread nD τ) ?_) $$ HF
  iintro ⟨Hd, Hs⟩
  isplitl [Hd]
  · iexists dst.view.write (Elt F) fd (src.view.read (Elt F) fs) Finset.univ
    isplitr; · ipureintro; rw [← hfs]; exact View.read_write_univ _ _
    iexact Hd
  · iexists fs; isplitr; · ipureintro; exact hfs
    iexact Hs

end Rules

end Cert.Proof

end
-- ==== Proof.Common.lean ====
/-
  The ring of eight devices: the neighbours of the two directions, the cells of the protocol, what each buffer holds
  before each step as a function of the memory at launch, and the schedule of the cells: who pays each round of each
  cell, how much, and what the payment hands over.
-/
module

public import proofs.«01_k».proof.Proof.Base

@[expose] public section

set_option maxRecDepth 16384

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## The ring -/

/-- The device a copy of direction `d` goes to: one up for `false`, one down for `true`; -/
def nb (d : Bool) (c : Dev nD) : Dev nD := ⟨(c.val + cond d 7 1) % 8, Nat.mod_lt _ (by decide)⟩
/-- and the one it comes from. -/
def fr (d : Bool) (c : Dev nD) : Dev nD := nb (!d) c

theorem nb_fr (d : Bool) (c : Dev nD) : nb d (fr d c) = c := by revert d c; decide
theorem fr_nb (d : Bool) (c : Dev nD) : fr d (nb d c) = c := by revert d c; decide
def ringE (d : Bool) : Dev nD ≃ Dev nD := ⟨nb d, fr d, fr_nb d, nb_fr d⟩

/-- The landing slot of step `u`. -/
def sl (u : ℕ) : Fin 2 := ⟨u % 2, Nat.mod_lt _ (by decide)⟩
theorem sl_two (u : ℕ) : sl (u + 2) = sl u := Fin.ext (Nat.add_mod_right u 2)

/-! ## The contents -/

section Contents

variable (m : (ℓ : Loc nD τ sig) → Buf (Elt F) ℓ)

abbrev xs (c : Dev nD) : S4096x512.Idx → Elt F .f32 := m ((c : Thread nD τ).loc main_arg0)
abbrev ws (c : Dev nD) : S512x8192.Idx → Elt F .f32 := m ((c : Thread nD τ).loc main_arg1)
abbrev sd (d : Bool) (c : Dev nD) : S256x8192.Idx → Elt F .bf16 := match d with
  | false => m ((c : Thread nD τ).loc main_arg2)
  | true => m ((c : Thread nD τ).loc main_arg3)

/-- Rows of a slot as the slot's own contents. -/
def up {A : Type} (X : S256x8192.Idx → A) : S1x256x8192.Idx → A :=
  fun i => X ((Shape.reshapeEquiv squeezes_S1x256x8192_S256x8192.numel_eq).symm i)
theorem up_down {A : Type} (X : S256x8192.Idx → A) :
    (fun i => up X (Shape.reshapeEquiv squeezes_S1x256x8192_S256x8192.numel_eq i)) = X := by
  funext i; unfold up; rw [Equiv.symm_apply_apply]

/-- An offset into the rows of `x` of a block of 256, in bounds. -/
structure XOff where
  off : Fin 2 → Nat
  inb : ∀ a, off a + S256x512.size a ≤ S4096x512.size a
def m6 (u : ℕ) : Fin 6 := ⟨u % 6, Nat.mod_lt _ (by decide)⟩
/-- The rows of `x` that device `c` multiplies at step `u` in direction `d`. -/
abbrev xO (d : Bool) (u : ℕ) (c : Dev nD) : XOff := match d with
  | false => ⟨k0_off1 c (BitVec.ofNat 32 (1 + (m6 u).val)), k0_off1_inb c (m6 u)⟩
  | true => ⟨k0_off2 c (BitVec.ofNat 32 (1 + (m6 u).val)), k0_off2_inb c (m6 u)⟩
def xrows (o : XOff) (c : Dev nD) : S256x512.Idx → Elt F .f32 :=
  fun i => xs m c ((Rect.unit (s := S4096x512) o.off S256x512.size o.inb).emb i)

/-- The half and the place in it of a row of the weights; -/
def hOf (i : S512x8192.Idx) : Fin 2 := ⟨(i 0).val / 256, by have h : (i 0).val < 512 := (i 0).isLt; omega⟩
def inH (i : S512x8192.Idx) : S256x8192.Idx := fun a => match a with
  | ⟨0, _⟩ => ⟨(i 0).val % 256, Nat.mod_lt _ (by decide)⟩
  | ⟨1, _⟩ => ⟨(i 1).val, (i 1).isLt⟩
def wrow (h : Fin 2) (c : Dev nD) : S256x8192.Idx → Elt F .f32 := fun i => ws m c ((whalfR h).emb i)
/-- the weights in bf16. -/
def wbf (c : Dev nD) : S512x8192.Idx → Elt F .bf16 := fun i => k0_pay1 (F := F) (up (wrow m (hOf i) c)) (inH i)

/-- The strip and the place in it of an entry of a slot. -/
theorem sIx_inb (k : Fin 4) : ∀ a, (![0, 0, 2048 * k.val] : Fin 3 → Nat) a + S1x256x2048.size a ≤ S1x256x8192.size a := by revert k; decide
abbrev sR (k : Fin 4) : Rect S1x256x8192 := Rect.unit (s := S1x256x8192) ![0, 0, 2048 * k.val] S1x256x2048.size (sIx_inb k)
abbrev sIx (k : Fin 4) (j : S1x256x2048.Idx) : S1x256x8192.Idx := (sR k).emb j
def kOf (i : S1x256x8192.Idx) : Fin 4 := ⟨(i 2).val / 2048, by have h : (i 2).val < 8192 := (i 2).isLt; omega⟩
def inS (i : S1x256x8192.Idx) : S1x256x2048.Idx := fun a => match a with
  | ⟨0, _⟩ => ⟨(i 0).val, (i 0).isLt⟩
  | ⟨1, _⟩ => ⟨(i 1).val, (i 1).isLt⟩
  | ⟨2, _⟩ => ⟨(i 2).val % 2048, Nat.mod_lt _ (by decide)⟩

/-- The product of a block of `x` with the weights added to a slot. -/
def mac (acc : S1x256x8192.Idx → Elt F .bf16) (x : S256x512.Idx → Elt F .f32) (w : S512x8192.Idx → Elt F .bf16) :
    S1x256x8192.Idx → Elt F .bf16 :=
  fun i => k0_pay5 (F := F) (fun j => acc (sIx (kOf i) j)) x (fun j => w ((wstripR (kOf i)).emb j)) (inS i)

/-- The partial sum device `c` holds before step `u` in direction `d`: the seed, then what its neighbour held with the
    product of its own rows added. -/
def cc (d : Bool) : ℕ → Dev nD → S1x256x8192.Idx → Elt F .bf16
  | 0, c => up (sd m d c)
  | u + 1, c => mac (cc d u (fr d c)) (xrows m (xO d u c) c) (wbf m c)

/-- The running maximum after `h` hops, -/
def sacc : ℕ → Dev nD → F .f32
  | 0, c => k0_pay71 (k0_pay70 (cc m false 6 c)) (cc m true 6 c)
  | h + 1, c => k0_pay73 (sacc h c) (fun _ => sacc h (fr false c))
/-- the scale, -/
def scale (c : Dev nD) : F .f32 := k0_pay86 (sacc m 6 c) (fun _ => sacc m 6 (fr false c))
/-- the quantised block device `c` holds before the `h`-th all-gather step, -/
def qq (d : Bool) : ℕ → Dev nD → S1x256x8192.Idx → Elt F .i8
  | 0, c => k0_pay88 (scale m c) (cc m d 6 c)
  | h + 1, c => qq d h (fr d c)
/-- and that block dequantised. -/
def deq (d : Bool) (h : ℕ) (c : Dev nD) : S1x256x8192.Idx → Elt F .f32 := k0_pay91 (scale m c) (qq m d h c)

end Contents

/-! ## The cells -/

inductive CK where
  | bar
  | credit (d : Bool)
  | send (d : Bool) (s : Fin 2)
  | recv (d : Bool) (s : Fin 2)
  | ssend (h : Fin 7)
  | srecv (h : Fin 7)
  deriving DecidableEq

abbrev CK.sem : CK → SemLoc sig
  | .bar => .reg barSem
  | .credit d => .reg (creditSem d)
  | .send d s => .dma (sendSem d s)
  | .recv d s => .dma (recvSem d s)
  | .ssend h => .dma (ssendSem h)
  | .srecv h => .dma (srecvSem h)

def ckList : List CK :=
  [.bar, .credit false, .credit true, .send false 0, .send false 1, .send true 0, .send true 1, .recv false 0, .recv false 1, .recv true 0, .recv true 1,
    .ssend 0, .ssend 1, .ssend 2, .ssend 3, .ssend 4, .ssend 5, .ssend 6, .srecv 0, .srecv 1, .srecv 2, .srecv 3, .srecv 4, .srecv 5, .srecv 6]
theorem mem_ckList (k : CK) : k ∈ ckList := by
  cases k with
  | bar => decide
  | credit d => revert d; decide
  | send d s => revert d s; decide
  | recv d s => revert d s; decide
  | ssend h => revert h; decide
  | srecv h => revert h; decide
instance : Fintype CK := ⟨⟨ckList, by decide⟩, mem_ckList⟩

/-- Which cell a semaphore is, if it is one. -/
def ofSem (sm : SemLoc sig) : Option CK := ckList.find? fun k => decide (k.sem = sm)
theorem ofSem_sem (k : CK) : ofSem k.sem = some k := by revert k; decide

abbrev cell (k : CK) (c : Dev nD) : GSem nD τ sig := ((c : Thread nD τ), k.sem)

theorem cell_inj : Function.Injective (fun p : CK × Dev nD => cell p.1 p.2) := by
  rintro ⟨k, c⟩ ⟨k', c'⟩ h
  have h1 : c = c' := congrArg (fun g : GSem nD τ sig => g.1.1) h
  have h2 : k.sem = k'.sem := congrArg Prod.snd h
  have h3 : some k = some k' := by rw [← ofSem_sem, ← ofSem_sem, h2]
  cases h1; cases h3; rfl

/-! ## The schedule -/

/-- The credits of a copy of a bf16 slot, of an int8 slot, of a row of the scalar ring. -/
def Nb : ℕ := (slot (commM false) 0).view.dmaCredit
def Nq : ℕ := (slot (qM false) 0).view.dmaCredit
def Ns : ℕ := (srow 0).view.dmaCredit
theorem Nb_pos : 0 < Nb := View.dmaCredit_pos _ (by decide)
theorem Nq_pos : 0 < Nq := View.dmaCredit_pos _ (by decide)
theorem Ns_pos : 0 < Ns := View.dmaCredit_pos _ (by decide)
theorem Nb_eq (d : Bool) (s : Fin 2) : (slot (commM d) s).view.dmaCredit = Nb := by cases d <;> rfl
theorem Nq_eq (d : Bool) (s : Fin 2) : (slot (qM d) s).view.dmaCredit = Nq := by cases d <;> rfl
theorem Ns_eq (h : Fin 7) : (srow h).view.dmaCredit = Ns := rfl

/-- The credit of the copy of step `u`. -/
def Nu (u : ℕ) : ℕ := if u ≤ 5 then Nb else Nq
theorem Nu_pos (u : ℕ) : 0 < Nu u := by unfold Nu; split; exacts [Nb_pos, Nq_pos]

def dutiesK : CK → ℕ → Finset Bool
  | .bar, r => if r < 1 then Finset.univ else ∅
  | .credit _, r => if r < 12 then {false} else ∅
  | .send _ s, r => if r < 6 + s.val then {false} else ∅
  | .recv _ s, r => if r < 7 - s.val then {false} else ∅
  | .ssend _, r => if r < 1 then {false} else ∅
  | .srecv _, r => if r < 1 then {false} else ∅

/-- The last round of each cell. -/
def lastK : CK → ℕ
  | .bar => 1
  | .credit _ => 12
  | .send _ s => 6 + s.val
  | .recv _ s => 7 - s.val
  | .ssend _ => 1
  | .srecv _ => 1
theorem duties_last (k : CK) (r : ℕ) (h : lastK k ≤ r) : dutiesK k r = ∅ := by
  cases k <;> exact if_neg (Nat.not_lt.mpr h)

/-- The step of a round of a send or receive cell. -/
def uS (s : Fin 2) (r : ℕ) : ℕ := 2 * r + 1 - s.val
def uR (s : Fin 2) (r : ℕ) : ℕ := 2 * r + s.val
theorem uS_eq (u : ℕ) : uS (sl (u + 1)) (u / 2) = u := by unfold uS sl; dsimp only; omega
theorem uR_eq (u : ℕ) : uR (sl u) (u / 2) = u := by unfold uR sl; dsimp only; omega

def amountK : CK → ℕ → ℕ
  | .bar, _ => 1
  | .credit _, _ => 1
  | .send _ s, r => Nu (uS s r)
  | .recv _ s, r => Nu (uR s r)
  | .ssend _, _ => Ns
  | .srecv _, _ => Ns
theorem amountK_pos (k : CK) (r : ℕ) : 0 < amountK k r := by
  cases k <;> first | exact Nat.one_pos | exact Nu_pos _ | exact Ns_pos

/-- Slot `s` of a two-slot buffer, owned. -/
abbrev held {e : EltTy} (M : Memref sig .tc .vmem S2x256x8192 e) (s : Fin 2) (c : Dev nD) (q : PosShare TreeShare) (X : S1x256x8192.Idx → Elt F e) : sProp 𝕄 :=
  own c (M.slice (slotR s) (fun _ => rfl)) q X
/-- The slot with contents unknown. -/
def freeH {e : EltTy} (M : Memref sig .tc .vmem S2x256x8192 e) (s : Fin 2) (c : Dev nD) : sProp 𝕄 := iprop(∃ X, held M s c fullShare X)

section Sched

variable (m : (ℓ : Loc nD τ sig) → Buf (Elt F) ℓ)

/-- What moves at step `u`, in slot `s` of device `c`, with what device `o` holds before the step; -/
def blk (d : Bool) (u : ℕ) (s : Fin 2) (c : Dev nD) (q : PosShare TreeShare) (o : Dev nD) : sProp 𝕄 :=
  if u ≤ 5 then held (commM d) s c q (cc m d u o) else held (qM d) s c q (qq m d (u - 6) o)
/-- a slot it may land in, and that its receive cell has come to the round. -/
def anyBlk (d : Bool) (u : ℕ) (c : Dev nD) : sProp 𝕄 := if u ≤ 5 then freeH (commM d) (sl u) c else freeH (qM d) (sl u) c
def freeSlot (d : Bool) (u : ℕ) (n : Dev nD) : sProp 𝕄 := iprop(anyBlk d u n ∗ reached ER (cell (.recv d (sl u)) n) (u / 2))
/-- The rows of the scalar ring's receive buffer and that their cells are at their round. -/
def rowFree (h : Fin 7) (n : Dev nD) : sProp 𝕄 := iprop((∃ X, own n (srow h) fullShare X) ∗ reached ER (cell (.srecv h) n) 0)
def rowsFree (n : Dev nD) : sProp 𝕄 :=
  iprop(rowFree 0 n ∗ rowFree 1 n ∗ rowFree 2 n ∗ rowFree 3 n ∗ rowFree 4 n ∗ rowFree 5 n ∗ rowFree 6 n)

def payK : CK → Dev nD → ℕ → Bool → sProp 𝕄
  | .bar, c, _, false => iprop(freeSlot false 0 (nb false c) ∗ rowsFree (nb false c))
  | .bar, c, _, true => freeSlot true 0 (nb true c)
  | .credit d, c, r, _ => freeSlot d (r + 1) (nb d c)
  | .send d s, c, r, _ => blk m d (uS s r) s c fullShare.left c
  | .recv d s, c, r, _ => iprop(blk m d (uR s r) s c fullShare (fr d c) ∗ reached ER (cell (.credit d) (fr d c)) (uR s r))
  | .ssend h, c, _, _ => own c ssM fullShare (fun _ => sacc m h.val c)
  | .srecv h, c, _, _ => own c (srow h) fullShare (fun _ => sacc m h.val (fr false c))

def Rd : Rounds.Schedule (GSem nD τ sig) Bool (MT nD τ sig ℕ (Elt F) ℕ UU ℕ) where
  duties g r := if g.1.2 = .tc then (match ofSem g.2 with | some k => dutiesK k r | none => ∅) else ∅
  unitless _ := False
  amount g r _ := match ofSem g.2 with | some k => amountK k r | none => 1
  payload g r d := match ofSem g.2 with | some k => payK m k g.1.1 r d | none => iprop(emp)
  amount_pos g r d _ := by
    show 0 < (match ofSem g.2 with | some k => amountK k r | none => 1)
    split; exacts [amountK_pos _ _, Nat.one_pos]

instance blk_storable (d u s c q o) : BI.Storable (upEmb : UEmb _ 𝕄) (blk m d u s c q o) := by unfold blk held own ownsTc; split <;> infer_instance
instance anyBlk_storable (d u c) : BI.Storable (upEmb : UEmb _ 𝕄) (anyBlk (F := F) d u c) := by unfold anyBlk freeH held own ownsTc; split <;> infer_instance
instance freeSlot_storable (d u n) : BI.Storable (upEmb : UEmb _ 𝕄) (freeSlot (F := F) d u n) := by unfold freeSlot; infer_instance
instance rowFree_storable (h n) : BI.Storable (upEmb : UEmb _ 𝕄) (rowFree (F := F) h n) := by unfold rowFree own ownsTc; infer_instance
instance rowsFree_storable (n) : BI.Storable (upEmb : UEmb _ 𝕄) (rowsFree (F := F) n) := by unfold rowsFree; infer_instance
instance payK_storable (k c r d) : BI.Storable (upEmb : UEmb _ 𝕄) (payK m k c r d) := by
  cases k <;> cases d <;> (unfold payK; try unfold own ownsTc) <;> infer_instance
instance Rd_payload_storable (g : GSem nD τ sig) (r : ℕ) (d : Bool) : BI.Storable (upEmb : UEmb _ 𝕄) ((Rd m).payload g r d) := by
  show BI.Storable upEmb (match ofSem g.2 with | some k => payK m k g.1.1 r d | none => iprop(emp))
  split <;> infer_instance

theorem duties_cell (k : CK) (c : Dev nD) (r : ℕ) : (Rd m).duties (cell k c) r = dutiesK k r := by
  dsimp only [Rd]; rw [if_pos rfl, ofSem_sem]
theorem amount_cell (k : CK) (c : Dev nD) (r : ℕ) (d : Bool) : (Rd m).amount (cell k c) r d = amountK k r := by
  dsimp only [Rd]; rw [ofSem_sem]
theorem payload_cell (k : CK) (c : Dev nD) (r : ℕ) (d : Bool) : (Rd m).payload (cell k c) r d = payK m k c r d := by
  dsimp only [Rd]; rw [ofSem_sem]
theorem duties_after (k : CK) (c : Dev nD) : ∀ r, lastK k ≤ r → (Rd m).duties (cell k c) r = ∅ :=
  fun r hr => by rw [duties_cell, duties_last k r hr]

theorem expect_one (k : CK) (c : Dev nD) (r : ℕ) (h : dutiesK k r = {false}) : (Rd m).expect (cell k c) r = amountK k r := by
  unfold Schedule.expect Schedule.amountOf
  rw [duties_cell, h, Finset.sum_singleton, amount_cell]
theorem expect_bar (c : Dev nD) : (Rd m).expect (cell .bar c) 0 = 2 := by
  unfold Schedule.expect Schedule.amountOf
  rw [duties_cell, show dutiesK .bar 0 = Finset.univ from rfl, Finset.sum_congr rfl fun d _ => amount_cell m .bar c 0 d]
  rfl
theorem rest_one (k : CK) (c : Dev nD) (r : ℕ) (h : dutiesK k r = {false}) :
    bigSep ((Rd m).duties (cell k c) r \ ∅) (fun d => (Rd m).payload (cell k c) r d) = payK m k c r false := by
  rw [Finset.sdiff_empty, duties_cell, h, bigSep_singleton, payload_cell]
theorem rest_bar (c : Dev nD) :
    bigSep ((Rd m).duties (cell .bar c) 0 \ ∅) (fun d => (Rd m).payload (cell .bar c) 0 d) = iprop(payK m .bar c 0 false ∗ payK m .bar c 0 true) := by
  rw [Finset.sdiff_empty, duties_cell, show dutiesK .bar 0 = Finset.univ from rfl, bigSep_univ_eq_bigSepL [false, true] (by decide) (by decide),
    bigSepL_cons_cons, bigSepL_singleton, payload_cell, payload_cell]
  rfl

end Sched

/-! ## What each device owes, and the levels -/

/-- A payment: to the cell `k` of the neighbour in direction `dir`, `n` units under the index `ι`. -/
structure Ob where
  k : CK
  dir : Bool
  ι : ℕ
  n : ℕ

def Ob.at (o : Ob) (c : Dev nD) : CellTallies nD τ sig ℕ := tallyAt (cell o.k (nb o.dir c)) o.ι o.n
/-- The sum of what a list of payments owes; the first of the list is the last summand. -/
def sumO (c : Dev nD) : List Ob → CellTallies nD τ sig ℕ
  | [] => 0
  | o :: l => sumO c l + o.at c

/-- What device `c` still owes. -/
def Own (c : Dev nD) (l : List Ob) : sProp 𝕄 := iprop(∃ W, owes (c : Thread nD τ) (sumO c l) W)

/-- The payments of one step: the two copies, the two credits. -/
def obSend (u : ℕ) (l : List Ob) : List Ob := ⟨.recv false (sl u), false, u, Nu u⟩ :: ⟨.recv true (sl u), true, u, Nu u⟩ :: l
def obCred (u : ℕ) (l : List Ob) : List Ob := ⟨.credit false, true, u, 1⟩ :: ⟨.credit true, false, u, 1⟩ :: l
def obStep (u : ℕ) (l : List Ob) : List Ob := obSend u (obCred u l)
def obHop (h : Fin 7) (l : List Ob) : List Ob := ⟨.srecv h, false, 0, Ns⟩ :: l
def obBar (l : List Ob) : List Ob := ⟨.bar, true, 0, 1⟩ :: ⟨.bar, false, 0, 1⟩ :: l

def lvK : CK → ℕ → ℕ
  | .bar, _ => 1
  | .credit _, ι => 16 * ι + 17
  | .recv _ _, ι => 16 * ι + 2
  | .srecv h, _ => 83 + h.val
  | _, _ => 0
def lv (g : GSem nD τ sig) (ι : ℕ) : ℕ := match ofSem g.2 with | some k => lvK k ι | none => 0
theorem lv_cell (k : CK) (c : Dev nD) (ι : ℕ) : lv (cell k c) ι = lvK k ι := by unfold lv; rw [ofSem_sem]
def L (g : GSem nD τ sig) : Finset ℕ := if g.1.2 = .tc then Finset.range 20 else ∅
theorem L_of_ne (g : GSem nD τ sig) (h : g.1.2 ≠ .tc) : L g = ∅ := if_neg h
theorem L_tc (c : Dev nD) (sm : SemLoc sig) : L ((c : Thread nD τ), sm) = Finset.range 20 := if_pos rfl

/-- Every payment of the list lies above level `b`, under an index in use. -/
def Above (b : ℕ) (l : List Ob) : Prop := ∀ o ∈ l, b < lvK o.k o.ι ∧ o.ι < 20

theorem sumO_pos {c : Dev nD} {l : List Ob} {g : GSem nD τ sig} {ι : ℕ} (h : 0 < sumO c l g ι) :
    ∃ o ∈ l, g = cell o.k (nb o.dir c) ∧ ι = o.ι := by
  induction l with
  | nil => exact absurd h (Nat.lt_irrefl 0)
  | cons o l ih =>
      unfold sumO Ob.at at h
      rw [Pi.add_apply, Finsupp.add_apply, tallyAt_apply] at h
      by_cases h1 : g = cell o.k (nb o.dir c) ∧ ι = o.ι
      · exact ⟨o, List.mem_cons_self, h1⟩
      · rw [if_neg h1, Nat.add_zero] at h
        obtain ⟨o', ho', h'⟩ := ih h
        exact ⟨o', List.mem_cons_of_mem _ ho', h'⟩

theorem mayWait (c : Dev nD) (sm : SemLoc sig) (ι b : ℕ) (hι : ι < 20) (hb : lv ((c : Thread nD τ), sm) ι ≤ b) (l : List Ob) (h : Above b l) :
    (levAts L lv : sProp 𝕄) ⊢ MayWait (c : Thread nD τ) sm ι (sumO c l) := by
  refine MayOwe.of_cut (L := L) (lev := lv) b (fun p hp => by rw [Finset.mem_singleton.mp hp, L_tc]; exact Finset.mem_range.mpr hι)
      (fun g u hg => ?_) (fun p hp => by rw [Finset.mem_singleton.mp hp]; exact hb) (fun g u hg => ?_)
  · obtain ⟨o, ho, rfl, rfl⟩ := sumO_pos hg
    rw [L_tc]; exact Finset.mem_range.mpr (h o ho).2
  · obtain ⟨o, ho, rfl, rfl⟩ := sumO_pos hg
    rw [lv_cell]; exact (h o ho).1

/-! ## Positions, invariants -/

/-- At round `R` of a cell, nothing of it taken yet. -/
def pos (k : CK) (R : ℕ) (c : Dev nD) : sProp 𝕄 := iprop(atPos ER (cell k c) R ∅ 0 ∗ reached ER (cell k c) R)

variable (m : (ℓ : Loc nD τ sig) → Buf (Elt F) ℓ)

/-- The invariants of all cells, under the names of the launch. -/
def invs (K : CK × Dev nD → ℕ) : sProp 𝕄 := bigSep Finset.univ fun p : CK × Dev nD => cellInv ER (Rd m) (K p) (cell p.1 p.2)
instance invs_persistent (K : CK × Dev nD → ℕ) : BI.Persistent (invs m K) := by unfold invs; infer_instance
theorem inv_at (K : CK × Dev nD → ℕ) (k : CK) (c : Dev nD) : invs m K ⊢ cellInv ER (Rd m) (K (k, c)) (cell k c) :=
  bigSep_elim (Finset.mem_univ (k, c))

end Cert.Proof

end
-- ==== Proof.Proto.lean ====
/-
  The pieces of the body that talk to the neighbours: the barrier, the two credits, the copy of a slot and the waits for
  it, each as one entailment over the cells of the protocol.
-/
module

public import proofs.«01_k».proof.Proof.Common

@[expose] public section

set_option maxRecDepth 16384

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (K : CK × Dev nD → ℕ) (c : Dev nD)

theorem WP_ret {α : Type} {Q : α → sProp (MT nD τ sig ℕ (Elt F) ℕ UU ℕ)} {a : α} : Q a ⊢ WP (F := F) c (.ret a) Q := by
  unfold WP
  rw [wp_ret]
  iintro H
  imodintro
  iexact H

/-! ## One wait, one signal -/

/-- A wait for a copy on a cell of one payment per round. -/
theorem wp_wait_dma {α : Type} {Q : α → sProp (MT nD τ sig ℕ (Elt F) ℕ UU ℕ)} (k : CK) {sm : DmaSem sig} (hk : k.sem = .dma sm) (R ι b : ℕ) {l : List Ob} (hd : dutiesK k R = {false})
    (hι : ι < 20) (hb : lvK k ι ≤ b) (hl : Above b l)
    {sp sp' : Space} {s s' : Shape} {e e' : EltTy} {src : Memref sig .tc sp s e} {dst : Memref sig .tc sp' s' e'} {hs hd' } {n : ℕ}
    (hn : n = amountK k R) (hN : dst.view.dmaCredit = amountK k R) {k' : PUnit → Pg F α} :
    iprop(invs m K ∗ levAts L lv ∗ cred (tallyAt (cell k c) ι n) ∗ Own c l ∗ pos k R c)
      ⊢ iprop(((Own c l ∗ pos k (R + 1) c ∗ payK m k c R false) -∗ WP c (k' ⟨⟩) Q) -∗ WP c (.op (.waitDma2 sm src dst hs hd') k') Q) := by
  subst hn
  unfold Own pos
  iintro ⟨#HI, #Hl, Hc, ⟨%W, HO⟩, Hat, #Hr⟩ Hk
  have h := Rounds.wp_wait_rest_token (Q := Q) 𝒱₀ ER (Rd m) (c : Thread nD τ) none (κ := K (k, c))
      (wpE_waitDma2_eq (defs := defs₀ (F := F)) 𝒱₀ (c : Thread nD τ) none Set.univ (sem := sm) (src := src) (dst := dst) (hsrc := hs) (hdst := hd')) (Set.mem_univ _) ι (O := sumO c l) (W := W) (R := R) (m := 0) (T := ∅)
      (k := k') (by rw [← hk, expect_one m k c R hd, hN, Nat.zero_add])
  rw [← hk, hN, rest_one m k c R hd] at h
  iapply h $$ [Hc HO Hat]
  · isplitr; · iapply (inv_at m K k c); iexact HI
    isplitl [Hc]; · iexact Hc
    isplitl [HO]; · iexact HO
    isplitr; · iapply (mayWait c k.sem ι b hι (by rw [show lv ((c : Thread nD τ), k.sem) ι = lvK k ι from lv_cell k c ι]; exact hb) l hl); iexact Hl
    iexact Hat
  iintro ⟨HO, Hat, #Hr', Hp⟩
  iapply Hk
  isplitl [HO]; · iexists _; iexact HO
  isplitl [Hat]
  · isplitl [Hat]; · iexact Hat
    iexact Hr'
  iexact Hp

/-- A wait for a credit. -/
theorem wp_wait_credit {α : Type} {Q : α → sProp (MT nD τ sig ℕ (Elt F) ℕ UU ℕ)} (d : Bool) (u : ℕ) {l : List Ob} (hu : u < 12) (hl : Above (16 * u + 17) l)
    {k' : PUnit → Pg F α} :
    iprop(invs m K ∗ levAts L lv ∗ cred (tallyAt (cell (.credit d) c) u 1) ∗ Own c l ∗ pos (.credit d) u c)
      ⊢ iprop(((Own c l ∗ pos (.credit d) (u + 1) c ∗ freeSlot d (u + 1) (nb d c)) -∗ WP c (k' ⟨⟩) Q) -∗ WP c (.op (.semWait (creditSem d) (1#32).toInt) k') Q) := by
  unfold Own pos
  iintro ⟨#HI, #Hl, Hc, ⟨%W, HO⟩, Hat, #Hr⟩ Hk
  have hd : dutiesK (.credit d) u = {false} := if_pos hu
  iapply (Rounds.wp_wait_rest_token 𝒱₀ ER (Rd m) (c : Thread nD τ) none (κ := K (.credit d, c))
      (wpE_semWait_eq 𝒱₀ (c : Thread nD τ) none Set.univ) (Set.mem_univ _) u (O := sumO c l) (W := W) (R := u) (m := 0) (T := ∅)
      (k := k') (by rw [expect_one m (.credit d) c u hd]; rfl)) $$ [Hc HO Hat]
  · isplitr; · iapply (inv_at m K (.credit d) c); iexact HI
    isplitl [Hc]; · iexact Hc
    isplitl [HO]; · iexact HO
    isplitr; · iapply (mayWait c (CK.sem (.credit d)) u (16 * u + 17) (by omega) (Nat.le_of_eq (lv_cell (.credit d) c u)) l hl); iexact Hl
    iexact Hat
  iintro ⟨HO, Hat, #Hr', Hp⟩
  iapply Hk
  isplitl [HO]; · iexists _; iexact HO
  isplitl [Hat]
  · isplitl [Hat]; · iexact Hat
    iexact Hr'
  iapply ((Entails.of_eq (rest_one m (.credit d) c u hd)).trans (show payK m (.credit d) c u false ⊢ freeSlot d (u + 1) (nb d c) from BI.Entails.refl _)) $$ Hp

/-- A signal that pays round `u` of the neighbour's credit cell with the slot of the next step. -/
theorem wp_signal_credit {α : Type} {Q : α → sProp (MT nD τ sig ℕ (Elt F) ℕ UU ℕ)} (d : Bool) (u : ℕ) {l : List Ob} (hu : u < 12) (n : Dev nD) (hn : n = fr d c)
    {k' : PUnit → Pg F α} :
    iprop(invs m K ∗ Own c (⟨.credit d, !d, u, 1⟩ :: l) ∗ dutyTok ER (cell (.credit d) (fr d c)) u false ∗ reached ER (cell (.credit d) (fr d c)) u ∗ freeSlot d (u + 1) c)
      ⊢ iprop((Own c l -∗ WP c (k' ⟨⟩) Q) -∗ WP c (.op (.semSignal (Dev.tc n) (creditSem d) (1#32).toInt) k') Q) := by
  subst hn
  unfold Own
  iintro ⟨#HI, ⟨%W, HO⟩, Ht, #Hr, Hp⟩ Hk
  have hd : dutiesK (.credit d) u = {false} := if_pos hu
  iapply (Rounds.wp_signal 𝒱₀ ER (Rd m) (c : Thread nD τ) none (dst := (fr d c : Thread nD τ)) (κ := K (.credit d, fr d c)) (r := u)
      (d := false) (by rw [show ((fr d c : Thread nD τ), SemLoc.reg (creditSem d)) = cell (.credit d) (fr d c) from rfl, duties_cell, hd]; exact Finset.mem_singleton_self _)
      ((amount_cell m (.credit d) (fr d c) u false).trans (by show 1 = _; decide)) u (sumO c l) rfl)
    $$ [HO Ht Hp]
  · isplitr; · iapply (inv_at m K (.credit d) (fr d c)); iexact HI
    isplitl [HO]; · iexact HO
    isplitl [Ht]; · iexact Ht
    isplitl [Hp]
    · iapply (Entails.of_eq (show freeSlot d (u + 1) c = (Rd m).payload (cell (.credit d) (fr d c)) u false from by
        rw [payload_cell]; show _ = freeSlot d (u + 1) (nb d (fr d c)); rw [nb_fr])) $$ Hp
    iexact Hr
  iintro HO
  iapply Hk
  iexists W; iexact HO

/-! ## The pieces -/

def posS (d : Bool) (u : ℕ) (c : Dev nD) : sProp 𝕄 := pos (.send d (sl (u + 1))) (u / 2) c
def posR (d : Bool) (u : ℕ) (c : Dev nD) : sProp 𝕄 := pos (.recv d (sl u)) (u / 2) c
/-- The tokens of the two payments of a copy, -/
def sendTok (d : Bool) (u : ℕ) (c : Dev nD) : sProp 𝕄 :=
  iprop(dutyTok ER (cell (.send d (sl (u + 1))) c) (u / 2) false ∗ dutyTok ER (cell (.recv d (sl u)) (nb d c)) (u / 2) false)
/-- of a credit signal; -/
def credTok (d : Bool) (u : ℕ) (c : Dev nD) : sProp 𝕄 := dutyTok ER (cell (.credit d) (fr d c)) u false
/-- what the waits of a step spend. -/
def recvCr (d : Bool) (u : ℕ) (c : Dev nD) : sProp 𝕄 := cred (tallyAt (cell (.recv d (sl u)) c) u (Nu u))
def sendCr (d : Bool) (u : ℕ) (c : Dev nD) : sProp 𝕄 := cred (tallyAt (cell (.send d (sl (u + 1))) c) 0 (Nu u))
def credCr (d : Bool) (u : ℕ) (c : Dev nD) : sProp 𝕄 := cred (tallyAt (cell (.credit d) c) u 1)
def credReach (d : Bool) (u : ℕ) (c : Dev nD) : sProp 𝕄 := reached ER (cell (.credit d) c) u
instance credReach_persistent (d u c) : BI.Persistent (credReach (F := F) d u c) := by unfold credReach; infer_instance

theorem creditWait_spec {Q : PUnit → sProp (MT nD τ sig ℕ (Elt F) ℕ UU ℕ)} (u : ℕ) {l : List Ob} (hu : u < 12) (hl : Above (16 * u + 17) l) :
    iprop(invs m K ∗ levAts L lv ∗ credCr false u c ∗ credCr true u c ∗ Own c l ∗ pos (.credit false) u c ∗ pos (.credit true) u c)
      ⊢ iprop(((Own c l ∗ pos (.credit false) (u + 1) c ∗ pos (.credit true) (u + 1) c ∗ freeSlot false (u + 1) (nb false c) ∗ freeSlot true (u + 1) (nb true c)) -∗ Q ⟨⟩)
        -∗ WP c creditWait Q) := by
  unfold creditWait credCr
  simp only [semWaitWord, Prog.bind_op, Prog.bind_ret]
  iintro ⟨#HI, #Hl, Hc1, Hc2, HO, Hp1, Hp2⟩ Hk
  iapply (wp_wait_credit m K c false u hu hl) $$ [Hc1 HO Hp1]
  · isplitr; · iexact HI
    isplitr; · iexact Hl
    isplitl [Hc1]; · iexact Hc1
    isplitl [HO]; · iexact HO
    iexact Hp1
  iintro ⟨HO, Hp1, Hf1⟩
  iapply (wp_wait_credit m K c true u hu hl) $$ [Hc2 HO Hp2]
  · isplitr; · iexact HI
    isplitr; · iexact Hl
    isplitl [Hc2]; · iexact Hc2
    isplitl [HO]; · iexact HO
    iexact Hp2
  iintro ⟨HO, Hp2, Hf2⟩
  iapply (WP_ret c)
  iapply Hk
  isplitl [HO]; · iexact HO
  isplitl [Hp1]; · iexact Hp1
  isplitl [Hp2]; · iexact Hp2
  isplitl [Hf1] <;> iassumption

theorem creditSignal_spec {Q : PUnit → sProp (MT nD τ sig ℕ (Elt F) ℕ UU ℕ)} (u : ℕ) {l : List Ob} (hu : u < 12) {dL dR : Dev nD} (hL : dL = fr false c) (hR : dR = fr true c) :
    iprop(invs m K ∗ Own c (obCred u l) ∗ (credTok false u c ∗ credTok true u c) ∗ (credReach false u (fr false c) ∗ credReach true u (fr true c))
        ∗ freeSlot false (u + 1) c ∗ freeSlot true (u + 1) c)
      ⊢ iprop((Own c l -∗ Q ⟨⟩) -∗ WP c (creditSignal dL dR) Q) := by
  unfold creditSignal credTok obCred credReach
  simp only [semSignalWord, Prog.bind_op, Prog.bind_ret]
  iintro ⟨#HI, HO, ⟨Ht1, Ht2⟩, ⟨#Hr1, #Hr2⟩, Hf1, Hf2⟩ Hk
  iapply (wp_signal_credit m K c false u hu dL hL) $$ [Ht1 HO Hf1]
  · isplitr; · iexact HI
    isplitl [HO]; · iexact HO
    isplitl [Ht1]; · iexact Ht1
    isplitr; · iexact Hr1
    iexact Hf1
  iintro HO
  iapply (wp_signal_credit m K c true u hu dR hR) $$ [Ht2 HO Hf2]
  · isplitr; · iexact HI
    isplitl [HO]; · iexact HO
    isplitl [Ht2]; · iexact Ht2
    isplitr; · iexact Hr2
    iexact Hf2
  iintro HO
  iapply (WP_ret c)
  iapply Hk; iexact HO

/-- The barrier: each neighbour is handed the slot its first copy lands in, the left one the rows of the scalar ring too. -/
theorem barrier_spec {Q : PUnit → sProp (MT nD τ sig ℕ (Elt F) ℕ UU ℕ)} {l : List Ob} (hl : Above 1 l) {dL dR : Dev nD} (hL : dL = fr false c) (hR : dR = fr true c) :
    iprop(invs m K ∗ levAts L lv ∗ Own c (obBar l) ∗ cred (tallyAt (cell .bar c) 0 2) ∗ pos .bar 0 c
        ∗ (dutyTok ER (cell .bar (fr false c)) 0 false ∗ dutyTok ER (cell .bar (fr true c)) 0 true)
        ∗ (reached ER (cell .bar (fr false c)) 0 ∗ reached ER (cell .bar (fr true c)) 0)
        ∗ (freeSlot false 0 c ∗ rowsFree c) ∗ freeSlot true 0 c)
      ⊢ iprop(((Own c l ∗ pos .bar 1 c ∗ (freeSlot false 0 (nb false c) ∗ rowsFree (nb false c)) ∗ freeSlot true 0 (nb true c)) -∗ Q ⟨⟩) -∗ WP c (barrierP dL dR) Q) := by
  subst hL hR
  unfold barrierP obBar Own pos
  simp only [semSignalWord, semWaitWord, Prog.bind_op, Prog.bind_ret]
  iintro ⟨#HI, #Hl, ⟨%W, HO⟩, Hc, ⟨Hat, #Hr⟩, ⟨Ht1, Ht2⟩, ⟨#Hr1, #Hr2⟩, Hf1, Hf2⟩ Hk
  iapply (Rounds.wp_signal 𝒱₀ ER (Rd m) (c : Thread nD τ) none (dst := (fr false c : Thread nD τ)) (κ := K (.bar, fr false c)) (r := 0)
      (d := false) (by rw [show ((fr false c : Thread nD τ), SemLoc.reg barSem) = cell .bar (fr false c) from rfl, duties_cell]; exact Finset.mem_univ _)
      ((amount_cell m .bar (fr false c) 0 false).trans (by decide)) 0 (sumO c (⟨.bar, false, 0, 1⟩ :: l)) rfl)
    $$ [HO Ht1 Hf1]
  · isplitr; · iapply (inv_at m K .bar (fr false c)); iexact HI
    isplitl [HO]; · iexact HO
    isplitl [Ht1]; · iexact Ht1
    isplitl [Hf1]
    · iapply (Entails.of_eq (show iprop(freeSlot false 0 c ∗ rowsFree c) = (Rd m).payload (cell .bar (fr false c)) 0 false from by
        rw [payload_cell]; show _ = iprop(freeSlot false 0 (nb false (fr false c)) ∗ rowsFree (nb false (fr false c))); rw [nb_fr])) $$ Hf1
    iexact Hr1
  iintro HO
  iapply (Rounds.wp_signal 𝒱₀ ER (Rd m) (c : Thread nD τ) none (dst := (fr true c : Thread nD τ)) (κ := K (.bar, fr true c)) (r := 0)
      (d := true) (by rw [show ((fr true c : Thread nD τ), SemLoc.reg barSem) = cell .bar (fr true c) from rfl, duties_cell]; exact Finset.mem_univ _)
      ((amount_cell m .bar (fr true c) 0 true).trans (by decide)) 0 (sumO c l) rfl)
    $$ [HO Ht2 Hf2]
  · isplitr; · iapply (inv_at m K .bar (fr true c)); iexact HI
    isplitl [HO]; · iexact HO
    isplitl [Ht2]; · iexact Ht2
    isplitl [Hf2]
    · iapply (Entails.of_eq (show freeSlot true 0 c = (Rd m).payload (cell .bar (fr true c)) 0 true from by
        rw [payload_cell]; show _ = freeSlot true 0 (nb true (fr true c)); rw [nb_fr])) $$ Hf2
    iexact Hr2
  iintro HO
  iapply (Rounds.wp_wait_rest_token 𝒱₀ ER (Rd m) (c : Thread nD τ) none (κ := K (.bar, c))
      (wpE_semWait_eq 𝒱₀ (c : Thread nD τ) none Set.univ) (Set.mem_univ _) 0 (O := sumO c l) (W := W) (R := 0) (m := 0) (T := ∅)
      (by rw [expect_bar m c]; rfl)) $$ [Hc HO Hat]
  · isplitr; · iapply (inv_at m K .bar c); iexact HI
    isplitl [Hc]; · iexact Hc
    isplitl [HO]; · iexact HO
    isplitr; · iapply (mayWait c (CK.sem .bar) 0 1 (by omega) (Nat.le_of_eq (lv_cell .bar c 0)) l hl); iexact Hl
    iexact Hat
  iintro ⟨HO, Hat, #Hr', Hp⟩
  iapply (WP_ret c)
  iapply Hk
  isplitl [HO]; · iexists _; iexact HO
  isplitl [Hat]
  · isplitl [Hat]; · iexact Hat
    iexact Hr'
  iapply (Entails.of_eq (rest_bar m c)) $$ Hp

/-- The copy of step `u` in direction `d`, whichever of the two buffers it moves: half of the source is kept. -/
theorem wp_send_slot {α : Type} {Q : α → sProp (MT nD τ sig ℕ (Elt F) ℕ UU ℕ)} (d : Bool) (u : ℕ) (hu : u < 13) {e : EltTy} (M : Memref sig .tc .vmem S2x256x8192 e)
    (X : Dev nD → S1x256x8192.Idx → Elt F e) (hblk : ∀ s c' q o, blk m d u s c' q o = held M s c' q (X o)) (hany : ∀ n, anyBlk (F := F) d u n = freeH M (sl u) n)
    (hN : (slot M (sl u)).view.dmaCredit = Nu u) {l : List Ob} (n : Dev nD) (hn : n = nb d c)
    {hsc : (slot M (sl u) : Memref sig (Dev.tc n : Thread nD τ).2.kind .vmem S256x8192 e).view.ref.isScScratch = false} {hsrc : (slot M (sl (u + 1))).view.WordExact} {hdst : (slot M (sl u)).view.WordExact}
    {hsem : DmaTarget.Typed .vmem (.dma (recvSem d (sl u))) (.remote (Dev.tc n : Thread nD τ) (slot M (sl u) : Memref sig (Dev.tc n : Thread nD τ).2.kind .vmem S256x8192 e) (.dma (sendSem d (sl (u + 1)))) hsc)}
    {k' : PUnit → Pg F α} :
    iprop(invs m K ∗ Own c (⟨.recv d (sl u), d, u, Nu u⟩ :: l) ∗ sendTok d u c ∗ reached ER (cell (.send d (sl (u + 1))) c) (u / 2) ∗ credReach d u c
        ∗ held M (sl (u + 1)) c fullShare (X c) ∗ freeSlot d u (nb d c))
      ⊢ iprop(((Own c l ∗ sendCr d u c ∗ held M (sl (u + 1)) c fullShare.right (X c)) -∗ WP c (k' ⟨⟩) Q)
        -∗ WP c (.op (.enqueueDma (slot M (sl (u + 1))) (.remote (Dev.tc n : Thread nD τ) (slot M (sl u)) (.dma (sendSem d (sl (u + 1)))) hsc) (.dma (recvSem d (sl u))) hsrc hdst hsem) k') Q) := by
  subst hn
  unfold Own sendTok freeSlot sendCr credReach
  rw [hany]
  unfold freeH
  iintro ⟨#HI, ⟨%W, HO⟩, ⟨Ht1, Ht2⟩, #Hr1, #Hrc, Hs, ⟨%Y, Hd⟩, #Hr2⟩ Hk
  ihave Hs' := (own_halves c (M.slice (slotR (sl (u + 1))) (fun _ => rfl)) (X c)) $$ Hs
  icases Hs' with ⟨HsL, HsR⟩
  ihave HsL' := (Entails.of_eq (own_squeeze c (M.slice (slotR (sl (u + 1))) (fun _ => rfl)) S256x8192 squeezes_S1x256x8192_S256x8192 fullShare.left (X c)).symm) $$ HsL
  ihave Hd' := (Entails.of_eq (own_squeeze (nb d c) (M.slice (slotR (sl u)) (fun _ => rfl)) S256x8192 squeezes_S1x256x8192_S256x8192 fullShare Y).symm) $$ Hd
  have hd₁ : dutiesK (.send d (sl (u + 1))) (u / 2) = {false} := if_pos (by unfold sl; dsimp only; omega)
  have hd₂ : dutiesK (.recv d (sl u)) (u / 2) = {false} := if_pos (by unfold sl; dsimp only; omega)
  iapply (wp_send_own (Q := Q) c (Rd m) (nb d c) (slot M (sl (u + 1))) (slot M (sl u)) (P := reached ER (cell (.credit d) c) u) (r₁ := u / 2) (r₂ := u / 2)
      (κ₁ := K (.send d (sl (u + 1)), c)) (κ₂ := K (.recv d (sl u), nb d c)) (W := W)
      (by rw [show ((c : Thread nD τ), SemLoc.dma (sendSem d (sl (u + 1)))) = cell (.send d (sl (u + 1))) c from rfl, duties_cell, hd₁]; exact Finset.mem_singleton_self _)
      (by rw [show ((nb d c : Thread nD τ), SemLoc.dma (recvSem d (sl u))) = cell (.recv d (sl u)) (nb d c) from rfl, duties_cell, hd₂]; exact Finset.mem_singleton_self _)
      u 0 (Nu u) hN
      ((amount_cell m (.send d (sl (u + 1))) c (u / 2) false).trans (by show Nu (uS _ _) = _; rw [uS_eq]))
      ((amount_cell m (.recv d (sl u)) (nb d c) (u / 2) false).trans (by show Nu (uR _ _) = _; rw [uR_eq]))
      (sumO c l) rfl
      (by
        rw [show (Rd m).payload ((c : Thread nD τ), SemLoc.dma (sendSem d (sl (u + 1)))) (u / 2) false = blk m d (uS (sl (u + 1)) (u / 2)) (sl (u + 1)) c fullShare.left c from
          payload_cell m (.send d (sl (u + 1))) c (u / 2) false, uS_eq, hblk]
        exact Entails.of_eq (own_squeeze c (M.slice (slotR (sl (u + 1))) (fun _ => rfl)) S256x8192 squeezes_S1x256x8192_S256x8192 fullShare.left (X c)))
      (by
        rw [show (Rd m).payload ((nb d c : Thread nD τ), SemLoc.dma (recvSem d (sl u))) (u / 2) false
            = iprop(blk m d (uR (sl u) (u / 2)) (sl u) (nb d c) fullShare (fr d (nb d c)) ∗ reached ER (cell (.credit d) (fr d (nb d c))) (uR (sl u) (u / 2))) from
          payload_cell m (.recv d (sl u)) (nb d c) (u / 2) false, uR_eq, hblk, fr_nb]
        exact sep_mono_left (Entails.of_eq (own_squeeze (nb d c) (M.slice (slotR (sl u)) (fun _ => rfl)) S256x8192 squeezes_S1x256x8192_S256x8192 fullShare (X c)))))
    $$ [HO Ht1 Ht2 HsL' Hd']
  · isplitr; · iapply (inv_at m K (.send d (sl (u + 1))) c); iexact HI
    isplitr; · iapply (inv_at m K (.recv d (sl u)) (nb d c)); iexact HI
    isplitl [HsL']; · iexact HsL'
    isplitl [Hd']
    · isplitl [Hd']; · iexact Hd'
      iexact Hrc
    isplitl [HO]; · iexact HO
    isplitl [Ht1]; · iexact Ht1
    isplitr; · iexact Hr1
    isplitl [Ht2]; · iexact Ht2
    iexact Hr2
  iintro ⟨Hc, HO⟩
  iapply Hk
  isplitl [HO]; · iexists W; iexact HO
  isplitl [Hc]; · iexact Hc
  iexact HsR

end Cert.Proof

end
-- ==== Proof.Pieces.lean ====
/-
  The remaining pieces of the body, each as one entailment: the copies of a slot and their waits, the loads of `x`, of the
  weights and of the seeds, the product added strip by strip, the maximum, the hops of the scalar ring, the quantiser and
  the dequantised stores.
-/
module

public import proofs.«01_k».proof.Proof.Proto

@[expose] public section

set_option maxRecDepth 16384

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (K : CK × Dev nD → ℕ) (c : Dev nD)

/-! ## A slot sent and received -/

theorem blk_comm (d : Bool) (u : ℕ) (hu : u ≤ 5) (s : Fin 2) (c' : Dev nD) (q : PosShare TreeShare) (o : Dev nD) :
    blk m d u s c' q o = held (commM d) s c' q (cc m d u o) := if_pos hu
theorem any_comm (d : Bool) (u : ℕ) (hu : u ≤ 5) (n : Dev nD) : anyBlk (F := F) d u n = freeH (commM d) (sl u) n := if_pos hu
theorem blk_q (d : Bool) (u : ℕ) (hu : 6 ≤ u) (s : Fin 2) (c' : Dev nD) (q : PosShare TreeShare) (o : Dev nD) :
    blk m d u s c' q o = held (qM d) s c' q (qq m d (u - 6) o) := if_neg (by omega)
theorem any_q (d : Bool) (u : ℕ) (hu : 6 ≤ u) (n : Dev nD) : anyBlk (F := F) d u n = freeH (qM d) (sl u) n := if_neg (by omega)
theorem Nu_comm (u : ℕ) (hu : u ≤ 5) : Nu u = Nb := if_pos hu
theorem Nu_q (u : ℕ) (hu : 6 ≤ u) : Nu u = Nq := if_neg (by omega)

/-- What a device holds for the copy of step `u`: the token of the two payments, its own send cell at the round, its
    credit cell at the round, the slot it lands in. -/
def sendRight (d : Bool) (u : ℕ) (c : Dev nD) : sProp 𝕄 :=
  iprop(sendTok d u c ∗ reached ER (cell (.send d (sl (u + 1))) c) (u / 2) ∗ credReach d u c ∗ freeSlot d u (nb d c))

theorem sendComm_spec {Q : PUnit → sProp (MT nD τ sig ℕ (Elt F) ℕ UU ℕ)} (d : Bool) (u : ℕ) (hu : u ≤ 5) {l : List Ob} (n : Dev nD) (hn : n = nb d c) :
    iprop(invs m K ∗ Own c (⟨.recv d (sl u), d, u, Nu u⟩ :: l) ∗ sendRight d u c ∗ held (commM d) (sl (u + 1)) c fullShare (cc m d u c))
      ⊢ iprop(((Own c l ∗ sendCr d u c ∗ held (commM d) (sl (u + 1)) c fullShare.right (cc m d u c)) -∗ Q ⟨⟩) -∗ WP c (sendComm d (sl (u + 1)) (sl u) n) Q) := by
  unfold sendComm sendRight
  iintro ⟨#HI, HO, ⟨Ht, #Hr, #Hc, Hf⟩, Hs⟩ Hk
  iapply (wp_send_slot m K c d u (by omega) (commM d) (cc m d u) (blk_comm m d u hu) (any_comm d u hu) ((Nb_eq d _).trans (Nu_comm u hu).symm) n hn) $$ [HO Ht Hf Hs]
  · isplitr; · iexact HI
    isplitl [HO]; · iexact HO
    isplitl [Ht]; · iexact Ht
    isplitr; · iexact Hr
    isplitr; · iexact Hc
    isplitl [Hs]; · iexact Hs
    iexact Hf
  iintro H
  iapply (WP_ret c)
  iapply Hk; iexact H

theorem sendQ_spec {Q : PUnit → sProp (MT nD τ sig ℕ (Elt F) ℕ UU ℕ)} (d : Bool) (u : ℕ) (hu : 6 ≤ u) (hu' : u < 13) {l : List Ob} (n : Dev nD) (hn : n = nb d c) :
    iprop(invs m K ∗ Own c (⟨.recv d (sl u), d, u, Nu u⟩ :: l) ∗ sendRight d u c ∗ held (qM d) (sl (u + 1)) c fullShare (qq m d (u - 6) c))
      ⊢ iprop(((Own c l ∗ sendCr d u c ∗ held (qM d) (sl (u + 1)) c fullShare.right (qq m d (u - 6) c)) -∗ Q ⟨⟩) -∗ WP c (sendQ d (sl (u + 1)) (sl u) n) Q) := by
  unfold sendQ sendRight
  iintro ⟨#HI, HO, ⟨Ht, #Hr, #Hc, Hf⟩, Hs⟩ Hk
  iapply (wp_send_slot m K c d u hu' (qM d) (qq m d (u - 6)) (blk_q m d u hu) (any_q d u hu) ((Nq_eq d _).trans (Nu_q u hu).symm) n hn) $$ [HO Ht Hf Hs]
  · isplitr; · iexact HI
    isplitl [HO]; · iexact HO
    isplitl [Ht]; · iexact Ht
    isplitr; · iexact Hr
    isplitr; · iexact Hc
    isplitl [Hs]; · iexact Hs
    iexact Hf
  iintro H
  iapply (WP_ret c)
  iapply Hk; iexact H

/-- The two waits of a step: the source slot whole again, the landing slot with what the neighbour held. -/
theorem wait_pair {Q : PUnit → sProp (MT nD τ sig ℕ (Elt F) ℕ UU ℕ)} (d : Bool) (u : ℕ) (hu : u < 13) {e : EltTy} (M : Memref sig .tc .vmem S2x256x8192 e)
    (X : Dev nD → S1x256x8192.Idx → Elt F e) (hblk : ∀ s c' q o, blk m d u s c' q o = held M s c' q (X o)) (hN : ∀ s, (slot M s).view.dmaCredit = Nu u)
    {l : List Ob} (hl : Above (16 * u + 2) l)
    {h1 : (slot M (sl u)).view.WordExact} {h2 : (slot M (sl (u + 1))).view.WordExact} {h3 : (slot M (sl (u + 1))).view.WordExact} {h4 : (slot M (sl u)).view.WordExact} :
    iprop(invs m K ∗ levAts L lv ∗ Own c l ∗ sendCr d u c ∗ recvCr d u c ∗ posS d u c ∗ posR d u c ∗ held M (sl (u + 1)) c fullShare.right (X c))
      ⊢ iprop(((Own c l ∗ posS d (u + 2) c ∗ posR d (u + 2) c ∗ credReach d u (fr d c) ∗ held M (sl (u + 1)) c fullShare (X c) ∗ held M (sl u) c fullShare (X (fr d c))) -∗ Q ⟨⟩)
        -∗ WP c (.op (.waitDma2 (sendSem d (sl (u + 1))) (slot M (sl u)) (slot M (sl (u + 1))) h1 h2) fun _ =>
            .op (.waitDma2 (recvSem d (sl u)) (slot M (sl (u + 1))) (slot M (sl u)) h3 h4) .ret) Q) := by
  unfold sendCr recvCr posS posR credReach
  iintro ⟨#HI, #Hl, HO, Hcs, Hcr, HpS, HpR, HsR⟩ Hk
  have hd₁ : dutiesK (.send d (sl (u + 1))) (u / 2) = {false} := if_pos (by unfold sl; dsimp only; omega)
  have hd₂ : dutiesK (.recv d (sl u)) (u / 2) = {false} := if_pos (by unfold sl; dsimp only; omega)
  have ha₁ : Nu u = amountK (.send d (sl (u + 1))) (u / 2) := by show _ = Nu (uS _ _); rw [uS_eq]
  have ha₂ : Nu u = amountK (.recv d (sl u)) (u / 2) := by show _ = Nu (uR _ _); rw [uR_eq]
  have hs : sl (u + 2 + 1) = sl (u + 1) := sl_two (u + 1)
  have hr : sl (u + 2) = sl u := sl_two u
  have hdiv : (u + 2) / 2 = u / 2 + 1 := by omega
  rw [hs, hr, hdiv]
  iapply (wp_wait_dma m K c (.send d (sl (u + 1))) rfl (u / 2) 0 0 hd₁ (by omega) (Nat.le_refl 0) (fun o ho => ⟨by have := (hl o ho).1; omega, (hl o ho).2⟩) ha₁ ((hN _).trans ha₁)) $$ [HO Hcs HpS]
  · isplitr; · iexact HI
    isplitr; · iexact Hl
    isplitl [Hcs]; · iexact Hcs
    isplitl [HO]; · iexact HO
    iexact HpS
  iintro ⟨HO, HpS, Hpay⟩
  ihave HsL := (show payK m (.send d (sl (u + 1))) c (u / 2) false ⊢ held M (sl (u + 1)) c fullShare.left (X c) from
    Entails.of_eq (by show blk m d (uS _ _) _ c fullShare.left c = _; rw [uS_eq, hblk])) $$ Hpay
  iapply (wp_wait_dma m K c (.recv d (sl u)) rfl (u / 2) u (16 * u + 2) hd₂ (by omega) (Nat.le_refl _) hl ha₂ ((hN _).trans ha₂)) $$ [HO Hcr HpR]
  · isplitr; · iexact HI
    isplitr; · iexact Hl
    isplitl [Hcr]; · iexact Hcr
    isplitl [HO]; · iexact HO
    iexact HpR
  iintro ⟨HO, HpR, Hpay⟩
  ihave Hp := (show payK m (.recv d (sl u)) c (u / 2) false ⊢ iprop(held M (sl u) c fullShare (X (fr d c)) ∗ reached ER (cell (.credit d) (fr d c)) u) from
    Entails.of_eq (by show iprop(blk m d (uR _ _) _ c fullShare (fr d c) ∗ reached ER (cell (.credit d) (fr d c)) (uR _ _)) = _; rw [uR_eq, hblk])) $$ Hpay
  icases Hp with ⟨Hd, Hrc⟩
  iapply (WP_ret c)
  iapply Hk
  isplitl [HO]; · iexact HO
  isplitl [HpS]; · iexact HpS
  isplitl [HpR]; · iexact HpR
  isplitl [Hrc]; · iexact Hrc
  isplitl [HsL HsR]
  · iapply (own_join c (M.slice (slotR (sl (u + 1))) (fun _ => rfl)) (X c)) $$ [HsL HsR]
    isplitl [HsL] <;> iassumption
  iexact Hd

theorem waitComm_spec {Q : PUnit → sProp (MT nD τ sig ℕ (Elt F) ℕ UU ℕ)} (d : Bool) (u : ℕ) (hu : u ≤ 5) {l : List Ob} (hl : Above (16 * u + 2) l) :
    iprop(invs m K ∗ levAts L lv ∗ Own c l ∗ sendCr d u c ∗ recvCr d u c ∗ posS d u c ∗ posR d u c ∗ held (commM d) (sl (u + 1)) c fullShare.right (cc m d u c))
      ⊢ iprop(((Own c l ∗ posS d (u + 2) c ∗ posR d (u + 2) c ∗ credReach d u (fr d c) ∗ held (commM d) (sl (u + 1)) c fullShare (cc m d u c) ∗ held (commM d) (sl u) c fullShare (cc m d u (fr d c))) -∗ Q ⟨⟩)
        -∗ WP c (waitComm d (sl (u + 1)) (sl u)) Q) :=
  wait_pair m K c d u (by omega) (commM d) (cc m d u) (blk_comm m d u hu) (fun s => (Nb_eq d s).trans (Nu_comm u hu).symm) hl
theorem waitQ_spec {Q : PUnit → sProp (MT nD τ sig ℕ (Elt F) ℕ UU ℕ)} (d : Bool) (u : ℕ) (hu : 6 ≤ u) (hu' : u < 13) {l : List Ob} (hl : Above (16 * u + 2) l) :
    iprop(invs m K ∗ levAts L lv ∗ Own c l ∗ sendCr d u c ∗ recvCr d u c ∗ posS d u c ∗ posR d u c ∗ held (qM d) (sl (u + 1)) c fullShare.right (qq m d (u - 6) c))
      ⊢ iprop(((Own c l ∗ posS d (u + 2) c ∗ posR d (u + 2) c ∗ credReach d u (fr d c) ∗ held (qM d) (sl (u + 1)) c fullShare (qq m d (u - 6) c) ∗ held (qM d) (sl u) c fullShare (qq m d (u - 6) (fr d c))) -∗ Q ⟨⟩)
        -∗ WP c (waitQ d (sl (u + 1)) (sl u)) Q) :=
  wait_pair m K c d u hu' (qM d) (qq m d (u - 6)) (blk_q m d u hu) (fun s => (Nq_eq d s).trans (Nu_q u hu).symm) hl

/-! ## Local copies -/

/-- A slice of an owned memref, to be given back. -/
theorem own_take {sp : Space} {s : Shape} {e : EltTy} (M : Memref sig .tc sp s e) (r : Rect s) (hr : ∀ a, r.stride a = 1) (q : PosShare TreeShare) (X : s.Idx → Elt F e) :
    (own c M q X : sProp 𝕄) ⊢ iprop(own c (M.slice r hr) q (fun i => X (r.emb i)) ∗ (own c (M.slice r hr) q (fun i => X (r.emb i)) -∗ own c M q X)) := by
  iintro H
  ihave H' := (owns_slice_split (c : Thread nD τ) M q r hr X) $$ H
  icases H' with ⟨Hs, ⟨%f, %hf, Hr⟩⟩
  isplitl [Hs]; · iexact Hs
  iintro Hs
  ihave H := (owns_slice_join (c : Thread nD τ) M q r hr (fun i => X (r.emb i)) f) $$ [Hs Hr]
  · isplitl [Hs] <;> iassumption
  have hx : r.overlay (M.view.read (Elt F) f) (fun i => X (r.emb i)) = X := by
    funext j
    by_cases hj : j ∈ r.set
    · rw [← Rect.map_emb_univ, Finset.mem_map] at hj
      obtain ⟨i, -, rfl⟩ := hj
      rw [Rect.overlay_emb]
    · rw [Rect.overlay_of_not_mem _ _ _ hj, hf]
  rw [hx]
  iexact H

/-- The wait for a local copy. -/
theorem wp_wait_local {α : Type} {Q : α → sProp (MT nD τ sig ℕ (Elt F) ℕ UU ℕ)} {sm : DmaSem sig} (h0 : lv ((c : Thread nD τ), .dma sm) 0 ≤ 0) {l : List Ob} (hl : Above 0 l)
    {sp sp' : Space} {s s' : Shape} {e e' : EltTy} {src : Memref sig .tc sp s e} {dst : Memref sig .tc sp' s' e'} {hs hd'} {N : ℕ} (hN : dst.view.dmaCredit = N)
    {D : sProp (MT nD τ sig ℕ (Elt F) ℕ UU ℕ)} {k' : PUnit → Pg F α} :
    iprop(Transfers.Flight EC (c : Thread nD τ) (.dma sm) 0 N D ∗ levAts L lv ∗ Own c l)
      ⊢ iprop(((Own c l ∗ D ∗ semVal ((c : Thread nD τ), .dma sm) 0) -∗ WP c (k' ⟨⟩) Q) -∗ WP c (.op (.waitDma2 sm src dst hs hd') k') Q) := by
  unfold Own
  iintro ⟨HF, #Hl, ⟨%W, HO⟩⟩ Hk
  iapply (Transfers.wp_waitLocalO EC 𝒱₀ (c : Thread nD τ) none 0 hN) $$ [HF HO]
  · isplitl [HF]; · iexact HF
    isplitl [HO]; · iexact HO
    iapply (mayWait c (.dma sm) 0 0 (by omega) h0 l hl); iexact Hl
  iintro ⟨HD, Hv, HO⟩
  iapply Hk
  isplitl [HO]; · iexists _; iexact HO
  isplitl [HD] <;> iassumption

theorem lv_copy (s : Fin 2) : lv ((c : Thread nD τ), .dma (copySem s)) 0 ≤ 0 := by
  unfold lv; rw [show ofSem (SemLoc.dma (copySem s)) = none from by revert s; decide]
theorem lv_seed (d : Bool) : lv ((c : Thread nD τ), .dma (seedSem d)) 0 ≤ 0 := by cases d <;> exact lv_copy c _
theorem lv_store (d : Bool) : lv ((c : Thread nD τ), .dma (storeSem d)) 0 ≤ 0 := by
  unfold lv; rw [show ofSem (SemLoc.dma (storeSem d)) = none from by revert d; decide]

/-- The share of `x` and of the weights each of the two copies under way holds. -/
def hs (d : Bool) : PosShare TreeShare := cond d fullShare.right fullShare.left

abbrev zCopy (s : Fin 2) (c : Dev nD) : sProp 𝕄 := semVal ((c : Thread nD τ), .dma (copySem s)) 0
abbrev zSeed (d : Bool) (c : Dev nD) : sProp 𝕄 := semVal ((c : Thread nD τ), .dma (seedSem d)) 0
abbrev zStore (d : Bool) (c : Dev nD) : sProp 𝕄 := semVal ((c : Thread nD τ), .dma (storeSem d)) 0

/-! ### The rows of `x` -/

def xRest (d : Bool) (c : Dev nD) : sProp 𝕄 := iprop(own c xA (hs d) (xs m c) ∗ zSeed d c)
def xIdle (d : Bool) (c : Dev nD) : sProp 𝕄 := iprop(xRest m d c ∗ ∃ X, own c (xM d) fullShare X)
def Nx (d : Bool) : ℕ := (xM d).view.dmaCredit
theorem Nx_pos (d : Bool) : 0 < Nx d := by cases d <;> exact View.dmaCredit_pos _ (by decide)
def xBusy (d : Bool) (o : XOff) (c : Dev nD) : sProp 𝕄 :=
  iprop(Transfers.Flight EC (c : Thread nD τ) (.dma (seedSem d)) 0 (Nx d) iprop(own c (xM d) fullShare (xrows m o c) ∗ own c (xSrc o.off o.inb) (hs d) (xrows m o c))
    ∗ (own c (xSrc o.off o.inb) (hs d) (xrows m o c) -∗ own c xA (hs d) (xs m c)))

theorem xStart_spec {Q : PUnit → sProp (MT nD τ sig ℕ (Elt F) ℕ UU ℕ)} (d : Bool) (o : XOff) :
    xIdle m d c ⊢ iprop((xBusy m d o c -∗ Q ⟨⟩) -∗ WP c (xStart d o.off o.inb) Q) := by
  unfold xIdle xRest xBusy xStart
  iintro ⟨⟨Hx, Hv⟩, ⟨%X, HM⟩⟩ Hk
  ihave Hx' := (own_take c xA (Rect.unit (s := S4096x512) o.off S256x512.size o.inb) (fun _ => rfl) (hs d) (xs m c)) $$ Hx
  icases Hx' with ⟨Hs, Hw⟩
  iapply (wp_copy_own c (xSrc o.off o.inb) (xM d) (q := hs d) (X := xrows m o c) (Y := X) (Nx d) rfl (Nx_pos d)) $$ [Hs HM Hv]
  · isplitl [Hs]; · iexact Hs
    isplitl [HM]; · iexact HM
    iexact Hv
  iintro HF
  iapply (WP_ret c)
  iapply Hk
  isplitl [HF]; · iexact HF
  iexact Hw

theorem xWait_spec {Q : PUnit → sProp (MT nD τ sig ℕ (Elt F) ℕ UU ℕ)} (d : Bool) (o : XOff) {l : List Ob} (hl : Above 0 l) :
    iprop(levAts L lv ∗ Own c l ∗ xBusy m d o c)
      ⊢ iprop(((Own c l ∗ xRest m d c ∗ own c (xM d) fullShare (xrows m o c)) -∗ Q ⟨⟩) -∗ WP c (xWait d o.off o.inb) Q) := by
  unfold xRest xBusy xWait
  iintro ⟨#Hl, HO, ⟨HF, Hw⟩⟩ Hk
  iapply (wp_wait_local c (lv_seed c d) hl (N := Nx d) rfl) $$ [HF HO]
  · isplitl [HF]; · iexact HF
    isplitr; · iexact Hl
    iexact HO
  iintro ⟨HO, ⟨HM, Hs⟩, Hv⟩
  ihave Hx := Hw $$ Hs
  iapply (WP_ret c)
  iapply Hk
  isplitl [HO]; · iexact HO
  isplitl [Hx Hv]
  · isplitl [Hx] <;> iassumption
  iexact HM

end Cert.Proof

end
-- ==== Proof.Strips.lean ====
/-
  The product of a block of `x` with the weights, added to a slot strip by strip.
-/
module

public import proofs.«01_k».proof.Proof.Pieces

@[expose] public section

set_option maxRecDepth 16384

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (K : CK × Dev nD → ℕ) (c : Dev nD)

/-- An index of a rectangle of stride one, placed. -/
theorem uemb {s : Shape} (off size : Fin s.rank → Nat) (inb : ∀ a, off a + size a ≤ s.size a) (j : (Rect.unit off size inb).shape.Idx) (a : Fin s.rank) :
    ((Rect.unit off size inb).emb j a).val = off a + (j a).val := by
  rw [Rect.emb_apply]; show off a + 1 * (j a).val = _; omega

/-! ## The strips -/

theorem kOf_sIx (k : Fin 4) (j : S1x256x2048.Idx) : kOf (sIx k j) = k := by
  apply Fin.ext
  show ((sR k).emb j 2).val / 2048 = k.val
  rw [show ((sR k).emb j 2).val = 2048 * k.val + (j 2).val from uemb _ _ _ _ _]
  have h : (j 2).val < 2048 := (j 2).isLt
  omega
theorem inS_sIx (k : Fin 4) (j : S1x256x2048.Idx) : inS (sIx k j) = j := by
  funext a
  apply Fin.ext
  match a with
  | ⟨0, _⟩ => exact (uemb _ _ _ _ _).trans (Nat.zero_add _)
  | ⟨1, _⟩ => exact (uemb _ _ _ _ _).trans (Nat.zero_add _)
  | ⟨2, _⟩ =>
    show ((sR k).emb j 2).val % 2048 = (j 2).val
    rw [show ((sR k).emb j 2).val = 2048 * k.val + (j 2).val from uemb _ _ _ _ _]
    have h : (j 2).val < 2048 := (j 2).isLt
    omega
theorem sIx_inS (i : S1x256x8192.Idx) : sIx (kOf i) (inS i) = i := by
  funext a
  apply Fin.ext
  match a with
  | ⟨0, _⟩ => exact (uemb _ _ _ _ _).trans (Nat.zero_add _)
  | ⟨1, _⟩ => exact (uemb _ _ _ _ _).trans (Nat.zero_add _)
  | ⟨2, _⟩ =>
    show ((sR (kOf i)).emb (inS i) 2).val = (i 2).val
    rw [show ((sR (kOf i)).emb (inS i) 2).val = 2048 * ((i 2).val / 2048) + (i 2).val % 2048 from uemb _ _ _ _ _]
    omega
theorem strip_emb (r : Fin 2) (k : Fin 4) (j : (stripR r k).shape.Idx) : (slotR r).emb (sIx k j) = (stripR r k).emb j := by
  funext a
  apply Fin.ext
  rw [uemb, uemb, uemb]
  match a with
  | ⟨0, _⟩ => exact congrArg (_ + ·) (Nat.zero_add _)
  | ⟨1, _⟩ => exact congrArg (_ + ·) (Nat.zero_add _)
  | ⟨2, _⟩ => exact Nat.zero_add _

theorem mac_sIx (acc : S1x256x8192.Idx → Elt F .bf16) (x : S256x512.Idx → Elt F .f32) (w : S512x8192.Idx → Elt F .bf16) (k : Fin 4) (j : S1x256x2048.Idx) :
    mac acc x w (sIx k j) = k0_pay5 (F := F) (fun j => acc (sIx k j)) x (fun j => w ((wstripR k).emb j)) j := by
  unfold mac; rw [kOf_sIx, inS_sIx]

/-- The slot with the first `n` strips done. -/
def pm (acc : S1x256x8192.Idx → Elt F .bf16) (x : S256x512.Idx → Elt F .f32) (w : S512x8192.Idx → Elt F .bf16) (n : ℕ) : S1x256x8192.Idx → Elt F .bf16 :=
  fun i => if (kOf i).val < n then mac acc x w i else acc i
theorem pm_zero (acc : S1x256x8192.Idx → Elt F .bf16) (x w) : pm acc x w 0 = acc := by
  funext i; exact if_neg (Nat.not_lt_zero _)
theorem pm_four (acc : S1x256x8192.Idx → Elt F .bf16) (x w) : pm acc x w ((3 : Fin 4).val + 1) = mac acc x w := by
  funext i; exact if_pos (kOf i).isLt

theorem full_emb (inb) (i : S256x512.Idx) : (Rect.unit (s := S256x512) ![0, 0] S256x512.size inb).emb i = i := by
  funext a
  apply Fin.ext
  rw [uemb]
  match a with
  | ⟨0, _⟩ => exact Nat.zero_add _
  | ⟨1, _⟩ => exact Nat.zero_add _

theorem strip_spec {Q : PUnit → sProp (MT nD τ sig ℕ (Elt F) ℕ UU ℕ)} (d : Bool) (r : Fin 2) (k : Fin 4) (acc : S1x256x8192.Idx → Elt F .bf16) (x : S256x512.Idx → Elt F .f32) (w : S512x8192.Idx → Elt F .bf16) :
    iprop(held (commM d) r c fullShare (pm acc x w k.val) ∗ own c (xM d) fullShare x ∗ own c wM fullShare w)
      ⊢ iprop(((held (commM d) r c fullShare (pm acc x w (k.val + 1)) ∗ own c (xM d) fullShare x ∗ own c wM fullShare w) -∗ Q ⟨⟩) -∗ WP c (strip d r k) Q) := by
  unfold strip
  simp only [Prog.lift, Prog.bind_op, Prog.bind_ret]
  iintro ⟨Hs, Hx, Hw⟩ Hk
  iapply (wp_load_sub c (commM d) (slotR r) (fun _ => rfl) (stripR r k) (sIx k) (strip_emb r k)) $$ Hs
  iintro Hs
  iapply (wp_load_own c (xM d) _) $$ Hx
  iintro Hx
  iapply (wp_load_own c wM _) $$ Hw
  iintro Hw
  iapply (wp_load_sub c (commM d) (slotR r) (fun _ => rfl) (stripR r k) (sIx k) (strip_emb r k)) $$ Hs
  iintro Hs
  iapply (wp_store_sub c (commM d) (slotR r) (fun _ => rfl) (stripR r k) (sIx k) (strip_emb r k) (pm acc x w (k.val + 1))
    (by
      intro j
      show pm acc x w (k.val + 1) (sIx k j) = k0_pay5 (fun j => pm acc x w k.val (sIx k j)) (fun i => x ((Rect.unit (s := S256x512) ![0, 0] S256x512.size inb_S256x512_S256x512_0_0).emb i)) (fun j => w ((wstripR k).emb j)) j
      have hx : (fun i => x ((Rect.unit (s := S256x512) ![0, 0] S256x512.size inb_S256x512_S256x512_0_0).emb i)) = x := funext fun i => congrArg x (full_emb _ i)
      rw [show pm acc x w (k.val + 1) (sIx k j) = mac acc x w (sIx k j) from if_pos (by rw [kOf_sIx]; omega), mac_sIx,
        show (fun j => pm acc x w k.val (sIx k j)) = fun j => acc (sIx k j) from funext fun j => if_neg (by rw [kOf_sIx]; omega)]
      exact congrArg (fun x' => k0_pay5 (F := F) (fun j => acc (sIx k j)) x' (fun j => w ((wstripR k).emb j)) j) hx.symm)
    (by
      intro i hi
      have hne : (kOf i).val ≠ k.val := by
        intro h
        exact hi (inS i) ((congrArg (fun k => sIx k (inS i)) (Fin.ext h : kOf i = k)).symm.trans (sIx_inS i))
      show (if (kOf i).val < k.val + 1 then mac acc x w i else acc i) = if (kOf i).val < k.val then mac acc x w i else acc i
      by_cases h : (kOf i).val < k.val
      · rw [if_pos h, if_pos (by omega)]
      · rw [if_neg h, if_neg (by omega)])) $$ Hs
  iintro Hs
  iapply (WP_ret c)
  iapply Hk
  isplitl [Hs]; · iexact Hs
  isplitl [Hx] <;> iassumption

theorem strips_spec {Q : PUnit → sProp (MT nD τ sig ℕ (Elt F) ℕ UU ℕ)} (d : Bool) (r : Fin 2) (acc : S1x256x8192.Idx → Elt F .bf16) (x : S256x512.Idx → Elt F .f32) (w : S512x8192.Idx → Elt F .bf16) :
    iprop(held (commM d) r c fullShare acc ∗ own c (xM d) fullShare x ∗ own c wM fullShare w)
      ⊢ iprop(((held (commM d) r c fullShare (mac acc x w) ∗ own c (xM d) fullShare x ∗ own c wM fullShare w) -∗ Q ⟨⟩) -∗ WP c (strips d r) Q) := by
  unfold strips WP
  simp only [wp_bind]
  iintro ⟨Hs, Hx, Hw⟩ Hk
  ihave Hs0 := (Entails.of_eq (congrArg (held (commM d) r c fullShare) (pm_zero acc x w).symm)) $$ Hs
  iapply (strip_spec c d r 0 acc x w) $$ [Hs0 Hx Hw]
  · isplitl [Hs0]; · iexact Hs0
    isplitl [Hx] <;> iassumption
  iintro H
  iapply (strip_spec c d r 1 acc x w) $$ [H]
  · iexact H
  iintro H
  iapply (strip_spec c d r 2 acc x w) $$ [H]
  · iexact H
  iintro H
  iapply (strip_spec c d r 3 acc x w) $$ [H]
  · iexact H
  iintro ⟨Hs, H⟩
  ihave Hs0 := (Entails.of_eq (congrArg (held (commM d) r c fullShare) (pm_four acc x w))) $$ Hs
  iapply Hk
  isplitl [Hs0] <;> iassumption

end Cert.Proof

end
-- ==== Proof.Weights.lean ====
/-
  The weights, copied half by half and cast into their buffer, and the copies of the seeds.
-/
module

public import proofs.«01_k».proof.Proof.Strips

@[expose] public section

set_option maxRecDepth 16384

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (K : CK × Dev nD → ℕ) (c : Dev nD)

/-! ## The weights -/

theorem hOf_emb (h : Fin 2) (i : S256x8192.Idx) : hOf ((whalfR h).emb i) = h := by
  apply Fin.ext
  show ((whalfR h).emb i 0).val / 256 = h.val
  rw [show ((whalfR h).emb i 0).val = 256 * h.val + (i 0).val from uemb _ _ _ _ _]
  have : (i 0).val < 256 := (i 0).isLt
  omega
theorem inH_emb (h : Fin 2) (i : S256x8192.Idx) : inH ((whalfR h).emb i) = i := by
  funext a
  apply Fin.ext
  match a with
  | ⟨0, _⟩ =>
    show ((whalfR h).emb i 0).val % 256 = (i 0).val
    rw [show ((whalfR h).emb i 0).val = 256 * h.val + (i 0).val from uemb _ _ _ _ _]
    have : (i 0).val < 256 := (i 0).isLt
    omega
  | ⟨1, _⟩ => exact (uemb _ _ _ _ _).trans (Nat.zero_add _)
theorem emb_inH (i : S512x8192.Idx) : (whalfR (hOf i)).emb (inH i) = i := by
  funext a
  apply Fin.ext
  match a with
  | ⟨0, _⟩ =>
    rw [show ((whalfR (hOf i)).emb (inH i) ⟨0, by decide⟩).val = 256 * ((i 0).val / 256) + (i 0).val % 256 from uemb _ _ _ _ _]
    show 256 * ((i 0).val / 256) + (i 0).val % 256 = (i 0).val
    omega
  | ⟨1, _⟩ => exact (uemb _ _ _ _ _).trans (Nat.zero_add _)

/-- The buffer with the first `n` halves done. -/
def pw (Y : S512x8192.Idx → Elt F .bf16) (n : ℕ) : S512x8192.Idx → Elt F .bf16 := fun i => if (hOf i).val < n then wbf m c i else Y i
theorem pw_zero (Y : S512x8192.Idx → Elt F .bf16) : pw m c Y 0 = Y := by funext i; exact if_neg (Nat.not_lt_zero _)
theorem pw_two (Y : S512x8192.Idx → Elt F .bf16) : pw m c Y 2 = wbf m c := by funext i; exact if_pos (hOf i).isLt
theorem wbf_emb (h : Fin 2) (i : S256x8192.Idx) : wbf m c ((whalfR h).emb i) = k0_pay1 (F := F) (up (wrow m h c)) i := by
  unfold wbf; rw [hOf_emb, inH_emb]

/-- The share of the weights the copy of half `h` holds. -/
def hw (h : Fin 2) : PosShare TreeShare := match h with | 0 => fullShare.left | 1 => fullShare.right
def Nw : ℕ := (slot stM 0).view.dmaCredit
theorem Nw_pos : 0 < Nw := View.dmaCredit_pos _ (by decide)
theorem Nw_eq (s : Fin 2) : (slot stM s).view.dmaCredit = Nw := rfl

def wRest (h : Fin 2) (c : Dev nD) : sProp 𝕄 := iprop(own c wA (hw h) (ws m c) ∗ zCopy h c)
def wBusy (h : Fin 2) (c : Dev nD) : sProp 𝕄 :=
  iprop(Transfers.Flight EC (c : Thread nD τ) (.dma (copySem h)) 0 Nw iprop(own c (slot stM h) fullShare (wrow m h c) ∗ own c (wSrc h) (hw h) (wrow m h c))
    ∗ (own c (wSrc h) (hw h) (wrow m h c) -∗ own c wA (hw h) (ws m c)))

theorem wStart_spec {Q : PUnit → sProp (MT nD τ sig ℕ (Elt F) ℕ UU ℕ)} (h : Fin 2) :
    iprop(wRest m h c ∗ freeH stM h c) ⊢ iprop((wBusy m h c -∗ Q ⟨⟩) -∗ WP c (wStart h) Q) := by
  unfold wRest wBusy wStart freeH
  iintro ⟨⟨Hx, Hv⟩, ⟨%X, HM⟩⟩ Hk
  ihave Hx' := (own_take c wA (whalfR h) (fun _ => rfl) (hw h) (ws m c)) $$ Hx
  icases Hx' with ⟨Hs, Hw⟩
  ihave HM' := (Entails.of_eq (own_squeeze c (stM.slice (slotR h) (fun _ => rfl)) S256x8192 squeezes_S1x256x8192_S256x8192 fullShare X).symm) $$ HM
  iapply (wp_copy_own c (wSrc h) (slot stM h) (q := hw h) (X := wrow m h c) Nw (Nw_eq h) Nw_pos) $$ [Hs HM' Hv]
  · isplitl [Hs]; · iexact Hs
    isplitl [HM']; · iexact HM'
    iexact Hv
  iintro HF
  iapply (WP_ret c)
  iapply Hk
  isplitl [HF]; · iexact HF
  iexact Hw

theorem wCast_spec {Q : PUnit → sProp (MT nD τ sig ℕ (Elt F) ℕ UU ℕ)} (h : Fin 2) (Y : S512x8192.Idx → Elt F .bf16) {l : List Ob} (hl : Above 0 l) :
    iprop(levAts L lv ∗ Own c l ∗ wBusy m h c ∗ own c wM fullShare (pw m c Y h.val))
      ⊢ iprop(((Own c l ∗ wRest m h c ∗ freeH stM h c ∗ own c wM fullShare (pw m c Y (h.val + 1))) -∗ Q ⟨⟩) -∗ WP c (wCast h) Q) := by
  unfold wRest wBusy wCast freeH
  simp only [Prog.lift, Prog.bind_op, Prog.bind_ret]
  iintro ⟨#Hl, HO, ⟨HF, Hw⟩, HY⟩ Hk
  iapply (wp_wait_local c (lv_copy c h) hl (N := Nw) (Nw_eq h)) $$ [HF HO]
  · isplitl [HF]; · iexact HF
    isplitr; · iexact Hl
    iexact HO
  iintro ⟨HO, ⟨HM, Hs⟩, Hv⟩
  ihave Hx := Hw $$ Hs
  ihave HM' := ((Entails.of_eq (congrArg (own c (slot stM h) fullShare) (up_down (wrow m h c)).symm)).trans
    (Entails.of_eq (own_squeeze c (stM.slice (slotR h) (fun _ => rfl)) S256x8192 squeezes_S1x256x8192_S256x8192 fullShare (up (wrow m h c))))) $$ HM
  iapply (wp_load_sub c stM (slotR h) (fun _ => rfl) (slotR h) (fun i => i) (fun _ => rfl)) $$ HM'
  iintro HM
  iapply (wp_load_own c wM _) $$ HY
  iintro HY
  iapply (wp_store_own c wM (whalfR h) (pw m c Y (h.val + 1))
    (by
      intro i
      exact (if_pos (by rw [hOf_emb]; omega)).trans (wbf_emb m c h i))
    (by
      intro i hi
      have hne : (hOf i).val ≠ h.val := by
        intro e
        exact hi (inH i) ((congrArg (fun k => (whalfR k).emb (inH i)) (Fin.ext e : hOf i = h)).symm.trans (emb_inH i))
      show (if (hOf i).val < h.val + 1 then wbf m c i else Y i) = if (hOf i).val < h.val then wbf m c i else Y i
      by_cases e : (hOf i).val < h.val
      · rw [if_pos e, if_pos (by omega)]
      · rw [if_neg e, if_neg (by omega)])) $$ HY
  iintro HY
  iapply (WP_ret c)
  iapply Hk
  isplitl [HO]; · iexact HO
  isplitl [Hx Hv]
  · isplitl [Hx] <;> iassumption
  isplitl [HM]; · iexists _; iexact HM
  iexact HY

/-! ## The seeds -/

def sRest (d : Bool) (c : Dev nD) : sProp 𝕄 := iprop(own c (accA d) fullShare (sd m d c) ∗ zSeed d c)
def sBusy (d : Bool) (c : Dev nD) : sProp 𝕄 :=
  Transfers.Flight EC (c : Thread nD τ) (.dma (seedSem d)) 0 Nb iprop(own c (slot (commM d) 1) fullShare (sd m d c) ∗ own c (accA d) fullShare (sd m d c))

theorem seedStart_spec {Q : PUnit → sProp (MT nD τ sig ℕ (Elt F) ℕ UU ℕ)} (d : Bool) :
    iprop(sRest m d c ∗ freeH (commM d) 1 c) ⊢ iprop((sBusy m d c -∗ Q ⟨⟩) -∗ WP c (seedStart d) Q) := by
  unfold sRest sBusy seedStart freeH
  iintro ⟨⟨Hs, Hv⟩, ⟨%X, HM⟩⟩ Hk
  ihave HM' := (Entails.of_eq (own_squeeze c ((commM d).slice (slotR 1) (fun _ => rfl)) S256x8192 squeezes_S1x256x8192_S256x8192 fullShare X).symm) $$ HM
  iapply (wp_copy_own c (accA d) (slot (commM d) 1) (q := fullShare) (X := sd m d c) Nb (Nb_eq d 1) Nb_pos) $$ [Hs HM' Hv]
  · isplitl [Hs]; · iexact Hs
    isplitl [HM']; · iexact HM'
    iexact Hv
  iintro HF
  iapply (WP_ret c)
  iapply Hk
  iexact HF

theorem seedWait_spec {Q : PUnit → sProp (MT nD τ sig ℕ (Elt F) ℕ UU ℕ)} (d : Bool) {l : List Ob} (hl : Above 0 l) :
    iprop(levAts L lv ∗ Own c l ∗ sBusy m d c)
      ⊢ iprop(((Own c l ∗ sRest m d c ∗ held (commM d) 1 c fullShare (cc m d 0 c)) -∗ Q ⟨⟩) -∗ WP c (seedWait d) Q) := by
  unfold sRest sBusy seedWait
  iintro ⟨#Hl, HO, HF⟩ Hk
  iapply (wp_wait_local c (lv_seed c d) hl (N := Nb) (Nb_eq d 1)) $$ [HF HO]
  · isplitl [HF]; · iexact HF
    isplitr; · iexact Hl
    iexact HO
  iintro ⟨HO, ⟨HM, Hs⟩, Hv⟩
  ihave HM' := ((Entails.of_eq (congrArg (own c (slot (commM d) 1) fullShare) (up_down (sd m d c)).symm)).trans
    (Entails.of_eq (own_squeeze c ((commM d).slice (slotR 1) (fun _ => rfl)) S256x8192 squeezes_S1x256x8192_S256x8192 fullShare (up (sd m d c))))) $$ HM
  iapply (WP_ret c)
  iapply Hk
  isplitl [HO]; · iexact HO
  isplitl [Hs Hv]
  · isplitl [Hs] <;> iassumption
  iexact HM'

end Cert.Proof

end
-- ==== Proof.Hops.lean ====
/-
  The maximum of the two accumulators, and one hop of the scalar ring.
-/
module

public import proofs.«01_k».proof.Proof.Strips

@[expose] public section

set_option maxRecDepth 16384

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (K : CK × Dev nD → ℕ) (c : Dev nD)

/-! ## The maximum and the scalar ring -/

theorem amax_spec {Q : F .f32 → sProp (MT nD τ sig ℕ (Elt F) ℕ UU ℕ)} :
    iprop(held (commM false) 1 c fullShare (cc m false 6 c) ∗ held (commM true) 1 c fullShare (cc m true 6 c))
      ⊢ iprop(((held (commM false) 1 c fullShare (cc m false 6 c) ∗ held (commM true) 1 c fullShare (cc m true 6 c)) -∗ Q (sacc m 0 c)) -∗ WP c amaxP Q) := by
  unfold amaxP
  simp only [Prog.lift, Prog.bind_op, Prog.bind_ret, Prog.pure_eq_ret]
  iintro ⟨HA, HB⟩ Hk
  iapply (wp_load_sub c (commM false) (slotR 1) (fun _ => rfl) (slotR 1) (fun i => i) (fun _ => rfl)) $$ HA
  iintro HA
  iapply (wp_load_sub c (commM true) (slotR 1) (fun _ => rfl) (slotR 1) (fun i => i) (fun _ => rfl)) $$ HB
  iintro HB
  iapply (WP_ret c)
  iapply (show iprop(Q (sacc m 0 c)) ⊢ Q (k0_pay71 (k0_pay70 (cc m false 6 c)) (cc m true 6 c)) from Entails.of_eq (by rw [show sacc m 0 c = k0_pay71 (k0_pay70 (cc m false 6 c)) (cc m true 6 c) from rfl]))
  iapply Hk
  isplitl [HA] <;> iassumption

/-- What hop `h` takes: the tokens of its two payments, the neighbour's row, its own two cells at their round, the credit of the
    copy that comes. -/
def hopIn (h : Fin 7) (c : Dev nD) : sProp 𝕄 :=
  iprop((dutyTok ER (cell (.ssend h) c) 0 false ∗ dutyTok ER (cell (.srecv h) (nb false c)) 0 false) ∗ rowFree h (nb false c)
    ∗ pos (.ssend h) 0 c ∗ pos (.srecv h) 0 c ∗ cred (tallyAt (cell (.srecv h) c) 0 Ns))
/-- What it leaves: the row that came, the cells at their end. -/
def hopOut (h : Fin 7) (c : Dev nD) : sProp 𝕄 :=
  iprop((∃ X, own c (srM.slice (Rect.unit (s := S7x1x128) ![h.val, 0, 0] S1x1x128.size (sr_inb h)) (fun _ => rfl)) fullShare X) ∗ pos (.ssend h) 1 c ∗ pos (.srecv h) 1 c)

theorem row_full_emb (inb) (i : S1x128.Idx) : (Rect.unit (s := S1x128) ![0, 0] S1x128.size inb).emb i = i := by
  funext a
  apply Fin.ext
  rw [uemb]
  match a with
  | ⟨0, _⟩ => exact Nat.zero_add _
  | ⟨1, _⟩ => exact Nat.zero_add _
theorem bcS_apply (v : F .f32) : (bcS v : S1x128.Idx → Elt F .f32) = fun _ => v := rfl
def ix1 (i : S1x1x1.Idx) : S1x1x128.Idx := fun a => match a with
  | ⟨0, _⟩ => ⟨(i 0).val, (i 0).isLt⟩
  | ⟨1, _⟩ => ⟨(i 1).val, (i 1).isLt⟩
  | ⟨2, _⟩ => ⟨(i 2).val, Nat.lt_of_lt_of_le (i 2).isLt (show 1 ≤ 128 by omega)⟩
theorem ix1_emb (h : Fin 7) (i : S1x1x1.Idx) :
    (Rect.unit (s := S7x1x128) ![h.val, 0, 0] S1x1x128.size (sr_inb h)).emb (ix1 i) = (Rect.unit (s := S7x1x128) ![h.val, 0, 0] S1x1x1.size (sr1_inb h)).emb i := by
  funext a
  apply Fin.ext
  rw [uemb, uemb]
  match a with
  | ⟨0, _⟩ => rfl
  | ⟨1, _⟩ => rfl
  | ⟨2, _⟩ => rfl

theorem ss_eq : ssM.view.dmaCredit = Ns := rfl
theorem amount_ss (h : Fin 7) : Ns = amountK (.ssend h) 0 := rfl
theorem amount_sr (h : Fin 7) : Ns = amountK (.srecv h) 0 := rfl

attribute [local irreducible] sacc

theorem hop_spec {Q : Vec F S1x1x1 .f32 → sProp (MT nD τ sig ℕ (Elt F) ℕ UU ℕ)} (h : Fin 7) (dev : Dev nD) (hdev : dev = nb false c) {l : List Ob} (hl : Above (83 + h.val) l) :
    iprop(invs m K ∗ levAts L lv ∗ Own c (⟨.srecv h, false, 0, Ns⟩ :: l) ∗ (∃ X, own c ssM fullShare X) ∗ hopIn h c)
      ⊢ iprop(((Own c l ∗ (∃ X, own c ssM fullShare X) ∗ hopOut h c) -∗ Q (fun _ => sacc m h.val (fr false c))) -∗ WP c (hopP h dev (sacc m h.val c)) Q) := by
  subst hdev
  unfold hopP hopIn hopOut rowFree
  simp only [Prog.lift, Prog.bind_op, Prog.bind_ret]
  iintro ⟨#HI, #Hl, HO, ⟨%X, HS⟩, ⟨Ht1, Ht2⟩, ⟨⟨%Y, Hd⟩, #Hr2⟩, HpS, HpR, Hcr⟩ Hk
  iapply (wp_load_own c ssM _) $$ HS
  iintro HS
  iapply (wp_store_own c ssM _ (fun _ => sacc m h.val c) (fun i => rfl) (fun j hj => absurd (row_full_emb _ j) (hj j))) $$ HS
  iintro HS
  ihave HO := (show (Own (F := F) c (⟨.srecv h, false, 0, Ns⟩ :: l)) ⊢ iprop(∃ W, owes (c : Thread nD τ) (sumO c (⟨.srecv h, false, 0, Ns⟩ :: l)) W) from BI.Entails.refl _) $$ HO
  icases HO with ⟨%W, HO⟩
  ihave HpS' := (show (pos (F := F) (.ssend h) 0 c) ⊢ iprop(atPos ER (cell (.ssend h) c) 0 ∅ 0 ∗ reached ER (cell (.ssend h) c) 0) from BI.Entails.refl _) $$ HpS
  icases HpS' with ⟨Hat, #Hr1⟩
  iapply (wp_send_own c (Rd m) (nb false c) ssM (srow h) (P := iprop(emp)) (X := fun _ => sacc m h.val c) (q := fullShare) (r₁ := 0) (r₂ := 0)
      (κ₁ := K (.ssend h, c)) (κ₂ := K (.srecv h, nb false c)) (W := W)
      (by rw [show ((c : Thread nD τ), SemLoc.dma (ssendSem h)) = cell (.ssend h) c from rfl, duties_cell]; exact Finset.mem_singleton_self _)
      (by rw [show ((nb false c : Thread nD τ), SemLoc.dma (srecvSem h)) = cell (.srecv h) (nb false c) from rfl, duties_cell]; exact Finset.mem_singleton_self _)
      0 0 Ns (Ns_eq h) (amount_cell m (.ssend h) c 0 false) (amount_cell m (.srecv h) (nb false c) 0 false) (sumO c l) rfl
      (by
        rw [show (Rd m).payload ((c : Thread nD τ), SemLoc.dma (ssendSem h)) 0 false = own c ssM fullShare (fun _ => sacc m h.val c) from payload_cell m (.ssend h) c 0 false])
      (by
        rw [show (Rd m).payload ((nb false c : Thread nD τ), SemLoc.dma (srecvSem h)) 0 false = own (nb false c) (srow h) fullShare (fun _ => sacc m h.val (fr false (nb false c))) from
          payload_cell m (.srecv h) (nb false c) 0 false, fr_nb]
        iintro ⟨H, -⟩; iexact H))
    $$ [HO Ht1 Ht2 HS Hd]
  · isplitr; · iapply (inv_at m K (.ssend h) c); iexact HI
    isplitr; · iapply (inv_at m K (.srecv h) (nb false c)); iexact HI
    isplitl [HS]; · iexact HS
    isplitl [Hd]
    · isplitl [Hd]; · iexact Hd
      iempintro
    isplitl [HO]; · iexact HO
    isplitl [Ht1]; · iexact Ht1
    isplitr; · iexact Hr1
    isplitl [Ht2]; · iexact Ht2
    iexact Hr2
  iintro ⟨Hc, HO⟩
  have hO : owes (c : Thread nD τ) (sumO c l) W ⊢ (Own c l : sProp 𝕄) := by unfold Own; iintro H; iexists W; iexact H
  ihave HO' := hO $$ HO
  iapply (wp_wait_dma m K c (.ssend h) rfl 0 0 0 rfl (by omega) (Nat.le_refl 0) (fun o ho => ⟨by have := (hl o ho).1; omega, (hl o ho).2⟩) (amount_ss h) (ss_eq.trans (amount_ss h))) $$ [HO' Hc Hat]
  · isplitr; · iexact HI
    isplitr; · iexact Hl
    isplitl [Hc]; · iexact Hc
    isplitl [HO']; · iexact HO'
    unfold pos
    isplitl [Hat]; · iexact Hat
    iexact Hr1
  iintro ⟨HO, HpS, HS⟩
  iapply (wp_wait_dma m K c (.srecv h) rfl 0 0 (83 + h.val) rfl (by omega) (Nat.le_refl _) hl (amount_sr h) ((Ns_eq h).trans (amount_sr h))) $$ [HO Hcr HpR]
  · isplitr; · iexact HI
    isplitr; · iexact Hl
    isplitl [Hcr]; · iexact Hcr
    isplitl [HO]; · iexact HO
    iexact HpR
  iintro ⟨HO, HpR, Hrow⟩
  ihave Hrow' := ((show payK m (.srecv h) c 0 false ⊢ own c (srow h) fullShare (fun _ => sacc m h.val (fr false c)) from BI.Entails.refl _).trans
    (Entails.of_eq (own_squeeze c (srM.slice (Rect.unit (s := S7x1x128) ![h.val, 0, 0] S1x1x128.size (sr_inb h)) (fun _ => rfl)) S1x128 squeezes_S1x1x128_S1x128 fullShare (fun _ => sacc m h.val (fr false c))))) $$ Hrow
  iapply (wp_load_sub c srM (Rect.unit (s := S7x1x128) ![h.val, 0, 0] S1x1x128.size (sr_inb h)) (fun _ => rfl) (Rect.unit (s := S7x1x128) ![h.val, 0, 0] S1x1x1.size (sr1_inb h)) ix1 (ix1_emb h)) $$ Hrow'
  iintro Hrow
  have hQ : Q (fun _ => sacc m h.val (fr false c)) ⊢ WP c (Prog.ret (fun i : (Rect.unit (s := S7x1x128) ![h.val, 0, 0] S1x1x1.size (sr1_inb h)).shape.Idx => sacc m h.val (fr false c)) : Pg F (Vec F S1x1x1 .f32)) Q := WP_ret c
  iapply hQ
  iapply Hk
  isplitl [HO]; · iexact HO
  isplitl [HS]; · iexists _; iapply (show payK m (.ssend h) c 0 false ⊢ own c ssM fullShare (fun _ => sacc m h.val c) from BI.Entails.refl _) $$ HS
  isplitl [Hrow]; · iexists _; iexact Hrow
  isplitl [HpS] <;> iassumption

end Cert.Proof

end
-- ==== Proof.Stores.lean ====
/-
  The quantiser, and the dequantised stores of a block of the result.
-/
module

public import proofs.«01_k».proof.Proof.Pieces

@[expose] public section

set_option maxRecDepth 16384

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (K : CK × Dev nD → ℕ) (c : Dev nD)

/-! ## The quantiser and the stores of the result -/

theorem quant_spec {Q : PUnit → sProp (MT nD τ sig ℕ (Elt F) ℕ UU ℕ)} (d : Bool) :
    iprop(held (commM d) 1 c fullShare (cc m d 6 c) ∗ freeH (qM d) 1 c)
      ⊢ iprop(((held (commM d) 1 c fullShare (cc m d 6 c) ∗ held (qM d) 1 c fullShare (qq m d 0 c)) -∗ Q ⟨⟩) -∗ WP c (quantP d (scale m c)) Q) := by
  unfold quantP freeH
  simp only [Prog.lift, Prog.bind_op, Prog.bind_ret]
  iintro ⟨HA, ⟨%X, HQ⟩⟩ Hk
  iapply (wp_load_sub c (commM d) (slotR 1) (fun _ => rfl) (slotR 1) (fun i => i) (fun _ => rfl)) $$ HA
  iintro HA
  iapply (wp_load_sub c (qM d) (slotR 1) (fun _ => rfl) (slotR 1) (fun i => i) (fun _ => rfl)) $$ HQ
  iintro HQ
  iapply (wp_store_sub c (qM d) (slotR 1) (fun _ => rfl) (slotR 1) (fun i => i) (fun _ => rfl) (qq m d 0 c) (fun _ => rfl) (fun j hj => absurd rfl (hj j))) $$ HQ
  iintro HQ
  iapply (WP_ret c)
  iapply Hk
  isplitl [HA] <;> iassumption

/-- The credit of the copy of a block of the result. -/
def No : ℕ := (oDst ![0, 0] (by decide)).view.dmaCredit
theorem No_pos : 0 < No := View.dmaCredit_pos _ (by decide)
theorem No_eq (o : Off) : (oDst o.off o.inb).view.dmaCredit = No := rfl
/-- The rows of the result a block goes to: with contents unknown, and with the block. -/
def oFree (o : Off) (c : Dev nD) : sProp 𝕄 := iprop(∃ X, own c (oDst o.off o.inb) fullShare X)
def oDone (d : Bool) (h : ℕ) (o : Off) (c : Dev nD) : sProp 𝕄 :=
  own c (oDst o.off o.inb) fullShare (fun i => deq m d h c (Shape.reshapeEquiv squeezes_S1x256x8192_S256x8192.numel_eq i))
def dIdle (d : Bool) (c : Dev nD) : sProp 𝕄 := iprop(freeH stM (stSlot d) c ∗ zStore d c)
def dBusy (d : Bool) (h : ℕ) (o : Off) (c : Dev nD) : sProp 𝕄 :=
  Transfers.Flight EC (c : Thread nD τ) (.dma (storeSem d)) 0 No iprop(oDone m d h o c ∗ own c (slot stM (stSlot d)) fullShare (fun i => deq m d h c (Shape.reshapeEquiv squeezes_S1x256x8192_S256x8192.numel_eq i)))

theorem deq_spec {Q : PUnit → sProp (MT nD τ sig ℕ (Elt F) ℕ UU ℕ)} (d : Bool) (h : ℕ) (s : Fin 2) (q : PosShare TreeShare) (o : Off) :
    iprop(held (qM d) s c q (qq m d h c) ∗ dIdle d c ∗ oFree o c)
      ⊢ iprop(((held (qM d) s c q (qq m d h c) ∗ dBusy m d h o c) -∗ Q ⟨⟩) -∗ WP c (deqP d s (scale m c) o.off o.inb) Q) := by
  unfold deqP dIdle freeH oFree dBusy
  simp only [Prog.lift, Prog.bind_op, Prog.bind_ret]
  iintro ⟨HQ, ⟨⟨%X, HM⟩, Hv⟩, ⟨%Y, Ho⟩⟩ Hk
  iapply (wp_load_sub c (qM d) (slotR s) (fun _ => rfl) (slotR s) (fun i => i) (fun _ => rfl)) $$ HQ
  iintro HQ
  iapply (wp_load_sub c stM (slotR (stSlot d)) (fun _ => rfl) (slotR (stSlot d)) (fun i => i) (fun _ => rfl)) $$ HM
  iintro HM
  iapply (wp_store_sub c stM (slotR (stSlot d)) (fun _ => rfl) (slotR (stSlot d)) (fun i => i) (fun _ => rfl) (deq m d h c) (fun _ => rfl) (fun j hj => absurd rfl (hj j))) $$ HM
  iintro HM
  ihave HM' := (Entails.of_eq (own_squeeze c (stM.slice (slotR (stSlot d)) (fun _ => rfl)) S256x8192 squeezes_S1x256x8192_S256x8192 fullShare (deq m d h c)).symm) $$ HM
  iapply (wp_copy_own c (slot stM (stSlot d)) (oDst o.off o.inb) (q := fullShare) (Y := Y) No (No_eq o) No_pos) $$ [HM' Ho Hv]
  · isplitl [HM']; · iexact HM'
    isplitl [Ho]; · iexact Ho
    iexact Hv
  iintro HF
  iapply (WP_ret c)
  iapply Hk
  isplitl [HQ]; · iexact HQ
  iexact HF

theorem deqWait_spec {Q : PUnit → sProp (MT nD τ sig ℕ (Elt F) ℕ UU ℕ)} (d : Bool) (h : ℕ) (o : Off) {l : List Ob} (hl : Above 0 l) :
    iprop(levAts L lv ∗ Own c l ∗ dBusy m d h o c)
      ⊢ iprop(((Own c l ∗ dIdle d c ∗ oDone m d h o c) -∗ Q ⟨⟩) -∗ WP c (deqWait d o.off o.inb) Q) := by
  unfold deqWait dIdle freeH dBusy
  iintro ⟨#Hl, HO, HF⟩ Hk
  iapply (wp_wait_local c (lv_store c d) hl (N := No) (No_eq o)) $$ [HF HO]
  · isplitl [HF]; · iexact HF
    isplitr; · iexact Hl
    iexact HO
  iintro ⟨HO, ⟨Ho, HM⟩, Hv⟩
  ihave HM' := (Entails.of_eq (own_squeeze c (stM.slice (slotR (stSlot d)) (fun _ => rfl)) S256x8192 squeezes_S1x256x8192_S256x8192 fullShare (deq m d h c))) $$ HM
  iapply (WP_ret c)
  iapply Hk
  isplitl [HO]; · iexact HO
  isplitl [HM' Hv]
  · isplitl [HM']; · iexists _; iexact HM'
    iexact Hv
  iexact Ho

end Cert.Proof

end
-- ==== Proof.Ring.lean ====
/-
  The steps of the ring: one reduce-scatter step, one all-gather step, as entailments between the states around them.
-/
module

public import proofs.«01_k».proof.Proof.Weights
public import proofs.«01_k».proof.Proof.Hops
public import proofs.«01_k».proof.Proof.Stores

@[expose] public section

set_option maxRecDepth 16384

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (K : CK × Dev nD → ℕ) (c : Dev nD)

/-- Both directions. -/
def two (f : Bool → sProp (MT nD τ sig ℕ (Elt F) ℕ UU ℕ)) : sProp (MT nD τ sig ℕ (Elt F) ℕ UU ℕ) := iprop(f false ∗ f true)

/-- The send and receive cells at the rounds of step `u`: both slots, both directions. -/
def ring (u : ℕ) (c : Dev nD) : sProp 𝕄 := iprop(two (fun d => posS d u c) ∗ two (fun d => posS d (u + 1) c) ∗ two (fun d => posR d u c) ∗ two (fun d => posR d (u + 1) c))
def credPos (u : ℕ) (c : Dev nD) : sProp 𝕄 := two fun d => pos (.credit d) u c
/-- The tokens of the copies of a step, and what their waits spend; -/
def tokS (u : ℕ) (c : Dev nD) : sProp 𝕄 := iprop(two (fun d => sendTok d u c) ∗ two (fun d => recvCr d u c))
/-- the tokens of its credits; what the wait for those of the neighbours spends. -/
def tokC (u : ℕ) (c : Dev nD) : sProp 𝕄 := two fun d => credTok d u c
def crC (u : ℕ) (c : Dev nD) : sProp 𝕄 := two fun d => credCr d u c
def slots (u : ℕ) (c : Dev nD) : sProp 𝕄 := two fun d => freeSlot d u (nb d c)

instance above_dec (b : ℕ) (l : List Ob) : Decidable (Above b l) := by unfold Above; infer_instance
theorem above_mono {a b : ℕ} {l : List Ob} (h : a ≤ b) (hl : Above b l) : Above a l := fun o ho => ⟨Nat.lt_of_le_of_lt h (hl o ho).1, (hl o ho).2⟩
theorem above_tail {b : ℕ} {o : Ob} {l : List Ob} (hl : Above b (o :: l)) : Above b l := fun o' ho => hl o' (List.mem_cons_of_mem _ ho)
theorem above_cred {b u : ℕ} {l : List Ob} (hl : Above b (obCred u l)) : Above b l := above_tail (above_tail hl)

theorem pos_split (k : CK) (R : ℕ) : (pos k R c : sProp 𝕄) ⊢ iprop(pos k R c ∗ reached ER (cell k c) R) := by
  unfold pos
  iintro ⟨H, #Hr⟩
  isplitl [H]
  · isplitl [H]; · iexact H
    iexact Hr
  iexact Hr
theorem posS_reach (d : Bool) (u : ℕ) : (posS d u c : sProp 𝕄) ⊢ iprop(posS d u c ∗ reached ER (cell (.send d (sl (u + 1))) c) (u / 2)) := pos_split c _ _
theorem posR_reach (d : Bool) (u : ℕ) : (posR d u c : sProp 𝕄) ⊢ iprop(posR d u c ∗ reached ER (cell (.recv d (sl u)) c) (u / 2)) := pos_split c _ _
theorem posC_reach (d : Bool) (u : ℕ) : (pos (.credit d) u c : sProp 𝕄) ⊢ iprop(pos (.credit d) u c ∗ credReach d u c) := pos_split c _ _

theorem cc_succ (d : Bool) (u : ℕ) : cc m d (u + 1) c = mac (cc m d u (fr d c)) (xrows m (xO d u c) c) (wbf m c) := rfl
theorem qq_succ (d : Bool) (h : ℕ) : qq m d (h + 1) c = qq m d h (fr d c) := rfl

/-- One reduce-scatter step: `hg` says which slot the credit signals hand over, and what stays. -/
theorem rsTail_spec {Q : PUnit → sProp (MT nD τ sig ℕ (Elt F) ℕ UU ℕ)} (u : ℕ) (hu : u ≤ 5) {l : List Ob} (hl : Above (16 * u + 2) (obCred u l)) (D : Devs)
    (hsA : D.sA = nb false c) (hsB : D.sB = nb true c) (hgA : D.gA = fr false c) (hgB : D.gB = fr true c) (Gi Go : Bool → sProp (MT nD τ sig ℕ (Elt F) ℕ UU ℕ))
    (hg : ∀ d, iprop(held (commM d) (sl (u + 1)) c fullShare (cc m d u c) ∗ Gi d) ⊢ iprop(anyBlk d (u + 1) c ∗ Go d)) :
    iprop(invs m K ∗ levAts L lv ∗ Own c (obStep u l) ∗ ring u c ∗ credPos u c ∗ tokS u c ∗ tokC u c ∗ slots u c
        ∗ two (fun d => held (commM d) (sl (u + 1)) c fullShare (cc m d u c)) ∗ two (fun d => xIdle m d c) ∗ own c wM fullShare (wbf m c) ∗ two Gi)
      ⊢ iprop(((Own c l ∗ ring (u + 1) c ∗ credPos u c ∗ two (fun d => held (commM d) (sl u) c fullShare (cc m d (u + 1) c))
            ∗ two (fun d => xIdle m d c) ∗ own c wM fullShare (wbf m c) ∗ two Go) -∗ Q ⟨⟩)
        -∗ WP c (rsTail (sl (u + 1)) (sl u) D (xO false u c).off (xO false u c).inb (xO true u c).off (xO true u c).inb) Q) := by
  unfold rsTail ring credPos tokS tokC slots two obStep obSend WP
  simp only [wp_bind]
  iintro ⟨#HI, #Hl, HO, ⟨⟨HpSA, HpSB⟩, ⟨HpSA', HpSB'⟩, ⟨HpRA, HpRB⟩, ⟨HpRA', HpRB'⟩⟩, ⟨HpCA, HpCB⟩, ⟨⟨HtA, HtB⟩, ⟨HrA, HrB⟩⟩, ⟨HcA, HcB⟩, ⟨HfA, HfB⟩, ⟨HsA, HsB⟩, ⟨HxA, HxB⟩, Hw, ⟨HgA, HgB⟩⟩ Hk
  ihave H := (posS_reach c false u) $$ HpSA
  icases H with ⟨HpSA, #HrSA⟩
  ihave H := (posS_reach c true u) $$ HpSB
  icases H with ⟨HpSB, #HrSB⟩
  ihave H := (posC_reach c false u) $$ HpCA
  icases H with ⟨HpCA, #HrCA⟩
  ihave H := (posC_reach c true u) $$ HpCB
  icases H with ⟨HpCB, #HrCB⟩
  ihave H := (posR_reach c false (u + 1)) $$ HpRA'
  icases H with ⟨HpRA', #HrRA⟩
  ihave H := (posR_reach c true (u + 1)) $$ HpRB'
  icases H with ⟨HpRB', #HrRB⟩
  iapply (sendComm_spec m K c false u hu D.sA hsA) $$ [HO HtA HfA HsA]
  · isplitr; · iexact HI
    isplitl [HO]; · iexact HO
    isplitl [HtA HfA]
    · unfold sendRight
      isplitl [HtA]; · iexact HtA
      isplitr; · iexact HrSA
      isplitr; · iexact HrCA
      iexact HfA
    iexact HsA
  iintro ⟨HO, HcrA, HsA⟩
  iapply (sendComm_spec m K c true u hu D.sB hsB) $$ [HO HtB HfB HsB]
  · isplitr; · iexact HI
    isplitl [HO]; · iexact HO
    isplitl [HtB HfB]
    · unfold sendRight
      isplitl [HtB]; · iexact HtB
      isplitr; · iexact HrSB
      isplitr; · iexact HrCB
      iexact HfB
    iexact HsB
  iintro ⟨HO, HcrB, HsB⟩
  iapply (xStart_spec m c false (xO false u c)) $$ HxA
  iintro HxA
  iapply (xStart_spec m c true (xO true u c)) $$ HxB
  iintro HxB
  iapply (waitComm_spec m K c false u hu hl) $$ [HO HcrA HrA HpSA HpRA HsA]
  · isplitr; · iexact HI
    isplitr; · iexact Hl
    isplitl [HO]; · iexact HO
    isplitl [HcrA]; · iexact HcrA
    isplitl [HrA]; · iexact HrA
    isplitl [HpSA]; · iexact HpSA
    isplitl [HpRA]; · iexact HpRA
    iexact HsA
  iintro ⟨HO, HpSA, HpRA, #HcrA, HsA, HdA⟩
  iapply (waitComm_spec m K c true u hu hl) $$ [HO HcrB HrB HpSB HpRB HsB]
  · isplitr; · iexact HI
    isplitr; · iexact Hl
    isplitl [HO]; · iexact HO
    isplitl [HcrB]; · iexact HcrB
    isplitl [HrB]; · iexact HrB
    isplitl [HpSB]; · iexact HpSB
    isplitl [HpRB]; · iexact HpRB
    iexact HsB
  iintro ⟨HO, HpSB, HpRB, #HcrB, HsB, HdB⟩
  ihave H := (hg false) $$ [HsA HgA]
  · isplitl [HsA] <;> iassumption
  icases H with ⟨HfA, HgA⟩
  ihave H := (hg true) $$ [HsB HgB]
  · isplitl [HsB] <;> iassumption
  icases H with ⟨HfB, HgB⟩
  iapply (creditSignal_spec m K c u (by omega) hgA hgB) $$ [HO HcA HcB HfA HfB]
  · isplitr; · iexact HI
    isplitl [HO]; · iexact HO
    isplitl [HcA HcB]; · isplitl [HcA] <;> iassumption
    isplitr
    · isplitr; · iexact HcrA
      iexact HcrB
    unfold freeSlot
    isplitl [HfA]
    · isplitl [HfA]; · iexact HfA
      iexact HrRA
    isplitl [HfB]; · iexact HfB
    iexact HrRB
  iintro HO
  iapply (xWait_spec m c false (xO false u c) (above_mono (Nat.zero_le _) (above_cred hl))) $$ [HO HxA]
  · isplitr; · iexact Hl
    isplitl [HO] <;> iassumption
  iintro ⟨HO, HxA, HMA⟩
  iapply (strips_spec c false (sl u) (cc m false u (fr false c)) (xrows m (xO false u c) c) (wbf m c)) $$ [HdA HMA Hw]
  · isplitl [HdA]; · iexact HdA
    isplitl [HMA] <;> iassumption
  iintro ⟨HdA, HMA, Hw⟩
  iapply (xWait_spec m c true (xO true u c) (above_mono (Nat.zero_le _) (above_cred hl))) $$ [HO HxB]
  · isplitr; · iexact Hl
    isplitl [HO] <;> iassumption
  iintro ⟨HO, HxB, HMB⟩
  iapply (strips_spec c true (sl u) (cc m true u (fr true c)) (xrows m (xO true u c) c) (wbf m c)) $$ [HdB HMB Hw]
  · isplitl [HdB]; · iexact HdB
    isplitl [HMB] <;> iassumption
  iintro ⟨HdB, HMB, Hw⟩
  iapply Hk
  isplitl [HO]; · iexact HO
  isplitl [HpSA HpSB HpSA' HpSB' HpRA HpRB HpRA' HpRB']
  · isplitl [HpSA' HpSB']; · isplitl [HpSA'] <;> iassumption
    isplitl [HpSA HpSB]; · isplitl [HpSA] <;> iassumption
    isplitl [HpRA' HpRB']; · isplitl [HpRA'] <;> iassumption
    isplitl [HpRA] <;> iassumption
  isplitl [HpCA HpCB]; · isplitl [HpCA] <;> iassumption
  isplitl [HdA HdB]
  · rw [cc_succ, cc_succ]
    isplitl [HdA] <;> iassumption
  isplitl [HxA HxB HMA HMB]
  · unfold xIdle
    isplitl [HxA HMA]
    · isplitl [HxA]; · iexact HxA
      iexists _; iexact HMA
    isplitl [HxB]; · iexact HxB
    iexists _; iexact HMB
  isplitl [Hw]; · iexact Hw
  isplitl [HgA] <;> iassumption

/-! ## The all-gather steps -/

/-- The wait for the credits of the last step. -/
theorem credWait_spec {Q : PUnit → sProp (MT nD τ sig ℕ (Elt F) ℕ UU ℕ)} (u : ℕ) {l : List Ob} (hu : u < 12) (hl : Above (16 * u + 17) l) :
    iprop(invs m K ∗ levAts L lv ∗ Own c l ∗ credPos u c ∗ crC u c)
      ⊢ iprop(((Own c l ∗ credPos (u + 1) c ∗ slots (u + 1) c) -∗ Q ⟨⟩) -∗ WP c creditWait Q) := by
  unfold credPos crC slots two
  iintro ⟨#HI, #Hl, HO, ⟨HpA, HpB⟩, ⟨HcA, HcB⟩⟩ Hk
  iapply (creditWait_spec m K c u hu hl) $$ [HO HpA HpB HcA HcB]
  · isplitr; · iexact HI
    isplitr; · iexact Hl
    isplitl [HcA]; · iexact HcA
    isplitl [HcB]; · iexact HcB
    isplitl [HO]; · iexact HO
    isplitl [HpA] <;> iassumption
  iintro ⟨HO, HpA, HpB, HfA, HfB⟩
  iapply Hk
  isplitl [HO]; · iexact HO
  isplitl [HpA HpB]; · isplitl [HpA] <;> iassumption
  isplitl [HfA] <;> iassumption

/-- Sent, and not yet waited for. -/
def sent (u : ℕ) (c : Dev nD) : sProp 𝕄 :=
  iprop(two (fun d => sendCr d u c) ∗ two (fun d => recvCr d u c) ∗ ring u c ∗ two (fun d => held (qM d) (sl (u + 1)) c fullShare.right (qq m d (u - 6) c)))

theorem agSend_spec {Q : PUnit → sProp (MT nD τ sig ℕ (Elt F) ℕ UU ℕ)} (u : ℕ) (hu : 6 ≤ u) (hu' : u < 13) {l : List Ob} (hl : Above (16 * (u - 1) + 17) (obSend u l)) (D : Devs)
    (hsA : D.sA = nb false c) (hsB : D.sB = nb true c) :
    iprop(invs m K ∗ levAts L lv ∗ Own c (obSend u l) ∗ ring u c ∗ credPos (u - 1) c ∗ crC (u - 1) c ∗ tokS u c
        ∗ two (fun d => held (qM d) (sl (u + 1)) c fullShare (qq m d (u - 6) c)))
      ⊢ iprop(((Own c l ∗ credPos u c ∗ sent m u c) -∗ Q ⟨⟩) -∗ WP c (agSend (sl (u + 1)) (sl u) D) Q) := by
  obtain ⟨v, rfl⟩ : ∃ v, u = v + 1 := ⟨u - 1, by omega⟩
  rw [Nat.add_sub_cancel] at hl ⊢
  unfold agSend WP
  simp only [wp_bind]
  iintro ⟨#HI, #Hl, HO, Hring, HpC, HcC, Ht, Hq⟩ Hk
  iapply (credWait_spec m K c v (by omega) hl) $$ [HO HpC HcC]
  · isplitr; · iexact HI
    isplitr; · iexact Hl
    isplitl [HO]; · iexact HO
    isplitl [HpC] <;> iassumption
  unfold sent credPos ring tokS slots two obSend
  iintro ⟨HO, ⟨HpCA, HpCB⟩, ⟨HfA, HfB⟩⟩
  icases Hring with ⟨⟨HpSA, HpSB⟩, HpS', HpR, HpR'⟩
  icases Ht with ⟨⟨HtA, HtB⟩, HrC⟩
  icases Hq with ⟨HsA, HsB⟩
  ihave H := (posS_reach c false (v + 1)) $$ HpSA
  icases H with ⟨HpSA, #HrSA⟩
  ihave H := (posS_reach c true (v + 1)) $$ HpSB
  icases H with ⟨HpSB, #HrSB⟩
  ihave H := (posC_reach c false (v + 1)) $$ HpCA
  icases H with ⟨HpCA, #HrCA⟩
  ihave H := (posC_reach c true (v + 1)) $$ HpCB
  icases H with ⟨HpCB, #HrCB⟩
  iapply (sendQ_spec m K c false (v + 1) hu hu' D.sA hsA) $$ [HO HtA HfA HsA]
  · isplitr; · iexact HI
    isplitl [HO]; · iexact HO
    isplitl [HtA HfA]
    · unfold sendRight
      isplitl [HtA]; · iexact HtA
      isplitr; · iexact HrSA
      isplitr; · iexact HrCA
      iexact HfA
    iexact HsA
  iintro ⟨HO, HcrA, HsA⟩
  iapply (sendQ_spec m K c true (v + 1) hu hu' D.sB hsB) $$ [HO HtB HfB HsB]
  · isplitr; · iexact HI
    isplitl [HO]; · iexact HO
    isplitl [HtB HfB]
    · unfold sendRight
      isplitl [HtB]; · iexact HtB
      isplitr; · iexact HrSB
      isplitr; · iexact HrCB
      iexact HfB
    iexact HsB
  iintro ⟨HO, HcrB, HsB⟩
  iapply Hk
  isplitl [HO]; · iexact HO
  isplitl [HpCA HpCB]; · isplitl [HpCA] <;> iassumption
  isplitl [HcrA HcrB]; · isplitl [HcrA] <;> iassumption
  isplitl [HrC]; · iexact HrC
  isplitl [HpSA HpSB HpS' HpR HpR']
  · isplitl [HpSA HpSB]; · isplitl [HpSA] <;> iassumption
    isplitl [HpS']; · iexact HpS'
    isplitl [HpR] <;> iassumption
  isplitl [HsA] <;> iassumption

theorem agWait_spec {Q : PUnit → sProp (MT nD τ sig ℕ (Elt F) ℕ UU ℕ)} (u : ℕ) (hu : 6 ≤ u) (hu' : u < 13) {l : List Ob} (hl : Above (16 * u + 2) l) :
    iprop(invs m K ∗ levAts L lv ∗ Own c l ∗ sent m u c)
      ⊢ iprop(((Own c l ∗ ring (u + 1) c ∗ two (fun d => credReach d u (fr d c)) ∗ two (fun d => held (qM d) (sl (u + 1)) c fullShare (qq m d (u - 6) c))
            ∗ two (fun d => held (qM d) (sl u) c fullShare (qq m d (u + 1 - 6) c))) -∗ Q ⟨⟩) -∗ WP c (agWait (sl (u + 1)) (sl u)) Q) := by
  unfold agWait sent ring two WP
  simp only [wp_bind]
  iintro ⟨#HI, #Hl, HO, ⟨HcrA, HcrB⟩, ⟨HrA, HrB⟩, ⟨⟨HpSA, HpSB⟩, ⟨HpSA', HpSB'⟩, ⟨HpRA, HpRB⟩, ⟨HpRA', HpRB'⟩⟩, ⟨HsA, HsB⟩⟩ Hk
  iapply (waitQ_spec m K c false u hu hu' hl) $$ [HO HcrA HrA HpSA HpRA HsA]
  · isplitr; · iexact HI
    isplitr; · iexact Hl
    isplitl [HO]; · iexact HO
    isplitl [HcrA]; · iexact HcrA
    isplitl [HrA]; · iexact HrA
    isplitl [HpSA]; · iexact HpSA
    isplitl [HpRA]; · iexact HpRA
    iexact HsA
  iintro ⟨HO, HpSA, HpRA, HcrA, HsA, HdA⟩
  iapply (waitQ_spec m K c true u hu hu' hl) $$ [HO HcrB HrB HpSB HpRB HsB]
  · isplitr; · iexact HI
    isplitr; · iexact Hl
    isplitl [HO]; · iexact HO
    isplitl [HcrB]; · iexact HcrB
    isplitl [HrB]; · iexact HrB
    isplitl [HpSB]; · iexact HpSB
    isplitl [HpRB]; · iexact HpRB
    iexact HsB
  iintro ⟨HO, HpSB, HpRB, HcrB, HsB, HdB⟩
  have e : ∀ d, qq m d (u + 1 - 6) c = qq m d (u - 6) (fr d c) := fun d => by rw [show u + 1 - 6 = (u - 6) + 1 from by omega]; rfl
  iapply Hk
  isplitl [HO]; · iexact HO
  isplitl [HpSA HpSB HpSA' HpSB' HpRA HpRB HpRA' HpRB']
  · isplitl [HpSA' HpSB']; · isplitl [HpSA'] <;> iassumption
    isplitl [HpSA HpSB]; · isplitl [HpSA] <;> iassumption
    isplitl [HpRA' HpRB']; · isplitl [HpRA'] <;> iassumption
    isplitl [HpRA] <;> iassumption
  isplitl [HcrA HcrB]; · isplitl [HcrA] <;> iassumption
  isplitl [HsA HsB]; · isplitl [HsA] <;> iassumption
  rw [e, e]
  isplitl [HdA] <;> iassumption

/-- The signals after an all-gather step: the source slot is handed over. -/
theorem agSignal_spec {Q : PUnit → sProp (MT nD τ sig ℕ (Elt F) ℕ UU ℕ)} (u : ℕ) (hu : 6 ≤ u) (hu' : u < 12) {l : List Ob} (D : Devs) (hgA : D.gA = fr false c) (hgB : D.gB = fr true c) :
    iprop(invs m K ∗ Own c (obCred u l) ∗ ring (u + 1) c ∗ tokC u c ∗ two (fun d => credReach d u (fr d c)) ∗ two (fun d => held (qM d) (sl (u + 1)) c fullShare (qq m d (u - 6) c)))
      ⊢ iprop(((Own c l ∗ ring (u + 1) c) -∗ Q ⟨⟩) -∗ WP c (creditSignal D.gA D.gB) Q) := by
  unfold ring tokC two
  iintro ⟨#HI, HO, ⟨HpS, HpS', ⟨HpRA, HpRB⟩, HpR'⟩, HcC, HcR, ⟨HsA, HsB⟩⟩ Hk
  ihave H := (posR_reach c false (u + 1)) $$ HpRA
  icases H with ⟨HpRA, #HrRA⟩
  ihave H := (posR_reach c true (u + 1)) $$ HpRB
  icases H with ⟨HpRB, #HrRB⟩
  iapply (creditSignal_spec m K c u hu' hgA hgB) $$ [HO HcC HcR HsA HsB]
  · isplitr; · iexact HI
    isplitl [HO]; · iexact HO
    isplitl [HcC]; · iexact HcC
    isplitl [HcR]; · iexact HcR
    unfold freeSlot
    rw [any_q false (u + 1) (by omega), any_q true (u + 1) (by omega)]
    unfold freeH
    isplitl [HsA]
    · isplitl [HsA]; · iexists _; iexact HsA
      iexact HrRA
    isplitl [HsB]; · iexists _; iexact HsB
    iexact HrRB
  iintro HO
  iapply Hk
  isplitl [HO]; · iexact HO
  isplitl [HpS]; · iexact HpS
  isplitl [HpS']; · iexact HpS'
  isplitl [HpRA HpRB]; · isplitl [HpRA] <;> iassumption
  iexact HpR'

/-- The blocks of the last step waited for and those of this one stored. -/
theorem deqNext_spec {Q : PUnit → sProp (MT nD τ sig ℕ (Elt F) ℕ UU ℕ)} (h : ℕ) (s : Fin 2) (q : PosShare TreeShare) (pA nA pB nB : Off) {l : List Ob} (hl : Above 0 l) :
    iprop(levAts L lv ∗ Own c l ∗ two (fun d => held (qM d) s c q (qq m d (h + 1) c)) ∗ (dBusy m false h pA c ∗ dBusy m true h pB c) ∗ (oFree nA c ∗ oFree nB c))
      ⊢ iprop(((Own c l ∗ two (fun d => held (qM d) s c q (qq m d (h + 1) c)) ∗ (dBusy m false (h + 1) nA c ∗ dBusy m true (h + 1) nB c) ∗ (oDone m false h pA c ∗ oDone m true h pB c)) -∗ Q ⟨⟩)
        -∗ WP c (deqNext s (scale m c) pA nA pB nB) Q) := by
  unfold deqNext two WP
  simp only [wp_bind]
  iintro ⟨#Hl, HO, ⟨HqA, HqB⟩, ⟨HdA, HdB⟩, ⟨HfA, HfB⟩⟩ Hk
  iapply (deqWait_spec m c false h pA hl) $$ [HO HdA]
  · isplitr; · iexact Hl
    isplitl [HO] <;> iassumption
  iintro ⟨HO, HiA, HoA⟩
  iapply (deq_spec m c false (h + 1) s q nA) $$ [HqA HiA HfA]
  · isplitl [HqA]; · iexact HqA
    isplitl [HiA] <;> iassumption
  iintro ⟨HqA, HdA⟩
  iapply (deqWait_spec m c true h pB hl) $$ [HO HdB]
  · isplitr; · iexact Hl
    isplitl [HO] <;> iassumption
  iintro ⟨HO, HiB, HoB⟩
  iapply (deq_spec m c true (h + 1) s q nB) $$ [HqB HiB HfB]
  · isplitl [HqB]; · iexact HqB
    isplitl [HiB] <;> iassumption
  iintro ⟨HqB, HdB⟩
  iapply Hk
  isplitl [HO]; · iexact HO
  isplitl [HqA HqB]; · isplitl [HqA] <;> iassumption
  isplitl [HdA HdB]; · isplitl [HdA] <;> iassumption
  isplitl [HoA] <;> iassumption

end Cert.Proof

end
-- ==== Proof.Chain.lean ====
/-
  The body on one device: the reduce-scatter steps, the scalar ring and the all-gather steps chained, from what the launch
  hands the device to the whole result.
-/
module

public import proofs.«01_k».proof.Proof.Ring

@[expose] public section

set_option maxRecDepth 16384

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (K : CK × Dev nD → ℕ) (c : Dev nD)

/-! ## The reduce-scatter steps -/

/-- After step `v`. -/
def St (v : ℕ) (c : Dev nD) : sProp 𝕄 :=
  iprop(ring (v + 1) c ∗ credPos v c ∗ two (fun d => held (commM d) (sl v) c fullShare (cc m d (v + 1) c)) ∗ two (fun d => xIdle m d c) ∗ own c wM fullShare (wbf m c))

theorem rsFirst_spec {Q : PUnit → sProp (MT nD τ sig ℕ (Elt F) ℕ UU ℕ)} {l : List Ob} (hl : Above 2 (obCred 0 l)) (D : Devs)
    (hsA : D.sA = nb false c) (hsB : D.sB = nb true c) (hgA : D.gA = fr false c) (hgB : D.gB = fr true c) :
    iprop(invs m K ∗ levAts L lv ∗ Own c (obStep 0 l) ∗ ring 0 c ∗ credPos 0 c ∗ tokS 0 c ∗ tokC 0 c ∗ slots 0 c
        ∗ two (fun d => held (commM d) (sl 1) c fullShare (cc m d 0 c)) ∗ two (fun d => xIdle m d c) ∗ own c wM fullShare (wbf m c))
      ⊢ iprop(((Own c l ∗ St m 0 c) -∗ Q ⟨⟩)
        -∗ WP c (rsTail (sl 1) (sl 0) D (xO false 0 c).off (xO false 0 c).inb (xO true 0 c).off (xO true 0 c).inb) Q) := by
  unfold St
  iintro ⟨#HI, #Hl, HO, Hr, Hp, Ht, Hc, Hs, Hm, Hx, Hw⟩ Hk
  iapply (rsTail_spec m K c 0 (by omega) hl D hsA hsB hgA hgB (fun _ => iprop(emp)) (fun _ => iprop(emp))
    (fun d => by
      rw [any_comm d (0 + 1) (by omega)]
      unfold freeH
      iintro ⟨H, -⟩
      isplitl [H]; · iexists _; iexact H
      iempintro)) $$ [HO Hr Hp Ht Hc Hs Hm Hx Hw]
  · isplitr; · iexact HI
    isplitr; · iexact Hl
    isplitl [HO]; · iexact HO
    isplitl [Hr]; · iexact Hr
    isplitl [Hp]; · iexact Hp
    isplitl [Ht]; · iexact Ht
    isplitl [Hc]; · iexact Hc
    isplitl [Hs]; · iexact Hs
    isplitl [Hm]; · iexact Hm
    isplitl [Hx]; · iexact Hx
    isplitl [Hw]; · iexact Hw
    unfold two
    isplitr <;> iempintro
  iintro ⟨HO, Hr, Hp, Hm, Hx, Hw, -⟩
  iapply Hk
  isplitl [HO]; · iexact HO
  isplitl [Hr]; · iexact Hr
  isplitl [Hp]; · iexact Hp
  isplitl [Hm]; · iexact Hm
  isplitl [Hx] <;> iassumption

/-- A step after the first. -/
theorem rsStepG_spec {Q : PUnit → sProp (MT nD τ sig ℕ (Elt F) ℕ UU ℕ)} (v : ℕ) (hv : v ≤ 4) {l : List Ob} (hl : Above (16 * (v + 1) + 2) (obCred (v + 1) l))
    (hl' : Above (16 * v + 17) (obStep (v + 1) l)) (D : Devs)
    (hsA : D.sA = nb false c) (hsB : D.sB = nb true c) (hgA : D.gA = fr false c) (hgB : D.gB = fr true c) (Gi Go : Bool → sProp (MT nD τ sig ℕ (Elt F) ℕ UU ℕ))
    (hg : ∀ d, iprop(held (commM d) (sl (v + 1 + 1)) c fullShare (cc m d (v + 1) c) ∗ Gi d) ⊢ iprop(anyBlk d (v + 1 + 1) c ∗ Go d)) :
    iprop(invs m K ∗ levAts L lv ∗ Own c (obStep (v + 1) l) ∗ St m v c ∗ crC v c ∗ tokS (v + 1) c ∗ tokC (v + 1) c ∗ two Gi)
      ⊢ iprop(((Own c l ∗ St m (v + 1) c ∗ two Go) -∗ Q ⟨⟩)
        -∗ WP c (creditWait >>= fun _ => rsTail (sl (v + 1 + 1)) (sl (v + 1)) D (xO false (v + 1) c).off (xO false (v + 1) c).inb (xO true (v + 1) c).off (xO true (v + 1) c).inb) Q) := by
  unfold St WP
  simp only [wp_bind]
  iintro ⟨#HI, #Hl, HO, ⟨Hr, Hp, Hm, Hx, Hw⟩, Hcr, Ht, Hc, HG⟩ Hk
  iapply (credWait_spec m K c v (by omega) hl') $$ [HO Hp Hcr]
  · isplitr; · iexact HI
    isplitr; · iexact Hl
    isplitl [HO]; · iexact HO
    isplitl [Hp] <;> iassumption
  iintro ⟨HO, Hp, Hs⟩
  iapply (rsTail_spec m K c (v + 1) (by omega) hl D hsA hsB hgA hgB Gi Go hg) $$ [HO Hr Hp Ht Hc Hs Hm Hx Hw HG]
  · isplitr; · iexact HI
    isplitr; · iexact Hl
    isplitl [HO]; · iexact HO
    isplitl [Hr]; · iexact Hr
    isplitl [Hp]; · iexact Hp
    isplitl [Ht]; · iexact Ht
    isplitl [Hc]; · iexact Hc
    isplitl [Hs]; · iexact Hs
    isplitl [Hm]
    · rw [show sl (v + 1 + 1) = sl v from sl_two v]; iexact Hm
    isplitl [Hx]; · iexact Hx
    isplitl [Hw]; · iexact Hw
    iexact HG
  iintro ⟨HO, Hr, Hp, Hm, Hx, Hw, HG⟩
  iapply Hk
  isplitl [HO]; · iexact HO
  isplitr [HG]
  · isplitl [Hr]; · iexact Hr
    isplitl [Hp]; · iexact Hp
    isplitl [Hm]; · iexact Hm
    isplitl [Hx] <;> iassumption
  iexact HG

theorem rsStep_spec {Q : PUnit → sProp (MT nD τ sig ℕ (Elt F) ℕ UU ℕ)} (v : ℕ) (hv : v ≤ 3) {l : List Ob} (hl : Above (16 * (v + 1) + 2) (obCred (v + 1) l))
    (hl' : Above (16 * v + 17) (obStep (v + 1) l)) (D : Devs)
    (hsA : D.sA = nb false c) (hsB : D.sB = nb true c) (hgA : D.gA = fr false c) (hgB : D.gB = fr true c) :
    iprop(invs m K ∗ levAts L lv ∗ Own c (obStep (v + 1) l) ∗ St m v c ∗ crC v c ∗ tokS (v + 1) c ∗ tokC (v + 1) c)
      ⊢ iprop(((Own c l ∗ St m (v + 1) c) -∗ Q ⟨⟩)
        -∗ WP c (creditWait >>= fun _ => rsTail (sl (v + 1 + 1)) (sl (v + 1)) D (xO false (v + 1) c).off (xO false (v + 1) c).inb (xO true (v + 1) c).off (xO true (v + 1) c).inb) Q) := by
  iintro ⟨#HI, #Hl, HO, HS, Hcr, Ht, Hc⟩ Hk
  iapply (rsStepG_spec m K c v (by omega) hl hl' D hsA hsB hgA hgB (fun _ => iprop(emp)) (fun _ => iprop(emp))
    (fun d => by
      rw [any_comm d (v + 1 + 1) (by omega)]
      unfold freeH
      iintro ⟨H, -⟩
      isplitl [H]; · iexists _; iexact H
      iempintro)) $$ [HO HS Hcr Ht Hc]
  · isplitr; · iexact HI
    isplitr; · iexact Hl
    isplitl [HO]; · iexact HO
    isplitl [HS]; · iexact HS
    isplitl [Hcr]; · iexact Hcr
    isplitl [Ht]; · iexact Ht
    isplitl [Hc]; · iexact Hc
    unfold two
    isplitr <;> iempintro
  iintro ⟨HO, HS, -⟩
  iapply Hk
  isplitl [HO] <;> iassumption

/-- The last: the int8 slot 0 is handed over, slot 0 of the accumulators kept. -/
theorem rsLast_spec {Q : PUnit → sProp (MT nD τ sig ℕ (Elt F) ℕ UU ℕ)} {l : List Ob} (hl : Above 82 (obCred 5 l)) (hl' : Above 81 (obStep 5 l)) (D : Devs)
    (hsA : D.sA = nb false c) (hsB : D.sB = nb true c) (hgA : D.gA = fr false c) (hgB : D.gB = fr true c) :
    iprop(invs m K ∗ levAts L lv ∗ Own c (obStep 5 l) ∗ St m 4 c ∗ crC 4 c ∗ tokS 5 c ∗ tokC 5 c ∗ two (fun d => freeH (qM d) 0 c))
      ⊢ iprop(((Own c l ∗ St m 5 c ∗ two (fun d => freeH (commM d) 0 c)) -∗ Q ⟨⟩)
        -∗ WP c (creditWait >>= fun _ => rsTail (sl 6) (sl 5) D (xO false 5 c).off (xO false 5 c).inb (xO true 5 c).off (xO true 5 c).inb) Q) :=
  rsStepG_spec m K c 4 (by omega) hl hl' D hsA hsB hgA hgB (fun d => freeH (qM d) 0 c) (fun d => freeH (commM d) 0 c)
    (fun d => by
      rw [any_q d (4 + 1 + 1) (by omega), show sl (4 + 1 + 1) = 0 from rfl]
      unfold freeH
      iintro ⟨H, Hq⟩
      isplitl [Hq]; · iexact Hq
      iexists _; iexact H)

/-! ## The all-gather steps -/

/-- Before step `u`. -/
def GSt (u : ℕ) (c : Dev nD) : sProp 𝕄 :=
  iprop(ring u c ∗ credPos (u - 1) c ∗ two (fun d => held (qM d) (sl (u + 1)) c fullShare (qq m d (u - 6) c)))

theorem agFirst_spec {Q : PUnit → sProp (MT nD τ sig ℕ (Elt F) ℕ UU ℕ)} {l : List Ob} (hl : Above 97 (obStep 6 l)) (hl' : Above 98 (obCred 6 l)) (D : Devs)
    (hsA : D.sA = nb false c) (hsB : D.sB = nb true c) (hgA : D.gA = fr false c) (hgB : D.gB = fr true c) (nA nB : Off) :
    iprop(invs m K ∗ levAts L lv ∗ Own c (obStep 6 l) ∗ GSt m 6 c ∗ crC 5 c ∗ tokS 6 c ∗ tokC 6 c ∗ two (fun d => dIdle d c) ∗ (oFree nA c ∗ oFree nB c))
      ⊢ iprop(((Own c l ∗ GSt m 7 c ∗ (dBusy m false 0 nA c ∗ dBusy m true 0 nB c)) -∗ Q ⟨⟩)
        -∗ WP c (agFirst (sl 7) (sl 6) D (scale m c) nA nB) Q) := by
  unfold agFirst GSt two WP
  simp only [wp_bind]
  iintro ⟨#HI, #Hl, HO, ⟨Hr, Hp, Hq⟩, Hcr, Ht, Hc, ⟨HiA, HiB⟩, ⟨HfA, HfB⟩⟩ Hk
  iapply (agSend_spec m K c 6 (by omega) (by omega) hl D hsA hsB) $$ [HO Hr Hp Hq Hcr Ht]
  · isplitr; · iexact HI
    isplitr; · iexact Hl
    isplitl [HO]; · iexact HO
    isplitl [Hr]; · iexact Hr
    isplitl [Hp]; · iexact Hp
    isplitl [Hcr]; · iexact Hcr
    isplitl [Ht]; · iexact Ht
    icases Hq with ⟨HqA, HqB⟩
    unfold two
    isplitl [HqA] <;> iassumption
  iintro ⟨HO, Hp, HS⟩
  ihave HS := (show sent m 6 c ⊢ iprop(two (fun d => sendCr d 6 c) ∗ two (fun d => recvCr d 6 c) ∗ ring 6 c ∗ (held (qM false) (sl (6 + 1)) c fullShare.right (qq m false 0 c) ∗ held (qM true) (sl (6 + 1)) c fullShare.right (qq m true 0 c))) from BI.Entails.refl _) $$ HS
  icases HS with ⟨H1, H2, H3, ⟨HqA, HqB⟩⟩
  iapply (deq_spec m c false 0 (sl 7) fullShare.right nA) $$ [HqA HiA HfA]
  · isplitl [HqA]; · iexact HqA
    isplitl [HiA] <;> iassumption
  iintro ⟨HqA, HdA⟩
  iapply (deq_spec m c true 0 (sl 7) fullShare.right nB) $$ [HqB HiB HfB]
  · isplitl [HqB]; · iexact HqB
    isplitl [HiB] <;> iassumption
  iintro ⟨HqB, HdB⟩
  iapply (agWait_spec m K c 6 (by omega) (by omega) hl') $$ [HO H1 H2 H3 HqA HqB]
  · isplitr; · iexact HI
    isplitr; · iexact Hl
    isplitl [HO]; · iexact HO
    unfold sent
    isplitl [H1]; · iexact H1
    isplitl [H2]; · iexact H2
    isplitl [H3]; · iexact H3
    unfold two
    isplitl [HqA] <;> iassumption
  iintro ⟨HO, Hr, Hcr, Hs, Hd⟩
  iapply (agSignal_spec m K c 6 (by omega) (by omega) D hgA hgB) $$ [HO Hr Hcr Hs Hc]
  · isplitr; · iexact HI
    isplitl [HO]; · iexact HO
    isplitl [Hr]; · iexact Hr
    isplitl [Hc]; · iexact Hc
    isplitl [Hcr] <;> iassumption
  iintro ⟨HO, Hr⟩
  iapply Hk
  isplitl [HO]; · iexact HO
  isplitl [Hr Hp Hd]
  · isplitl [Hr]; · iexact Hr
    isplitl [Hp]; · iexact Hp
    ihave Hd := (show two (fun d => held (qM d) (sl 6) c fullShare (qq m d 1 c)) ⊢ iprop(held (qM false) (sl 6) c fullShare (qq m false 1 c) ∗ held (qM true) (sl 6) c fullShare (qq m true 1 c)) from BI.Entails.refl _) $$ Hd
    icases Hd with ⟨HqA, HqB⟩
    isplitl [HqA]; · iexact HqA
    iexact HqB
  isplitl [HdA] <;> iassumption

/-- Step `h + 7`. -/
theorem agMid_spec {Q : PUnit → sProp (MT nD τ sig ℕ (Elt F) ℕ UU ℕ)} (h : ℕ) (hh : h < 5) {l : List Ob} (hl : Above (16 * (h + 7 - 1) + 17) (obStep (h + 7) l))
    (hl' : Above (16 * (h + 7) + 2) (obCred (h + 7) l)) (D : Devs)
    (hsA : D.sA = nb false c) (hsB : D.sB = nb true c) (hgA : D.gA = fr false c) (hgB : D.gB = fr true c) (pA nA pB nB : Off) :
    iprop(invs m K ∗ levAts L lv ∗ Own c (obStep (h + 7) l) ∗ GSt m (h + 7) c ∗ crC (h + 6) c ∗ tokS (h + 7) c ∗ tokC (h + 7) c
        ∗ (dBusy m false h pA c ∗ dBusy m true h pB c) ∗ (oFree nA c ∗ oFree nB c))
      ⊢ iprop(((Own c l ∗ GSt m (h + 8) c ∗ (dBusy m false (h + 1) nA c ∗ dBusy m true (h + 1) nB c) ∗ (oDone m false h pA c ∗ oDone m true h pB c)) -∗ Q ⟨⟩)
        -∗ WP c (agMid (sl (h + 7 + 1)) (sl (h + 7)) D (scale m c) pA nA pB nB) Q) := by
  unfold agMid GSt WP
  simp only [wp_bind]
  iintro ⟨#HI, #Hl, HO, ⟨Hr, Hp, Hq⟩, Hcr, Ht, Hc, Hd, Hf⟩ Hk
  iapply (agSend_spec m K c (h + 7) (by omega) (by omega) hl D hsA hsB) $$ [HO Hr Hp Hq Hcr Ht]
  · isplitr; · iexact HI
    isplitr; · iexact Hl
    isplitl [HO]; · iexact HO
    isplitl [Hr]; · iexact Hr
    isplitl [Hp]; · iexact Hp
    isplitl [Hcr]; · iexact Hcr
    isplitl [Ht]; · iexact Ht
    iexact Hq
  iintro ⟨HO, Hp, HS⟩
  have e : h + 7 - 6 = h + 1 := by omega
  ihave HS := (show sent m (h + 7) c ⊢ iprop(two (fun d => sendCr d (h + 7) c) ∗ two (fun d => recvCr d (h + 7) c) ∗ ring (h + 7) c ∗ two (fun d => held (qM d) (sl (h + 7 + 1)) c fullShare.right (qq m d (h + 1) c)))
    from Entails.of_eq (by unfold sent; rw [e])) $$ HS
  icases HS with ⟨H1, H2, H3, Hq⟩
  iapply (deqNext_spec m c h (sl (h + 7 + 1)) fullShare.right pA nA pB nB (above_mono (Nat.zero_le _) hl')) $$ [HO Hq Hd Hf]
  · isplitr; · iexact Hl
    isplitl [HO]; · iexact HO
    isplitl [Hq]; · iexact Hq
    isplitl [Hd] <;> iassumption
  iintro ⟨HO, Hq, Hd, Ho⟩
  iapply (agWait_spec m K c (h + 7) (by omega) (by omega) hl') $$ [HO H1 H2 H3 Hq]
  · isplitr; · iexact HI
    isplitr; · iexact Hl
    isplitl [HO]; · iexact HO
    unfold sent
    rw [e]
    isplitl [H1]; · iexact H1
    isplitl [H2]; · iexact H2
    isplitl [H3]; · iexact H3
    iexact Hq
  iintro ⟨HO, Hr, Hcr, Hs, Hq⟩
  iapply (agSignal_spec m K c (h + 7) (by omega) (by omega) D hgA hgB) $$ [HO Hr Hcr Hs Hc]
  · isplitr; · iexact HI
    isplitl [HO]; · iexact HO
    isplitl [Hr]; · iexact Hr
    isplitl [Hc]; · iexact Hc
    isplitl [Hcr] <;> iassumption
  iintro ⟨HO, Hr⟩
  iapply Hk
  isplitl [HO]; · iexact HO
  isplitl [Hr Hp Hq]
  · isplitl [Hr]; · iexact Hr
    isplitl [Hp]; · iexact Hp
    rw [show sl (h + 8 + 1) = sl (h + 7) from sl_two (h + 7)]
    iexact Hq
  isplitl [Hd] <;> iassumption

/-- Step 12: nothing is signalled. -/
theorem agLast_spec {Q : PUnit → sProp (MT nD τ sig ℕ (Elt F) ℕ UU ℕ)} (pA nA pB nB : Off) (D : Devs)
    (hsA : D.sA = nb false c) (hsB : D.sB = nb true c) :
    iprop(invs m K ∗ levAts L lv ∗ Own c (obSend 12 []) ∗ GSt m 12 c ∗ crC 11 c ∗ tokS 12 c
        ∗ (dBusy m false 5 pA c ∗ dBusy m true 5 pB c) ∗ (oFree nA c ∗ oFree nB c))
      ⊢ iprop(((Own c [] ∗ ring 13 c ∗ credPos 12 c ∗ two (fun d => held (qM d) (sl 13) c fullShare (qq m d 6 c)) ∗ two (fun d => held (qM d) (sl 12) c fullShare (qq m d 7 c))
            ∗ (dBusy m false 6 nA c ∗ dBusy m true 6 nB c) ∗ (oDone m false 5 pA c ∗ oDone m true 5 pB c)) -∗ Q ⟨⟩)
        -∗ WP c (agLast (sl 13) (sl 12) D (scale m c) pA nA pB nB) Q) := by
  unfold agLast GSt WP
  simp only [wp_bind]
  iintro ⟨#HI, #Hl, HO, ⟨Hr, Hp, Hq⟩, Hcr, Ht, Hd, Hf⟩ Hk
  iapply (agSend_spec m K c 12 (by omega) (by omega) (l := []) (by decide) D hsA hsB) $$ [HO Hr Hp Hq Hcr Ht]
  · isplitr; · iexact HI
    isplitr; · iexact Hl
    isplitl [HO]; · iexact HO
    isplitl [Hr]; · iexact Hr
    isplitl [Hp]; · iexact Hp
    isplitl [Hcr]; · iexact Hcr
    isplitl [Ht]; · iexact Ht
    iexact Hq
  iintro ⟨HO, Hp, HS⟩
  ihave HS := (show sent m 12 c ⊢ iprop(two (fun d => sendCr d 12 c) ∗ two (fun d => recvCr d 12 c) ∗ ring 12 c ∗ two (fun d => held (qM d) (sl 13) c fullShare.right (qq m d (5 + 1) c)))
    from BI.Entails.refl _) $$ HS
  icases HS with ⟨H1, H2, H3, Hq⟩
  iapply (deqNext_spec m c 5 (sl 13) fullShare.right pA nA pB nB (l := []) (by decide)) $$ [HO Hq Hd Hf]
  · isplitr; · iexact Hl
    isplitl [HO]; · iexact HO
    isplitl [Hq]; · iexact Hq
    isplitl [Hd] <;> iassumption
  iintro ⟨HO, Hq, Hd, Ho⟩
  iapply (agWait_spec m K c 12 (by omega) (by omega) (l := []) (by decide)) $$ [HO H1 H2 H3 Hq]
  · isplitr; · iexact HI
    isplitr; · iexact Hl
    isplitl [HO]; · iexact HO
    unfold sent
    isplitl [H1]; · iexact H1
    isplitl [H2]; · iexact H2
    isplitl [H3]; · iexact H3
    iexact Hq
  iintro ⟨HO, Hr, -, Hs, Hq⟩
  iapply Hk
  isplitl [HO]; · iexact HO
  isplitl [Hr]; · iexact Hr
  isplitl [Hp]; · iexact Hp
  isplitl [Hs]; · iexact Hs
  isplitl [Hq]; · iexact Hq
  isplitl [Hd] <;> iassumption

end Cert.Proof

end
-- ==== Proof.Body.lean ====
/-
  The body on one device: the three phases chained, from what the launch hands the device to the whole result.
-/
module

public import proofs.«01_k».proof.Proof.Chain

@[expose] public section

set_option maxRecDepth 16384

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (K : CK × Dev nD → ℕ) (c : Dev nD)

/-! ## What is owed, in order -/

abbrev l12 : List Ob := obSend 12 []
abbrev l11 : List Ob := obStep 11 l12
abbrev l10 : List Ob := obStep 10 l11
abbrev l9 : List Ob := obStep 9 l10
abbrev l8 : List Ob := obStep 8 l9
abbrev l7 : List Ob := obStep 7 l8
abbrev l6 : List Ob := obStep 6 l7
abbrev h6 : List Ob := obHop 6 l6
abbrev h5 : List Ob := obHop 5 h6
abbrev h4 : List Ob := obHop 4 h5
abbrev h3 : List Ob := obHop 3 h4
abbrev h2 : List Ob := obHop 2 h3
abbrev h1 : List Ob := obHop 1 h2
abbrev h0 : List Ob := obHop 0 h1
abbrev r5 : List Ob := obStep 5 h0
abbrev r4 : List Ob := obStep 4 r5
abbrev r3 : List Ob := obStep 3 r4
abbrev r2 : List Ob := obStep 2 r3
abbrev r1 : List Ob := obStep 1 r2
abbrev r0 : List Ob := obStep 0 r1
abbrev obAll : List Ob := obBar r0

/-! ## What each phase is handed -/

/-- For the step after `v`. -/
def stepT (v : ℕ) (c : Dev nD) : sProp 𝕄 := iprop(crC v c ∗ tokS (v + 1) c ∗ tokC (v + 1) c)
def toksRS (c : Dev nD) : sProp 𝕄 := iprop((tokS 0 c ∗ tokC 0 c) ∗ stepT 0 c ∗ stepT 1 c ∗ stepT 2 c ∗ stepT 3 c ∗ stepT 4 c)
def toksAG (c : Dev nD) : sProp 𝕄 := iprop(stepT 5 c ∗ stepT 6 c ∗ stepT 7 c ∗ stepT 8 c ∗ stepT 9 c ∗ stepT 10 c ∗ crC 11 c ∗ tokS 12 c)
/-- For a hop. -/
def hopT (h : Fin 7) (c : Dev nD) : sProp 𝕄 :=
  iprop((dutyTok ER (cell (.ssend h) c) 0 false ∗ dutyTok ER (cell (.srecv h) (nb false c)) 0 false)
    ∗ pos (.ssend h) 0 c ∗ pos (.srecv h) 0 c ∗ cred (tallyAt (cell (.srecv h) c) 0 Ns))
def hopsT (c : Dev nD) : sProp 𝕄 := iprop(hopT 0 c ∗ hopT 1 c ∗ hopT 2 c ∗ hopT 3 c ∗ hopT 4 c ∗ hopT 5 c ∗ hopT 6 c)
def hopsOut (c : Dev nD) : sProp 𝕄 := iprop(hopOut 0 c ∗ hopOut 1 c ∗ hopOut 2 c ∗ hopOut 3 c ∗ hopOut 4 c ∗ hopOut 5 c ∗ hopOut 6 c)
/-- For the barrier. -/
def barT (c : Dev nD) : sProp 𝕄 :=
  iprop(cred (tallyAt (cell .bar c) 0 2) ∗ pos .bar 0 c ∗ (dutyTok ER (cell .bar (fr false c)) 0 false ∗ dutyTok ER (cell .bar (fr true c)) 0 true)
    ∗ (reached ER (cell .bar (fr false c)) 0 ∗ reached ER (cell .bar (fr true c)) 0))
/-- The arguments. -/
def args (c : Dev nD) : sProp 𝕄 :=
  iprop((own c xA (hs false) (xs m c) ∗ own c xA (hs true) (xs m c)) ∗ (own c wA (hw 0) (ws m c) ∗ own c wA (hw 1) (ws m c))
    ∗ (own c (accA false) fullShare (sd m false c) ∗ own c (accA true) fullShare (sd m true c)))

/-! ## The reduce-scatter -/

abbrev D0 (c : Dev nD) : Devs := ⟨⟨k0_dev3 c, k0_dev3_lt c⟩, ⟨k0_dev4 c, k0_dev4_lt c⟩, ⟨k0_dev5 c, k0_dev5_lt c⟩, ⟨k0_dev6 c, k0_dev6_lt c⟩⟩
theorem rs1_eq : (rs1 c : Pg F PUnit) = (rsTail (sl 1) (sl 0) (D0 c) (xO false 0 c).off (xO false 0 c).inb (xO true 0 c).off (xO true 0 c).inb) := rfl
abbrev D1 (c : Dev nD) : Devs := ⟨⟨k0_dev7 c, k0_dev7_lt c⟩, ⟨k0_dev8 c, k0_dev8_lt c⟩, ⟨k0_dev9 c, k0_dev9_lt c⟩, ⟨k0_dev10 c, k0_dev10_lt c⟩⟩
theorem rs2_eq : (rs2 c : Pg F PUnit) = (creditWait >>= fun _ => rsTail (sl 2) (sl 1) (D1 c) (xO false 1 c).off (xO false 1 c).inb (xO true 1 c).off (xO true 1 c).inb) := rfl
abbrev D2 (c : Dev nD) : Devs := ⟨⟨k0_dev11 c, k0_dev11_lt c⟩, ⟨k0_dev12 c, k0_dev12_lt c⟩, ⟨k0_dev13 c, k0_dev13_lt c⟩, ⟨k0_dev14 c, k0_dev14_lt c⟩⟩
theorem rs3_eq : (rs3 c : Pg F PUnit) = (creditWait >>= fun _ => rsTail (sl 3) (sl 2) (D2 c) (xO false 2 c).off (xO false 2 c).inb (xO true 2 c).off (xO true 2 c).inb) := rfl
abbrev D3 (c : Dev nD) : Devs := ⟨⟨k0_dev15 c, k0_dev15_lt c⟩, ⟨k0_dev16 c, k0_dev16_lt c⟩, ⟨k0_dev17 c, k0_dev17_lt c⟩, ⟨k0_dev18 c, k0_dev18_lt c⟩⟩
theorem rs4_eq : (rs4 c : Pg F PUnit) = (creditWait >>= fun _ => rsTail (sl 4) (sl 3) (D3 c) (xO false 3 c).off (xO false 3 c).inb (xO true 3 c).off (xO true 3 c).inb) := rfl
abbrev D4 (c : Dev nD) : Devs := ⟨⟨k0_dev19 c, k0_dev19_lt c⟩, ⟨k0_dev20 c, k0_dev20_lt c⟩, ⟨k0_dev21 c, k0_dev21_lt c⟩, ⟨k0_dev22 c, k0_dev22_lt c⟩⟩
theorem rs5_eq : (rs5 c : Pg F PUnit) = (creditWait >>= fun _ => rsTail (sl 5) (sl 4) (D4 c) (xO false 4 c).off (xO false 4 c).inb (xO true 4 c).off (xO true 4 c).inb) := rfl
abbrev D5 (c : Dev nD) : Devs := ⟨⟨k0_dev23 c, k0_dev23_lt c⟩, ⟨k0_dev24 c, k0_dev24_lt c⟩, ⟨k0_dev25 c, k0_dev25_lt c⟩, ⟨k0_dev26 c, k0_dev26_lt c⟩⟩
theorem rs6_eq : (rs6 c : Pg F PUnit) = (creditWait >>= fun _ => rsTail (sl 6) (sl 5) (D5 c) (xO false 5 c).off (xO false 5 c).inb (xO true 5 c).off (xO true 5 c).inb) := rfl
abbrev D6 (c : Dev nD) : Devs := ⟨⟨k0_dev34 c, k0_dev34_lt c⟩, ⟨k0_dev35 c, k0_dev35_lt c⟩, ⟨k0_dev36 c, k0_dev36_lt c⟩, ⟨k0_dev37 c, k0_dev37_lt c⟩⟩
abbrev D7 (c : Dev nD) : Devs := ⟨⟨k0_dev38 c, k0_dev38_lt c⟩, ⟨k0_dev39 c, k0_dev39_lt c⟩, ⟨k0_dev40 c, k0_dev40_lt c⟩, ⟨k0_dev41 c, k0_dev41_lt c⟩⟩
abbrev D8 (c : Dev nD) : Devs := ⟨⟨k0_dev42 c, k0_dev42_lt c⟩, ⟨k0_dev43 c, k0_dev43_lt c⟩, ⟨k0_dev44 c, k0_dev44_lt c⟩, ⟨k0_dev45 c, k0_dev45_lt c⟩⟩
abbrev D9 (c : Dev nD) : Devs := ⟨⟨k0_dev46 c, k0_dev46_lt c⟩, ⟨k0_dev47 c, k0_dev47_lt c⟩, ⟨k0_dev48 c, k0_dev48_lt c⟩, ⟨k0_dev49 c, k0_dev49_lt c⟩⟩
abbrev D10 (c : Dev nD) : Devs := ⟨⟨k0_dev50 c, k0_dev50_lt c⟩, ⟨k0_dev51 c, k0_dev51_lt c⟩, ⟨k0_dev52 c, k0_dev52_lt c⟩, ⟨k0_dev53 c, k0_dev53_lt c⟩⟩
abbrev D11 (c : Dev nD) : Devs := ⟨⟨k0_dev54 c, k0_dev54_lt c⟩, ⟨k0_dev55 c, k0_dev55_lt c⟩, ⟨k0_dev56 c, k0_dev56_lt c⟩, ⟨k0_dev57 c, k0_dev57_lt c⟩⟩
abbrev D12 (c : Dev nD) : Devs := ⟨⟨k0_dev58 c, k0_dev58_lt c⟩, ⟨k0_dev59 c, k0_dev59_lt c⟩, c, c⟩
theorem D0_eq : ∀ c, (D0 c).sA = nb false c ∧ (D0 c).sB = nb true c ∧ (D0 c).gA = fr false c ∧ (D0 c).gB = fr true c := by decide
theorem D1_eq : ∀ c, (D1 c).sA = nb false c ∧ (D1 c).sB = nb true c ∧ (D1 c).gA = fr false c ∧ (D1 c).gB = fr true c := by decide
theorem D2_eq : ∀ c, (D2 c).sA = nb false c ∧ (D2 c).sB = nb true c ∧ (D2 c).gA = fr false c ∧ (D2 c).gB = fr true c := by decide
theorem D3_eq : ∀ c, (D3 c).sA = nb false c ∧ (D3 c).sB = nb true c ∧ (D3 c).gA = fr false c ∧ (D3 c).gB = fr true c := by decide
theorem D4_eq : ∀ c, (D4 c).sA = nb false c ∧ (D4 c).sB = nb true c ∧ (D4 c).gA = fr false c ∧ (D4 c).gB = fr true c := by decide
theorem D5_eq : ∀ c, (D5 c).sA = nb false c ∧ (D5 c).sB = nb true c ∧ (D5 c).gA = fr false c ∧ (D5 c).gB = fr true c := by decide
theorem D6_eq : ∀ c, (D6 c).sA = nb false c ∧ (D6 c).sB = nb true c ∧ (D6 c).gA = fr false c ∧ (D6 c).gB = fr true c := by decide
theorem D7_eq : ∀ c, (D7 c).sA = nb false c ∧ (D7 c).sB = nb true c ∧ (D7 c).gA = fr false c ∧ (D7 c).gB = fr true c := by decide
theorem D8_eq : ∀ c, (D8 c).sA = nb false c ∧ (D8 c).sB = nb true c ∧ (D8 c).gA = fr false c ∧ (D8 c).gB = fr true c := by decide
theorem D9_eq : ∀ c, (D9 c).sA = nb false c ∧ (D9 c).sB = nb true c ∧ (D9 c).gA = fr false c ∧ (D9 c).gB = fr true c := by decide
theorem D10_eq : ∀ c, (D10 c).sA = nb false c ∧ (D10 c).sB = nb true c ∧ (D10 c).gA = fr false c ∧ (D10 c).gB = fr true c := by decide
theorem D11_eq : ∀ c, (D11 c).sA = nb false c ∧ (D11 c).sB = nb true c ∧ (D11 c).gA = fr false c ∧ (D11 c).gB = fr true c := by decide
theorem D12_eq : ∀ c, (D12 c).sA = nb false c ∧ (D12 c).sB = nb true c := by decide
theorem bar_eq : ∀ c, (⟨k0_dev1 c, k0_dev1_lt c⟩ : Dev nD) = fr false c ∧ (⟨k0_dev2 c, k0_dev2_lt c⟩ : Dev nD) = fr true c := by decide
theorem hop_eq : ∀ c, (⟨k0_dev27 c, k0_dev27_lt c⟩ : Dev nD) = nb false c ∧ (⟨k0_dev28 c, k0_dev28_lt c⟩ : Dev nD) = nb false c ∧ (⟨k0_dev29 c, k0_dev29_lt c⟩ : Dev nD) = nb false c ∧ (⟨k0_dev30 c, k0_dev30_lt c⟩ : Dev nD) = nb false c ∧ (⟨k0_dev31 c, k0_dev31_lt c⟩ : Dev nD) = nb false c ∧ (⟨k0_dev32 c, k0_dev32_lt c⟩ : Dev nD) = nb false c ∧ (⟨k0_dev33 c, k0_dev33_lt c⟩ : Dev nD) = nb false c := by decide

/-- Before the barrier, -/
def headIn (c : Dev nD) : sProp 𝕄 :=
  iprop(barT c ∗ ring 0 c ∗ credPos 0 c ∗ toksRS c ∗ args m c ∗ (zCopy 0 c ∗ zCopy 1 c)
    ∗ (freeH stM 0 c ∗ freeH stM 1 c) ∗ (∃ X, own c wM fullShare X) ∗ ((∃ X, own c (xM false) fullShare X) ∗ (∃ X, own c (xM true) fullShare X))
    ∗ (freeSlot false 0 c ∗ rowsFree c) ∗ freeSlot true 0 c ∗ (freeH (commM false) 1 c ∗ freeH (commM true) 1 c) ∗ two (fun d => freeH (qM d) 0 c))
/-- and after the last reduce-scatter step. -/
def headOut (c : Dev nD) : sProp 𝕄 :=
  iprop(pos .bar 1 c ∗ St m 5 c ∗ two (fun d => freeH (commM d) 0 c) ∗ ((own c wA (hw 0) (ws m c) ∗ own c wA (hw 1) (ws m c))
    ∗ (own c (accA false) fullShare (sd m false c) ∗ own c (accA true) fullShare (sd m true c))) ∗ (freeH stM 0 c ∗ freeH stM 1 c) ∗ rowsFree (nb false c))

theorem head_spec {Q : PUnit → sProp (MT nD τ sig ℕ (Elt F) ℕ UU ℕ)} :
    iprop(invs m K ∗ levAts L lv ∗ Own c obAll ∗ headIn m c)
      ⊢ iprop(((Own c h0 ∗ headOut m c) -∗ Q ⟨⟩) -∗ WP c (headP c) Q) := by
  unfold headP headIn headOut barT args toksRS stepT WP
  simp only [wp_bind]
  simp only [rs1_eq, rs2_eq, rs3_eq, rs4_eq, rs5_eq, rs6_eq]
  iintro ⟨#HI, #Hl, HO, ⟨Hb1, Hb2, Hb3, Hb4⟩, Hr, Hp, ⟨⟨Ht0, Hc0⟩, ⟨Hk1, Ht1, Hc1⟩, ⟨Hk2, Ht2, Hc2⟩, ⟨Hk3, Ht3, Hc3⟩, ⟨Hk4, Ht4, Hc4⟩, ⟨Hk5, Ht5, Hc5⟩⟩, ⟨⟨HxA, HxB⟩, ⟨Hw0, Hw1⟩, ⟨HaA, HaB⟩⟩, ⟨Hz0, Hz1⟩, ⟨Hs0, Hs1⟩, ⟨%Y, HwM⟩, ⟨HMA, HMB⟩, HgA, HgB, ⟨HcA, HcB⟩, Hq⟩ Hk
  iapply (barrier_spec m K c (l := r0) (by decide) (bar_eq c).1 (bar_eq c).2) $$ [HO Hb1 Hb2 Hb3 Hb4 HgA HgB]
  · isplitr; · iexact HI
    isplitr; · iexact Hl
    isplitl [HO]; · iexact HO
    isplitl [Hb1]; · iexact Hb1
    isplitl [Hb2]; · iexact Hb2
    isplitl [Hb3]; · iexact Hb3
    isplitl [Hb4]; · iexact Hb4
    isplitl [HgA]; · iexact HgA
    iexact HgB
  iintro ⟨HO, Hb, ⟨HfA, Hrows⟩, HfB⟩
  iapply (wStart_spec m c 0) $$ [Hw0 Hz0 Hs0]
  · isplitr [Hs0]
    · unfold wRest; isplitl [Hw0]; · iexact Hw0
      iexact Hz0
    iexact Hs0
  iintro Hwb0
  iapply (wStart_spec m c 1) $$ [Hw1 Hz1 Hs1]
  · isplitr [Hs1]
    · unfold wRest; isplitl [Hw1]; · iexact Hw1
      iexact Hz1
    iexact Hs1
  iintro Hwb1
  iapply (wCast_spec m c 0 Y (l := r0) (by decide)) $$ [HO Hwb0 HwM]
  · isplitr; · iexact Hl
    isplitl [HO]; · iexact HO
    isplitl [Hwb0]; · iexact Hwb0
    iapply (Entails.of_eq (congrArg (fun Z => own c wM fullShare Z) (pw_zero m c Y).symm)) $$ HwM
  unfold wRest
  iintro ⟨HO, ⟨Hw0, Hz0⟩, Hs0, HwM⟩
  iapply (wCast_spec m c 1 Y (l := r0) (by decide)) $$ [HO Hwb1 HwM]
  · isplitr; · iexact Hl
    isplitl [HO]; · iexact HO
    isplitl [Hwb1]; · iexact Hwb1
    iexact HwM
  unfold wRest
  iintro ⟨HO, ⟨Hw1, Hz1⟩, Hs1, HwM⟩
  ihave HwM := (Entails.of_eq (congrArg (fun Z => own c wM fullShare Z) (show pw m c Y ((1 : Fin 2).val + 1) = wbf m c from pw_two m c Y))) $$ HwM
  iapply (seedStart_spec m c false) $$ [HaA Hz0 HcA]
  · isplitr [HcA]
    · unfold sRest; isplitl [HaA]; · iexact HaA
      iexact Hz0
    iexact HcA
  iintro HsbA
  iapply (seedStart_spec m c true) $$ [HaB Hz1 HcB]
  · isplitr [HcB]
    · unfold sRest; isplitl [HaB]; · iexact HaB
      iexact Hz1
    iexact HcB
  iintro HsbB
  iapply (seedWait_spec m c false (l := r0) (by decide)) $$ [HO HsbA]
  · isplitr; · iexact Hl
    isplitl [HO]; · iexact HO
    iexact HsbA
  unfold sRest
  iintro ⟨HO, ⟨HaA, Hz0⟩, HcA⟩
  iapply (seedWait_spec m c true (l := r0) (by decide)) $$ [HO HsbB]
  · isplitr; · iexact Hl
    isplitl [HO]; · iexact HO
    iexact HsbB
  unfold sRest
  iintro ⟨HO, ⟨HaB, Hz1⟩, HcB⟩
  iapply (rsFirst_spec m K c (l := r1) (by decide) (D0 c) (D0_eq c).1 (D0_eq c).2.1 (D0_eq c).2.2.1 (D0_eq c).2.2.2) $$ [HO Hr Hp Ht0 Hc0 HfA HfB HcA HcB HxA HxB HMA HMB Hz0 Hz1 HwM]
  · isplitr; · iexact HI
    isplitr; · iexact Hl
    isplitl [HO]; · iexact HO
    isplitl [Hr]; · iexact Hr
    isplitl [Hp]; · iexact Hp
    isplitl [Ht0]; · iexact Ht0
    isplitl [Hc0]; · iexact Hc0
    isplitl [HfA HfB]
    · unfold slots two
      isplitl [HfA]; · iexact HfA
      iexact HfB
    isplitl [HcA HcB]
    · unfold two
      isplitl [HcA]; · iexact HcA
      iexact HcB
    isplitr [HwM]
    · unfold two xIdle xRest
      isplitl [HxA Hz0 HMA]
      · isplitr [HMA]
        · isplitl [HxA]; · iexact HxA
          iexact Hz0
        iexact HMA
      isplitr [HMB]
      · isplitl [HxB]; · iexact HxB
        iexact Hz1
      iexact HMB
    iexact HwM
  iintro ⟨HO, HS⟩
  iapply (rsStep_spec m K c 0 (by omega) (l := r2) (by decide) (by decide) (D1 c) (D1_eq c).1 (D1_eq c).2.1 (D1_eq c).2.2.1 (D1_eq c).2.2.2) $$ [HO HS Hk1 Ht1 Hc1]
  · isplitr; · iexact HI
    isplitr; · iexact Hl
    isplitl [HO]; · iexact HO
    isplitl [HS]; · iexact HS
    isplitl [Hk1]; · iexact Hk1
    isplitl [Ht1]; · iexact Ht1
    iexact Hc1
  iintro ⟨HO, HS⟩
  iapply (rsStep_spec m K c 1 (by omega) (l := r3) (by decide) (by decide) (D2 c) (D2_eq c).1 (D2_eq c).2.1 (D2_eq c).2.2.1 (D2_eq c).2.2.2) $$ [HO HS Hk2 Ht2 Hc2]
  · isplitr; · iexact HI
    isplitr; · iexact Hl
    isplitl [HO]; · iexact HO
    isplitl [HS]; · iexact HS
    isplitl [Hk2]; · iexact Hk2
    isplitl [Ht2]; · iexact Ht2
    iexact Hc2
  iintro ⟨HO, HS⟩
  iapply (rsStep_spec m K c 2 (by omega) (l := r4) (by decide) (by decide) (D3 c) (D3_eq c).1 (D3_eq c).2.1 (D3_eq c).2.2.1 (D3_eq c).2.2.2) $$ [HO HS Hk3 Ht3 Hc3]
  · isplitr; · iexact HI
    isplitr; · iexact Hl
    isplitl [HO]; · iexact HO
    isplitl [HS]; · iexact HS
    isplitl [Hk3]; · iexact Hk3
    isplitl [Ht3]; · iexact Ht3
    iexact Hc3
  iintro ⟨HO, HS⟩
  iapply (rsStep_spec m K c 3 (by omega) (l := r5) (by decide) (by decide) (D4 c) (D4_eq c).1 (D4_eq c).2.1 (D4_eq c).2.2.1 (D4_eq c).2.2.2) $$ [HO HS Hk4 Ht4 Hc4]
  · isplitr; · iexact HI
    isplitr; · iexact Hl
    isplitl [HO]; · iexact HO
    isplitl [HS]; · iexact HS
    isplitl [Hk4]; · iexact Hk4
    isplitl [Ht4]; · iexact Ht4
    iexact Hc4
  iintro ⟨HO, HS⟩
  iapply (rsLast_spec m K c (l := h0) (by decide) (by decide) (D5 c) (D5_eq c).1 (D5_eq c).2.1 (D5_eq c).2.2.1 (D5_eq c).2.2.2) $$ [HO HS Hk5 Ht5 Hc5 Hq]
  · isplitr; · iexact HI
    isplitr; · iexact Hl
    isplitl [HO]; · iexact HO
    isplitl [HS]; · iexact HS
    isplitl [Hk5]; · iexact Hk5
    isplitl [Ht5]; · iexact Ht5
    isplitl [Hc5]; · iexact Hc5
    iexact Hq
  iintro ⟨HO, HS, Hfree⟩
  iapply Hk
  isplitl [HO]; · iexact HO
  isplitl [Hb]; · iexact Hb
  isplitl [HS]; · iexact HS
  isplitl [Hfree]; · iexact Hfree
  isplitl [Hw0 Hw1 HaA HaB]
  · isplitl [Hw0 Hw1]
    · isplitl [Hw0]; · iexact Hw0
      iexact Hw1
    isplitl [HaA]; · iexact HaA
    iexact HaB
  isplitl [Hs0 Hs1]
  · isplitl [Hs0]; · iexact Hs0
    iexact Hs1
  iexact Hrows

/-! ## The scale -/

theorem scale_spec {Q : F .f32 → sProp (MT nD τ sig ℕ (Elt F) ℕ UU ℕ)} :
    iprop(invs m K ∗ levAts L lv ∗ Own c h0 ∗ (held (commM false) 1 c fullShare (cc m false 6 c) ∗ held (commM true) 1 c fullShare (cc m true 6 c))
        ∗ (∃ X, own c ssM fullShare X) ∗ hopsT c ∗ rowsFree (nb false c))
      ⊢ iprop(((Own c l6 ∗ (held (commM false) 1 c fullShare (cc m false 6 c) ∗ held (commM true) 1 c fullShare (cc m true 6 c))
          ∗ (∃ X, own c ssM fullShare X) ∗ hopsOut c) -∗ Q (scale m c)) -∗ WP c (scaleP c) Q) := by
  unfold scaleP hopsT rowsFree hopT hopsOut WP
  simp only [wp_bind]
  iintro ⟨#HI, #Hl, HO, HM, HS, ⟨⟨Ha0, Hb0, Hc0, Hd0⟩, ⟨Ha1, Hb1, Hc1, Hd1⟩, ⟨Ha2, Hb2, Hc2, Hd2⟩, ⟨Ha3, Hb3, Hc3, Hd3⟩, ⟨Ha4, Hb4, Hc4, Hd4⟩, ⟨Ha5, Hb5, Hc5, Hd5⟩, ⟨Ha6, Hb6, Hc6, Hd6⟩⟩, ⟨Hf0, Hf1, Hf2, Hf3, Hf4, Hf5, Hf6⟩⟩ Hk
  iapply (amax_spec m c) $$ [HM]
  · iexact HM
  iintro HM
  iapply (hop_spec m K c 0 ⟨k0_dev27 c, k0_dev27_lt c⟩ (hop_eq c).1 (l := h1) (by decide)) $$ [HO HS Ha0 Hb0 Hc0 Hd0 Hf0]
  · isplitr; · iexact HI
    isplitr; · iexact Hl
    isplitl [HO]; · iexact HO
    isplitl [HS]; · iexact HS
    unfold hopIn
    isplitl [Ha0]; · iexact Ha0
    isplitl [Hf0]; · iexact Hf0
    isplitl [Hb0]; · iexact Hb0
    isplitl [Hc0]; · iexact Hc0
    iexact Hd0
  iintro ⟨HO, HS, Ho0⟩
  iapply (hop_spec m K c 1 ⟨k0_dev28 c, k0_dev28_lt c⟩ (hop_eq c).2.1 (l := h2) (by decide)) $$ [HO HS Ha1 Hb1 Hc1 Hd1 Hf1]
  · isplitr; · iexact HI
    isplitr; · iexact Hl
    isplitl [HO]; · iexact HO
    isplitl [HS]; · iexact HS
    unfold hopIn
    isplitl [Ha1]; · iexact Ha1
    isplitl [Hf1]; · iexact Hf1
    isplitl [Hb1]; · iexact Hb1
    isplitl [Hc1]; · iexact Hc1
    iexact Hd1
  iintro ⟨HO, HS, Ho1⟩
  iapply (hop_spec m K c 2 ⟨k0_dev29 c, k0_dev29_lt c⟩ (hop_eq c).2.2.1 (l := h3) (by decide)) $$ [HO HS Ha2 Hb2 Hc2 Hd2 Hf2]
  · isplitr; · iexact HI
    isplitr; · iexact Hl
    isplitl [HO]; · iexact HO
    isplitl [HS]; · iexact HS
    unfold hopIn
    isplitl [Ha2]; · iexact Ha2
    isplitl [Hf2]; · iexact Hf2
    isplitl [Hb2]; · iexact Hb2
    isplitl [Hc2]; · iexact Hc2
    iexact Hd2
  iintro ⟨HO, HS, Ho2⟩
  iapply (hop_spec m K c 3 ⟨k0_dev30 c, k0_dev30_lt c⟩ (hop_eq c).2.2.2.1 (l := h4) (by decide)) $$ [HO HS Ha3 Hb3 Hc3 Hd3 Hf3]
  · isplitr; · iexact HI
    isplitr; · iexact Hl
    isplitl [HO]; · iexact HO
    isplitl [HS]; · iexact HS
    unfold hopIn
    isplitl [Ha3]; · iexact Ha3
    isplitl [Hf3]; · iexact Hf3
    isplitl [Hb3]; · iexact Hb3
    isplitl [Hc3]; · iexact Hc3
    iexact Hd3
  iintro ⟨HO, HS, Ho3⟩
  iapply (hop_spec m K c 4 ⟨k0_dev31 c, k0_dev31_lt c⟩ (hop_eq c).2.2.2.2.1 (l := h5) (by decide)) $$ [HO HS Ha4 Hb4 Hc4 Hd4 Hf4]
  · isplitr; · iexact HI
    isplitr; · iexact Hl
    isplitl [HO]; · iexact HO
    isplitl [HS]; · iexact HS
    unfold hopIn
    isplitl [Ha4]; · iexact Ha4
    isplitl [Hf4]; · iexact Hf4
    isplitl [Hb4]; · iexact Hb4
    isplitl [Hc4]; · iexact Hc4
    iexact Hd4
  iintro ⟨HO, HS, Ho4⟩
  iapply (hop_spec m K c 5 ⟨k0_dev32 c, k0_dev32_lt c⟩ (hop_eq c).2.2.2.2.2.1 (l := h6) (by decide)) $$ [HO HS Ha5 Hb5 Hc5 Hd5 Hf5]
  · isplitr; · iexact HI
    isplitr; · iexact Hl
    isplitl [HO]; · iexact HO
    isplitl [HS]; · iexact HS
    unfold hopIn
    isplitl [Ha5]; · iexact Ha5
    isplitl [Hf5]; · iexact Hf5
    isplitl [Hb5]; · iexact Hb5
    isplitl [Hc5]; · iexact Hc5
    iexact Hd5
  iintro ⟨HO, HS, Ho5⟩
  iapply (hop_spec m K c 6 ⟨k0_dev33 c, k0_dev33_lt c⟩ (hop_eq c).2.2.2.2.2.2 (l := l6) (by decide)) $$ [HO HS Ha6 Hb6 Hc6 Hd6 Hf6]
  · isplitr; · iexact HI
    isplitr; · iexact Hl
    isplitl [HO]; · iexact HO
    isplitl [HS]; · iexact HS
    unfold hopIn
    isplitl [Ha6]; · iexact Ha6
    isplitl [Hf6]; · iexact Hf6
    isplitl [Hb6]; · iexact Hb6
    isplitl [Hc6]; · iexact Hc6
    iexact Hd6
  iintro ⟨HO, HS, Ho6⟩
  have hQ : Q (scale m c) ⊢ WP (F := F) c (Prog.ret (k0_pay86 (k0_pay73 (k0_pay73 (k0_pay73 (k0_pay73 (k0_pay73 (k0_pay73 (sacc m 0 c) (fun _ => sacc m 0 (fr false c))) (fun _ => sacc m 1 (fr false c))) (fun _ => sacc m 2 (fr false c))) (fun _ => sacc m 3 (fr false c))) (fun _ => sacc m 4 (fr false c))) (fun _ => sacc m 5 (fr false c))) (fun _ => sacc m 6 (fr false c)))) Q := WP_ret c
  iapply hQ
  iapply Hk
  isplitl [HO]; · iexact HO
  isplitl [HM]; · iexact HM
  isplitl [HS]; · iexact HS
  isplitl [Ho0]; · iexact Ho0
  isplitl [Ho1]; · iexact Ho1
  isplitl [Ho2]; · iexact Ho2
  isplitl [Ho3]; · iexact Ho3
  isplitl [Ho4]; · iexact Ho4
  isplitl [Ho5]; · iexact Ho5
  iexact Ho6

/-! ## The all-gather -/

/-- The blocks of the result, -/
def outFree (c : Dev nD) : sProp 𝕄 :=
  iprop((oFree (oA0 c) c ∗ oFree (oB0 c) c) ∗ (oFree (oA c 0) c ∗ oFree (oB c 0) c) ∗ (oFree (oA c 1) c ∗ oFree (oB c 1) c) ∗ (oFree (oA c 2) c ∗ oFree (oB c 2) c) ∗ (oFree (oA c 3) c ∗ oFree (oB c 3) c) ∗ (oFree (oA c 4) c ∗ oFree (oB c 4) c) ∗ (oFree (oA c 5) c ∗ oFree (oB c 5) c) ∗ (oFree (oA c 6) c ∗ oFree (oB c 6) c))
/-- written. -/
def outDone (c : Dev nD) : sProp 𝕄 :=
  iprop((oDone m false 0 (oA0 c) c ∗ oDone m true 0 (oB0 c) c) ∗ (oDone m false 1 (oA c 0) c ∗ oDone m true 1 (oB c 0) c) ∗ (oDone m false 2 (oA c 1) c ∗ oDone m true 2 (oB c 1) c) ∗ (oDone m false 3 (oA c 2) c ∗ oDone m true 3 (oB c 2) c) ∗ (oDone m false 4 (oA c 3) c ∗ oDone m true 4 (oB c 3) c) ∗ (oDone m false 5 (oA c 4) c ∗ oDone m true 5 (oB c 4) c) ∗ (oDone m false 6 (oA c 5) c ∗ oDone m true 6 (oB c 5) c) ∗ (oDone m false 7 (oA c 6) c ∗ oDone m true 7 (oB c 6) c))

theorem gather_spec {Q : PUnit → sProp (MT nD τ sig ℕ (Elt F) ℕ UU ℕ)} :
    iprop(invs m K ∗ levAts L lv ∗ Own c l6 ∗ (held (commM false) 1 c fullShare (cc m false 6 c) ∗ held (commM true) 1 c fullShare (cc m true 6 c))
        ∗ (freeH (qM false) 1 c ∗ freeH (qM true) 1 c) ∗ ring 6 c ∗ credPos 5 c ∗ toksAG c ∗ two (fun d => dIdle d c) ∗ outFree c)
      ⊢ iprop(((Own c [] ∗ (held (commM false) 1 c fullShare (cc m false 6 c) ∗ held (commM true) 1 c fullShare (cc m true 6 c))
          ∗ (two (fun d => held (qM d) 1 c fullShare (qq m d 6 c)) ∗ two (fun d => held (qM d) 0 c fullShare (qq m d 7 c)))
          ∗ ring 13 c ∗ credPos 12 c ∗ (dIdle false c ∗ dIdle true c) ∗ outDone m c) -∗ Q ⟨⟩) -∗ WP c (gatherP c (scale m c)) Q) := by
  unfold gatherP toksAG stepT outFree outDone WP
  simp only [wp_bind]
  iintro ⟨#HI, #Hl, HO, ⟨HmA, HmB⟩, ⟨HqA, HqB⟩, Hr, Hp, ⟨⟨Hk6, Ht6, Hc6⟩, ⟨Hk7, Ht7, Hc7⟩, ⟨Hk8, Ht8, Hc8⟩, ⟨Hk9, Ht9, Hc9⟩, ⟨Hk10, Ht10, Hc10⟩, ⟨Hk11, Ht11, Hc11⟩, Hk12, Ht12⟩, Hdi, ⟨Hf0, Hf1, Hf2, Hf3, Hf4, Hf5, Hf6, Hf7⟩⟩ Hk
  iapply (quant_spec m c false) $$ [HmA HqA]
  · isplitl [HmA]; · iexact HmA
    iexact HqA
  iintro ⟨HmA, HqA⟩
  iapply (quant_spec m c true) $$ [HmB HqB]
  · isplitl [HmB]; · iexact HmB
    iexact HqB
  iintro ⟨HmB, HqB⟩
  iapply (agFirst_spec m K c (l := l7) (by decide) (by decide) (D6 c) (D6_eq c).1 (D6_eq c).2.1 (D6_eq c).2.2.1 (D6_eq c).2.2.2 (oA0 c) (oB0 c)) $$ [HO Hr Hp HqA HqB Hk6 Ht6 Hc6 Hdi Hf0]
  · isplitr; · iexact HI
    isplitr; · iexact Hl
    isplitl [HO]; · iexact HO
    isplitl [Hr Hp HqA HqB]
    · unfold GSt two
      isplitl [Hr]; · iexact Hr
      isplitl [Hp]; · iexact Hp
      isplitl [HqA]; · iexact HqA
      iexact HqB
    isplitl [Hk6]; · iexact Hk6
    isplitl [Ht6]; · iexact Ht6
    isplitl [Hc6]; · iexact Hc6
    isplitl [Hdi]; · iexact Hdi
    iexact Hf0
  iintro ⟨HO, HG, Hb⟩
  iapply (agMid_spec m K c 0 (by omega) (l := l8) (by decide) (by decide) (D7 c) (D7_eq c).1 (D7_eq c).2.1 (D7_eq c).2.2.1 (D7_eq c).2.2.2 (oA0 c) (oA c 0) (oB0 c) (oB c 0)) $$ [HO HG Hk7 Ht7 Hc7 Hb Hf1]
  · isplitr; · iexact HI
    isplitr; · iexact Hl
    isplitl [HO]; · iexact HO
    isplitl [HG]; · iexact HG
    isplitl [Hk7]; · iexact Hk7
    isplitl [Ht7]; · iexact Ht7
    isplitl [Hc7]; · iexact Hc7
    isplitl [Hb]; · iexact Hb
    iexact Hf1
  iintro ⟨HO, HG, Hb, Ho0⟩
  iapply (agMid_spec m K c 1 (by omega) (l := l9) (by decide) (by decide) (D8 c) (D8_eq c).1 (D8_eq c).2.1 (D8_eq c).2.2.1 (D8_eq c).2.2.2 (oA c 0) (oA c 1) (oB c 0) (oB c 1)) $$ [HO HG Hk8 Ht8 Hc8 Hb Hf2]
  · isplitr; · iexact HI
    isplitr; · iexact Hl
    isplitl [HO]; · iexact HO
    isplitl [HG]; · iexact HG
    isplitl [Hk8]; · iexact Hk8
    isplitl [Ht8]; · iexact Ht8
    isplitl [Hc8]; · iexact Hc8
    isplitl [Hb]; · iexact Hb
    iexact Hf2
  iintro ⟨HO, HG, Hb, Ho1⟩
  iapply (agMid_spec m K c 2 (by omega) (l := l10) (by decide) (by decide) (D9 c) (D9_eq c).1 (D9_eq c).2.1 (D9_eq c).2.2.1 (D9_eq c).2.2.2 (oA c 1) (oA c 2) (oB c 1) (oB c 2)) $$ [HO HG Hk9 Ht9 Hc9 Hb Hf3]
  · isplitr; · iexact HI
    isplitr; · iexact Hl
    isplitl [HO]; · iexact HO
    isplitl [HG]; · iexact HG
    isplitl [Hk9]; · iexact Hk9
    isplitl [Ht9]; · iexact Ht9
    isplitl [Hc9]; · iexact Hc9
    isplitl [Hb]; · iexact Hb
    iexact Hf3
  iintro ⟨HO, HG, Hb, Ho2⟩
  iapply (agMid_spec m K c 3 (by omega) (l := l11) (by decide) (by decide) (D10 c) (D10_eq c).1 (D10_eq c).2.1 (D10_eq c).2.2.1 (D10_eq c).2.2.2 (oA c 2) (oA c 3) (oB c 2) (oB c 3)) $$ [HO HG Hk10 Ht10 Hc10 Hb Hf4]
  · isplitr; · iexact HI
    isplitr; · iexact Hl
    isplitl [HO]; · iexact HO
    isplitl [HG]; · iexact HG
    isplitl [Hk10]; · iexact Hk10
    isplitl [Ht10]; · iexact Ht10
    isplitl [Hc10]; · iexact Hc10
    isplitl [Hb]; · iexact Hb
    iexact Hf4
  iintro ⟨HO, HG, Hb, Ho3⟩
  iapply (agMid_spec m K c 4 (by omega) (l := l12) (by decide) (by decide) (D11 c) (D11_eq c).1 (D11_eq c).2.1 (D11_eq c).2.2.1 (D11_eq c).2.2.2 (oA c 3) (oA c 4) (oB c 3) (oB c 4)) $$ [HO HG Hk11 Ht11 Hc11 Hb Hf5]
  · isplitr; · iexact HI
    isplitr; · iexact Hl
    isplitl [HO]; · iexact HO
    isplitl [HG]; · iexact HG
    isplitl [Hk11]; · iexact Hk11
    isplitl [Ht11]; · iexact Ht11
    isplitl [Hc11]; · iexact Hc11
    isplitl [Hb]; · iexact Hb
    iexact Hf5
  iintro ⟨HO, HG, Hb, Ho4⟩
  iapply (agLast_spec m K c (oA c 4) (oA c 5) (oB c 4) (oB c 5) (D12 c) (D12_eq c).1 (D12_eq c).2) $$ [HO HG Hk12 Ht12 Hb Hf6]
  · isplitr; · iexact HI
    isplitr; · iexact Hl
    isplitl [HO]; · iexact HO
    isplitl [HG]; · iexact HG
    isplitl [Hk12]; · iexact Hk12
    isplitl [Ht12]; · iexact Ht12
    isplitl [Hb]; · iexact Hb
    iexact Hf6
  iintro ⟨HO, Hr, Hp, Hq1, Hq0, Hb, Ho5⟩
  iapply (deqNext_spec m c 6 (sl 12) fullShare (oA c 5) (oA c 6) (oB c 5) (oB c 6) (l := []) (by decide)) $$ [HO Hq0 Hb Hf7]
  · isplitr; · iexact Hl
    isplitl [HO]; · iexact HO
    isplitl [Hq0]; · iexact Hq0
    isplitl [Hb]; · iexact Hb
    iexact Hf7
  iintro ⟨HO, Hq0, ⟨HbA, HbB⟩, Ho6⟩
  iapply (deqWait_spec m c false 7 (oA c 6) (l := []) (by decide)) $$ [HO HbA]
  · isplitr; · iexact Hl
    isplitl [HO]; · iexact HO
    iexact HbA
  iintro ⟨HO, HiA, HoA⟩
  iapply (deqWait_spec m c true 7 (oB c 6) (l := []) (by decide)) $$ [HO HbB]
  · isplitr; · iexact Hl
    isplitl [HO]; · iexact HO
    iexact HbB
  iintro ⟨HO, HiB, HoB⟩
  iapply Hk
  isplitl [HO]; · iexact HO
  isplitl [HmA HmB]
  · isplitl [HmA]; · iexact HmA
    iexact HmB
  isplitl [Hq1 Hq0]
  · isplitl [Hq1]; · iexact Hq1
    iexact Hq0
  isplitl [Hr]; · iexact Hr
  isplitl [Hp]; · iexact Hp
  isplitl [HiA HiB]
  · isplitl [HiA]; · iexact HiA
    iexact HiB
  isplitl [Ho0]; · iexact Ho0
  isplitl [Ho1]; · iexact Ho1
  isplitl [Ho2]; · iexact Ho2
  isplitl [Ho3]; · iexact Ho3
  isplitl [Ho4]; · iexact Ho4
  isplitl [Ho5]; · iexact Ho5
  isplitl [Ho6]; · iexact Ho6
  isplitl [HoA]; · iexact HoA
  iexact HoB

end Cert.Proof

end
-- ==== Proof.Mem.lean ====
/-
  The buffers split into the parts the protocol moves and rejoined: the two slots of the exchanged buffers, the rows of the
  scalar ring, the sixteen blocks of rows of the result.
-/
module

public import proofs.«01_k».proof.Proof.Body

@[expose] public section

set_option maxRecDepth 16384

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (K : CK × Dev nD → ℕ) (c : Dev nD)

theorem sepA (P Q R : sProp (MT nD τ sig ℕ (Elt F) ℕ UU ℕ)) : iprop((P ∗ Q) ∗ R) = iprop(P ∗ Q ∗ R) := by
  refine BI.Entails.antisymm (show iprop((P ∗ Q) ∗ R) ⊢ iprop(P ∗ Q ∗ R) from ?_) (show iprop(P ∗ Q ∗ R) ⊢ iprop((P ∗ Q) ∗ R) from ?_)
  · iintro ⟨⟨HP, HQ⟩, HR⟩
    isplitl [HP]; · iexact HP
    isplitl [HQ] <;> iassumption
  · iintro ⟨HP, HQ, HR⟩
    isplitr [HR]
    · isplitl [HP] <;> iassumption
    iexact HR

/-! ## A memref in parts -/

section Parts

variable {sh : Shape} {e : EltTy} {T : Type} [Fintype T] [DecidableEq T] (r : T → Rect sh)

/-- Contents given on the parts of a disjoint family are contents of the whole. -/
theorem glue {A : Type} [Nonempty A] (hd : ∀ t t', t ≠ t' → Disjoint (r t).set (r t').set) (Xs : (t : T) → (r t).shape.Idx → A) :
    ∃ X : sh.Idx → A, ∀ t j, X ((r t).emb j) = Xs t j := by
  classical
  refine ⟨fun i => if h : ∃ p : (t : T) × (r t).shape.Idx, (r p.1).emb p.2 = i then Xs h.choose.1 h.choose.2 else Classical.arbitrary A, fun t j => ?_⟩
  have h : ∃ p : (t : T) × (r t).shape.Idx, (r p.1).emb p.2 = (r t).emb j := ⟨⟨t, j⟩, rfl⟩
  show (if h : ∃ p : (t : T) × (r t).shape.Idx, (r p.1).emb p.2 = (r t).emb j then Xs h.choose.1 h.choose.2 else Classical.arbitrary A) = _
  rw [dif_pos h]
  have hs := h.choose_spec
  generalize h.choose = p at hs
  obtain ⟨t', j'⟩ := p
  have hmem (t : T) (j : (r t).shape.Idx) : (r t).emb j ∈ (r t).set := by
    rw [← Rect.map_emb_univ]; exact Finset.mem_map_of_mem _ (Finset.mem_univ _)
  have ht : t' = t := by
    by_contra hne
    refine Finset.disjoint_left.mp (hd t' t hne) (hmem t' j') ?_
    rw [show (r t').emb j' = (r t).emb j from hs]; exact hmem t j
  subst ht
  rw [(r t').emb.injective hs]

theorem own_parts {sp : Space} (M : Memref sig .tc sp sh e) (hr : ∀ t a, (r t).stride a = 1) (hd : ∀ t t', t ≠ t' → Disjoint (r t).set (r t').set)
    (hcov : (Finset.univ : Finset T).biUnion (fun t => (r t).set) = Finset.univ) :
    (iprop(∃ X, own c M fullShare X) : sProp 𝕄) ⊢ bigSep Finset.univ fun t => iprop(∃ X, own c (M.slice (r t) (hr t)) fullShare X) := by
  iintro ⟨%X, H⟩
  have hm : (bigSep Finset.univ fun t => own c (M.slice (r t) (hr t)) fullShare (fun j => X ((r t).emb j)) : sProp 𝕄)
      ⊢ bigSep Finset.univ fun t => iprop(∃ X, own c (M.slice (r t) (hr t)) fullShare X) :=
    bigSep_mono fun t _ => (show (own c (M.slice (r t) (hr t)) fullShare (fun j => X ((r t).emb j)) : sProp 𝕄) ⊢ iprop(∃ X, own c (M.slice (r t) (hr t)) fullShare X) from by
      iintro H; iexists _; iexact H)
  iapply hm
  iapply (owns_rects (c : Thread nD τ) M fullShare r hr hd hcov X)
  iexact H

theorem own_whole {sp : Space} (M : Memref sig .tc sp sh e) (hr : ∀ t a, (r t).stride a = 1) (hd : ∀ t t', t ≠ t' → Disjoint (r t).set (r t').set)
    (hcov : (Finset.univ : Finset T).biUnion (fun t => (r t).set) = Finset.univ) :
    (bigSep Finset.univ fun t => iprop(∃ X, own c (M.slice (r t) (hr t)) fullShare X) : sProp 𝕄) ⊢ iprop(∃ X, own c M fullShare X) := by
  refine (bigSep_exists_pi Finset.univ fun t (X : (r t).shape.Idx → Elt F e) => own c (M.slice (r t) (hr t)) fullShare X).trans ?_
  iintro ⟨%Xs, H⟩
  obtain ⟨X, hX⟩ := glue r hd Xs
  iexists X
  iapply (owns_of_rects (c : Thread nD τ) M fullShare r hr hd hcov X)
  rw [show (fun t => owns (c : Thread nD τ) (M.slice (r t) (hr t)) fullShare (fun j => X ((r t).emb j)) : T → sProp 𝕄)
    = fun t => own c (M.slice (r t) (hr t)) fullShare (Xs t) from funext fun t => by rw [show (fun j => X ((r t).emb j)) = Xs t from funext (hX t)]]
  iexact H

end Parts

/-! ## Two slots -/

theorem slot_mem (s : Fin 2) (i : S2x256x8192.Idx) : i ∈ (slotR s).set ↔ (i 0).val = s.val := by
  rw [Rect.mem_set_unit]
  constructor
  · intro h
    have h0 : s.val ≤ (i 0).val ∧ (i 0).val < s.val + 1 := h 0
    omega
  · intro h a
    match a with
    | ⟨0, _⟩ => show s.val ≤ (i 0).val ∧ (i 0).val < s.val + 1; omega
    | ⟨1, _⟩ => exact ⟨Nat.zero_le _, by show (i 1).val < 0 + 256; have h : (i 1).val < 256 := (i 1).isLt; omega⟩
    | ⟨2, _⟩ => exact ⟨Nat.zero_le _, by show (i 2).val < 0 + 8192; have h : (i 2).val < 8192 := (i 2).isLt; omega⟩
theorem slot_disj (t t' : Fin 2) (h : t ≠ t') : Disjoint (slotR t).set (slotR t').set := by
  refine Finset.disjoint_left.mpr fun i h1 h2 => h (Fin.ext ?_)
  rw [slot_mem] at h1 h2; omega
theorem slot_cov : (Finset.univ : Finset (Fin 2)).biUnion (fun t => (slotR t).set) = Finset.univ := by
  refine Finset.eq_univ_iff_forall.mpr fun i => Finset.mem_biUnion.mpr ⟨⟨(i 0).val, (i 0).isLt⟩, Finset.mem_univ _, ?_⟩
  rw [slot_mem]

theorem slots_split {e : EltTy} (M : Memref sig .tc .vmem S2x256x8192 e) :
    (iprop(∃ X, own c M fullShare X) : sProp 𝕄) ⊢ iprop(freeH M 0 c ∗ freeH M 1 c) := by
  refine (own_parts c slotR M (fun _ _ => rfl) slot_disj slot_cov).trans ?_
  rw [bigSep_univ_eq_bigSepL [0, 1] (by decide) (by decide), bigSepL_cons_cons, bigSepL_singleton]
  exact BI.Entails.refl _
theorem slots_join {e : EltTy} (M : Memref sig .tc .vmem S2x256x8192 e) :
    iprop(freeH M 0 c ∗ freeH M 1 c) ⊢ (iprop(∃ X, own c M fullShare X) : sProp 𝕄) := by
  refine BIBase.Entails.trans ?_ (own_whole c slotR M (fun _ _ => rfl) slot_disj slot_cov)
  rw [bigSep_univ_eq_bigSepL [0, 1] (by decide) (by decide), bigSepL_cons_cons, bigSepL_singleton]
  exact BI.Entails.refl _

/-! ## The rows of the scalar ring -/

abbrev srR (h : Fin 7) : Rect S7x1x128 := Rect.unit (s := S7x1x128) ![h.val, 0, 0] S1x1x128.size (sr_inb h)
theorem sr_mem (s : Fin 7) (i : S7x1x128.Idx) : i ∈ (srR s).set ↔ (i 0).val = s.val := by
  rw [Rect.mem_set_unit]
  constructor
  · intro h
    have h0 : s.val ≤ (i 0).val ∧ (i 0).val < s.val + 1 := h 0
    omega
  · intro h a
    match a with
    | ⟨0, _⟩ => show s.val ≤ (i 0).val ∧ (i 0).val < s.val + 1; omega
    | ⟨1, _⟩ => exact ⟨Nat.zero_le _, by show (i 1).val < 0 + 1; have h : (i 1).val < 1 := (i 1).isLt; omega⟩
    | ⟨2, _⟩ => exact ⟨Nat.zero_le _, by show (i 2).val < 0 + 128; have h : (i 2).val < 128 := (i 2).isLt; omega⟩
theorem sr_disj (t t' : Fin 7) (h : t ≠ t') : Disjoint (srR t).set (srR t').set := by
  refine Finset.disjoint_left.mpr fun i h1 h2 => h (Fin.ext ?_)
  rw [sr_mem] at h1 h2; omega
theorem sr_cov : (Finset.univ : Finset (Fin 7)).biUnion (fun t => (srR t).set) = Finset.univ := by
  refine Finset.eq_univ_iff_forall.mpr fun i => Finset.mem_biUnion.mpr ⟨⟨(i 0).val, (i 0).isLt⟩, Finset.mem_univ _, ?_⟩
  rw [sr_mem]

def rowH (h : Fin 7) (c : Dev nD) : sProp 𝕄 := iprop(∃ X, own c (srM.slice (srR h) (fun _ => rfl)) fullShare X)
def rowS (h : Fin 7) (c : Dev nD) : sProp 𝕄 := iprop(∃ X, own c (srow h) fullShare X)
theorem row_squeeze (h : Fin 7) : (rowH h c : sProp 𝕄) ⊢ rowS h c := by
  unfold rowH rowS
  iintro ⟨%X, H⟩
  iexists _
  iapply (Entails.of_eq (own_squeeze c (srM.slice (srR h) (fun _ => rfl)) S1x128 squeezes_S1x1x128_S1x128 fullShare X).symm) $$ H
theorem rows_split :
    (iprop(∃ X, own c srM fullShare X) : sProp 𝕄) ⊢ iprop(rowS 0 c ∗ rowS 1 c ∗ rowS 2 c ∗ rowS 3 c ∗ rowS 4 c ∗ rowS 5 c ∗ rowS 6 c) := by
  refine (own_parts c srR srM (fun _ _ => rfl) sr_disj sr_cov).trans ((bigSep_mono fun h _ => row_squeeze c h).trans ?_)
  rw [bigSep_univ_eq_bigSepL [0, 1, 2, 3, 4, 5, 6] (by decide) (by decide)]
  simp only [bigSepL_cons_cons, bigSepL_singleton]
  exact BI.Entails.refl _
theorem rows_join :
    iprop(rowH 0 c ∗ rowH 1 c ∗ rowH 2 c ∗ rowH 3 c ∗ rowH 4 c ∗ rowH 5 c ∗ rowH 6 c) ⊢ (iprop(∃ X, own c srM fullShare X) : sProp 𝕄) := by
  refine BIBase.Entails.trans ?_ (own_whole c srR srM (fun _ _ => rfl) sr_disj sr_cov)
  rw [bigSep_univ_eq_bigSepL [0, 1, 2, 3, 4, 5, 6] (by decide) (by decide)]
  simp only [bigSepL_cons_cons, bigSepL_singleton]
  exact BI.Entails.refl _

/-! ## The result -/

/-- The rows that block `h` of a direction goes to, -/
def oOf (c : Dev nD) : Bool × Fin 8 → Off
  | (false, ⟨0, _⟩) => oA0 c
  | (true, ⟨0, _⟩) => oB0 c
  | (false, ⟨h + 1, hh⟩) => oA c ⟨h, by omega⟩
  | (true, ⟨h + 1, hh⟩) => oB c ⟨h, by omega⟩
/-- counted in blocks of 256: chunk `c + 1 - h` of half A, chunk `c - 1 + h` of half B. -/
def rw16 (c : Dev nD) (t : Bool × Fin 8) : ℕ := match t.1 with
  | false => 2 * ((c.val + 9 - t.2.val) % 8)
  | true => 2 * ((c.val + 7 + t.2.val) % 8) + 1
theorem oOf_row : ∀ (c : Dev nD) (d : Bool) (h : Fin 8), (oOf c (d, h)).off 0 = 256 * rw16 c (d, h) ∧ (oOf c (d, h)).off 1 = 0 := by decide
abbrev oR (c : Dev nD) (t : Bool × Fin 8) : Rect S4096x8192 := Rect.unit (s := S4096x8192) (oOf c t).off S256x8192.size (oOf c t).inb

/-- The half, the block and the place in it of an entry of the result. -/
def dOf (i : S4096x8192.Idx) : Bool := decide ((i 0).val / 256 % 2 = 1)
def bOf (c : Dev nD) (i : S4096x8192.Idx) : ℕ := match dOf i with
  | false => (c.val + 9 - (i 0).val / 512) % 8
  | true => ((i 0).val / 512 + 9 - c.val) % 8
def inB (i : S4096x8192.Idx) : S256x8192.Idx := fun a => match a with
  | ⟨0, _⟩ => ⟨(i 0).val % 256, Nat.mod_lt _ (by decide)⟩
  | ⟨1, _⟩ => ⟨(i 1).val, (i 1).isLt⟩
/-- The result of device `c`. -/
def outV (c : Dev nD) : S4096x8192.Idx → Elt F .f32 :=
  fun i => deq m (dOf i) (bOf c i) c (Shape.reshapeEquiv squeezes_S1x256x8192_S256x8192.numel_eq (inB i))

theorem o_mem (t : Bool × Fin 8) (i : S4096x8192.Idx) : i ∈ (oR c t).set ↔ (i 0).val / 256 = rw16 c t := by
  have ho := oOf_row c t.1 t.2
  rw [Rect.mem_set_unit]
  constructor
  · intro h
    have h0 : (oOf c t).off 0 ≤ (i 0).val ∧ (i 0).val < (oOf c t).off 0 + 256 := h 0
    rw [ho.1] at h0
    have h1 : 256 * rw16 c (t.1, t.2) = 256 * rw16 c t := rfl
    omega
  · intro h a
    match a with
    | ⟨0, _⟩ =>
        show (oOf c t).off 0 ≤ (i 0).val ∧ (i 0).val < (oOf c t).off 0 + 256
        rw [show (oOf c t).off 0 = 256 * rw16 c t from ho.1]; omega
    | ⟨1, _⟩ =>
        show (oOf c t).off 1 ≤ (i 1).val ∧ (i 1).val < (oOf c t).off 1 + 8192
        rw [show (oOf c t).off 1 = 0 from ho.2]
        have h : (i 1).val < 8192 := (i 1).isLt
        omega
theorem rw16_inj : ∀ (c : Dev nD) (t t' : Bool × Fin 8), rw16 c t = rw16 c t' → t = t' := by decide
theorem rw16_surj : ∀ (c : Dev nD) (k : Fin 16), ∃ t, rw16 c t = k.val := by decide
theorem o_disj (t t' : Bool × Fin 8) (h : t ≠ t') : Disjoint (oR c t).set (oR c t').set := by
  refine Finset.disjoint_left.mpr fun i h1 h2 => h (rw16_inj c t t' ?_)
  rw [o_mem] at h1 h2; rw [← h1, ← h2]
theorem o_cov : (Finset.univ : Finset (Bool × Fin 8)).biUnion (fun t => (oR c t).set) = Finset.univ := by
  refine Finset.eq_univ_iff_forall.mpr fun i => ?_
  obtain ⟨t, ht⟩ := rw16_surj c ⟨(i 0).val / 256, by have h : (i 0).val < 4096 := (i 0).isLt; omega⟩
  exact Finset.mem_biUnion.mpr ⟨t, Finset.mem_univ _, (o_mem c t i).mpr ht.symm⟩

theorem outV_emb (t : Bool × Fin 8) (j : (oR c t).shape.Idx) :
    outV m c ((oR c t).emb j) = deq m t.1 t.2.val c (Shape.reshapeEquiv squeezes_S1x256x8192_S256x8192.numel_eq j) := by
  obtain ⟨d, h⟩ := t
  have ho := oOf_row c d h
  have hj0 : (j 0).val < 256 := (j 0).isLt
  have h0 : (((oR c (d, h)).emb j) 0).val = 256 * rw16 c (d, h) + (j 0).val := by
    show (oOf c (d, h)).off 0 + 1 * (j 0).val = _
    rw [ho.1]; omega
  have h1 : (((oR c (d, h)).emb j) 1).val = (j 1).val := by
    show (oOf c (d, h)).off 1 + 1 * (j 1).val = _
    rw [ho.2]; omega
  have hc : c.val < 8 := c.isLt
  have hh : h.val < 8 := h.isLt
  generalize hx : (((oR c (d, h)).emb j) 0).val = x at h0
  generalize hy : (j 0).val = y at h0 hj0
  have hA : x / 256 = rw16 c (d, h) := by omega
  have hB : x / 512 = rw16 c (d, h) / 2 := by omega
  have hC : x % 256 = y := by omega
  have hd : dOf ((oR c (d, h)).emb j) = d := by
    unfold dOf
    rw [hx, hA]
    cases d
    · exact decide_eq_false (by unfold rw16; dsimp only; omega)
    · exact decide_eq_true (by unfold rw16; dsimp only; omega)
  have hb : bOf c ((oR c (d, h)).emb j) = h.val := by
    unfold bOf
    rw [hd, hx, hB]
    cases d <;> (unfold rw16; dsimp only; omega)
  have hi : inB ((oR c (d, h)).emb j) = j := by
    funext a
    match a with
    | ⟨0, _⟩ => exact Fin.ext (by show (((oR c (d, h)).emb j) 0).val % 256 = (j 0).val; rw [hx, hy]; exact hC)
    | ⟨1, _⟩ => exact Fin.ext h1
  unfold outV
  rw [hd, hb, hi]

abbrev tList : List (Bool × Fin 8) := [(false, 0), (true, 0), (false, 1), (true, 1), (false, 2), (true, 2), (false, 3), (true, 3), (false, 4), (true, 4), (false, 5), (true, 5), (false, 6), (true, 6), (false, 7), (true, 7)]
theorem out_split : (iprop(∃ X, own c outA fullShare X) : sProp 𝕄) ⊢ outFree c := by
  refine (own_parts c (oR c) outA (fun _ _ => rfl) (o_disj c) (o_cov c)).trans ?_
  rw [bigSep_univ_eq_bigSepL tList (by decide) (by decide)]
  simp only [bigSepL_cons_cons, bigSepL_singleton]
  unfold outFree oFree
  simp only [sepA]
  exact BI.Entails.refl _
theorem out_join : outDone m c ⊢ own c outA fullShare (outV m c) := by
  refine BIBase.Entails.trans ?_ (owns_of_rects (c : Thread nD τ) outA fullShare (oR c) (fun _ _ => rfl) (o_disj c) (o_cov c) (outV m c))
  rw [bigSep_univ_eq_bigSepL tList (by decide) (by decide)]
  simp only [bigSepL_cons_cons, bigSepL_singleton, outV_emb]
  unfold outDone oDone
  simp only [sepA]
  exact BI.Entails.refl _

end Cert.Proof

end
-- ==== Proof.Whole.lean ====
/-
  The whole body on one device: from what the launch hands the device to the result, every cell closed and every buffer
  whole again.
-/
module

public import proofs.«01_k».proof.Proof.Mem

@[expose] public section

set_option maxRecDepth 16384

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (K : CK × Dev nD → ℕ) (c : Dev nD)

/-- The scratch buffers, contents unknown. -/
def scr (c : Dev nD) : sProp 𝕄 :=
  iprop(two (fun d => iprop(∃ X, own c (commM d) fullShare X)) ∗ two (fun d => iprop(∃ X, own c (qM d) fullShare X)) ∗ (∃ X, own c wM fullShare X)
    ∗ two (fun d => iprop(∃ X, own c (xM d) fullShare X)) ∗ (∃ X, own c stM fullShare X) ∗ (∃ X, own c ssM fullShare X) ∗ (∃ X, own c srM fullShare X))
/-- What the launch hands the device, -/
def bodyIn (c : Dev nD) : sProp 𝕄 :=
  iprop(barT c ∗ ring 0 c ∗ credPos 0 c ∗ toksRS c ∗ toksAG c ∗ hopsT c ∗ args m c ∗ (zCopy 0 c ∗ zCopy 1 c) ∗ (zStore false c ∗ zStore true c)
    ∗ scr c ∗ (∃ X, own c outA fullShare X))
/-- the cells at their end, -/
def hopsEnd (c : Dev nD) : sProp 𝕄 := iprop((pos (.ssend 0) 1 c ∗ pos (.srecv 0) 1 c) ∗ (pos (.ssend 1) 1 c ∗ pos (.srecv 1) 1 c) ∗ (pos (.ssend 2) 1 c ∗ pos (.srecv 2) 1 c) ∗ (pos (.ssend 3) 1 c ∗ pos (.srecv 3) 1 c) ∗ (pos (.ssend 4) 1 c ∗ pos (.srecv 4) 1 c) ∗ (pos (.ssend 5) 1 c ∗ pos (.srecv 5) 1 c) ∗ (pos (.ssend 6) 1 c ∗ pos (.srecv 6) 1 c))
def posEnd (c : Dev nD) : sProp 𝕄 := iprop(pos .bar 1 c ∗ ring 13 c ∗ credPos 12 c ∗ hopsEnd c)
/-- and what it leaves. -/
def bodyOut (c : Dev nD) : sProp 𝕄 :=
  iprop(posEnd c ∗ args m c ∗ (zCopy 0 c ∗ zCopy 1 c) ∗ (zStore false c ∗ zStore true c) ∗ scr c ∗ own c outA fullShare (outV m c))

theorem ring_reach :
    (ring 0 c : sProp 𝕄) ⊢ iprop(ring 0 c ∗ (reached ER (cell (.recv false (sl 0)) c) (0 / 2) ∗ reached ER (cell (.recv true (sl 0)) c) (0 / 2))) := by
  unfold ring two
  iintro ⟨H1, H2, ⟨HA, HB⟩, H4⟩
  ihave HA' := (posR_reach c false 0) $$ HA
  icases HA' with ⟨HA, #hA⟩
  ihave HB' := (posR_reach c true 0) $$ HB
  icases HB' with ⟨HB, #hB⟩
  isplitl [H1 H2 HA HB H4]
  · isplitl [H1]; · iexact H1
    isplitl [H2]; · iexact H2
    isplitl [HA HB]
    · isplitl [HA]; · iexact HA
      iexact HB
    iexact H4
  isplitr; · iexact hA
  iexact hB

theorem hop_reach (h : Fin 7) : (hopT h c : sProp 𝕄) ⊢ iprop(hopT h c ∗ reached ER (cell (.srecv h) c) 0) := by
  unfold hopT
  iintro ⟨H1, H2, H3, H4⟩
  ihave H3' := (pos_split c (.srecv h) 0) $$ H3
  icases H3' with ⟨H3, #hr⟩
  isplitl [H1 H2 H3 H4]
  · isplitl [H1]; · iexact H1
    isplitl [H2]; · iexact H2
    isplitl [H3]; · iexact H3
    iexact H4
  iexact hr

theorem rows_give :
    iprop(hopsT c ∗ (∃ X, own c srM fullShare X)) ⊢ (iprop(hopsT c ∗ rowsFree c) : sProp 𝕄) := by
  unfold hopsT rowsFree rowFree
  iintro ⟨⟨T0, T1, T2, T3, T4, T5, T6⟩, Hs⟩
  ihave Hs' := (rows_split c) $$ Hs
  unfold rowS
  icases Hs' with ⟨S0, S1, S2, S3, S4, S5, S6⟩
  ihave T0' := (hop_reach c 0) $$ T0
  icases T0' with ⟨T0, #r0⟩
  ihave T1' := (hop_reach c 1) $$ T1
  icases T1' with ⟨T1, #r1⟩
  ihave T2' := (hop_reach c 2) $$ T2
  icases T2' with ⟨T2, #r2⟩
  ihave T3' := (hop_reach c 3) $$ T3
  icases T3' with ⟨T3, #r3⟩
  ihave T4' := (hop_reach c 4) $$ T4
  icases T4' with ⟨T4, #r4⟩
  ihave T5' := (hop_reach c 5) $$ T5
  icases T5' with ⟨T5, #r5⟩
  ihave T6' := (hop_reach c 6) $$ T6
  icases T6' with ⟨T6, #r6⟩
  isplitl [T0 T1 T2 T3 T4 T5 T6]
  · isplitl [T0]; · iexact T0
    isplitl [T1]; · iexact T1
    isplitl [T2]; · iexact T2
    isplitl [T3]; · iexact T3
    isplitl [T4]; · iexact T4
    isplitl [T5]; · iexact T5
    iexact T6
  isplitl [S0]
  · isplitl [S0]; · iexact S0
    iexact r0
  isplitl [S1]
  · isplitl [S1]; · iexact S1
    iexact r1
  isplitl [S2]
  · isplitl [S2]; · iexact S2
    iexact r2
  isplitl [S3]
  · isplitl [S3]; · iexact S3
    iexact r3
  isplitl [S4]
  · isplitl [S4]; · iexact S4
    iexact r4
  isplitl [S5]
  · isplitl [S5]; · iexact S5
    iexact r5
  isplitl [S6]; · iexact S6
  iexact r6

theorem hops_end : (hopsOut c : sProp 𝕄) ⊢ iprop(hopsEnd c ∗ ∃ X, own c srM fullShare X) := by
  unfold hopsOut hopsEnd hopOut
  iintro ⟨⟨R0, A0, B0⟩, ⟨R1, A1, B1⟩, ⟨R2, A2, B2⟩, ⟨R3, A3, B3⟩, ⟨R4, A4, B4⟩, ⟨R5, A5, B5⟩, ⟨R6, A6, B6⟩⟩
  isplitr [R0 R1 R2 R3 R4 R5 R6]
  · isplitl [A0 B0]
    · isplitl [A0]; · iexact A0
      iexact B0
    isplitl [A1 B1]
    · isplitl [A1]; · iexact A1
      iexact B1
    isplitl [A2 B2]
    · isplitl [A2]; · iexact A2
      iexact B2
    isplitl [A3 B3]
    · isplitl [A3]; · iexact A3
      iexact B3
    isplitl [A4 B4]
    · isplitl [A4]; · iexact A4
      iexact B4
    isplitl [A5 B5]
    · isplitl [A5]; · iexact A5
      iexact B5
    isplitl [A6]; · iexact A6
    iexact B6
  iapply (rows_join c)
  unfold rowH
  isplitl [R0]; · iexact R0
  isplitl [R1]; · iexact R1
  isplitl [R2]; · iexact R2
  isplitl [R3]; · iexact R3
  isplitl [R4]; · iexact R4
  isplitl [R5]; · iexact R5
  iexact R6

theorem body_spec {Q : PUnit → sProp (MT nD τ sig ℕ (Elt F) ℕ UU ℕ)} :
    iprop(invs m K ∗ levAts L lv ∗ Own c obAll ∗ bodyIn m c) ⊢ iprop(((Own c [] ∗ bodyOut m c) -∗ Q ⟨⟩) -∗ WP c bodyP Q) := by
  unfold bodyP bodyIn scr two WP
  simp only [Prog.lift, Prog.bind_op, Prog.bind_ret, wp_deviceId, wp_bind]
  iintro ⟨#HI, #Hl, HO, Hb, Hr, Hp, Ht, Htg, Hh, Ha, Hz, ⟨HzsA, HzsB⟩, ⟨⟨HcA, HcB⟩, ⟨HqA, HqB⟩, Hw, ⟨HxA, HxB⟩, Hst, Hss, Hsr⟩, Hout⟩ Hk
  ihave Hr' := (ring_reach c) $$ Hr
  icases Hr' with ⟨Hr, ⟨#hA, #hB⟩⟩
  ihave Hh' := (rows_give c) $$ [Hh Hsr]
  · isplitl [Hh]; · iexact Hh
    iexact Hsr
  icases Hh' with ⟨Hh, Hrow⟩
  ihave HcA' := (slots_split c (commM false)) $$ HcA
  icases HcA' with ⟨HcA0, HcA1⟩
  ihave HcB' := (slots_split c (commM true)) $$ HcB
  icases HcB' with ⟨HcB0, HcB1⟩
  ihave HqA' := (slots_split c (qM false)) $$ HqA
  icases HqA' with ⟨HqA0, HqA1⟩
  ihave HqB' := (slots_split c (qM true)) $$ HqB
  icases HqB' with ⟨HqB0, HqB1⟩
  ihave Hst' := (slots_split c stM) $$ Hst
  icases Hst' with ⟨Hst0, Hst1⟩
  ihave Hout' := (out_split c) $$ Hout
  iapply (head_spec m K c) $$ [HO Hb Hr Hp Ht Ha Hz Hst0 Hst1 Hw HxA HxB Hrow HcA0 HcA1 HcB0 HcB1 HqA0 HqB0]
  · isplitr; · iexact HI
    isplitr; · iexact Hl
    isplitl [HO]; · iexact HO
    unfold headIn
    isplitl [Hb]; · iexact Hb
    isplitl [Hr]; · iexact Hr
    isplitl [Hp]; · iexact Hp
    isplitl [Ht]; · iexact Ht
    isplitl [Ha]; · iexact Ha
    isplitl [Hz]; · iexact Hz
    isplitl [Hst0 Hst1]
    · isplitl [Hst0]; · iexact Hst0
      iexact Hst1
    isplitl [Hw]; · iexact Hw
    isplitl [HxA HxB]
    · isplitl [HxA]; · iexact HxA
      iexact HxB
    isplitl [HcA0 Hrow]
    · isplitr [Hrow]
      · unfold freeSlot
        isplitl [HcA0]; · unfold anyBlk; rw [if_pos (by decide)]; iexact HcA0
        iexact hA
      iexact Hrow
    isplitl [HcB0]
    · unfold freeSlot
      isplitl [HcB0]; · unfold anyBlk; rw [if_pos (by decide)]; iexact HcB0
      iexact hB
    isplitl [HcA1 HcB1]
    · isplitl [HcA1]; · iexact HcA1
      iexact HcB1
    unfold two
    isplitl [HqA0]; · iexact HqA0
    iexact HqB0
  unfold headOut St two
  iintro ⟨HO, Hb, ⟨Hr, Hp, ⟨HcA1, HcB1⟩, ⟨HxA, HxB⟩, Hw⟩, ⟨HcA0, HcB0⟩, ⟨Hwa, Hacc⟩, ⟨Hst0, Hst1⟩, Hrow⟩
  iapply (scale_spec m K c) $$ [HO HcA1 HcB1 Hss Hh Hrow]
  · isplitr; · iexact HI
    isplitr; · iexact Hl
    isplitl [HO]; · iexact HO
    isplitl [HcA1 HcB1]
    · isplitl [HcA1]; · iexact HcA1
      iexact HcB1
    isplitl [Hss]; · iexact Hss
    isplitl [Hh]; · iexact Hh
    iexact Hrow
  iintro ⟨HO, Hc, Hss, Hh⟩
  iapply (gather_spec m K c) $$ [HO Hc HqA1 HqB1 Hr Hp Htg Hst0 Hst1 HzsA HzsB Hout']
  · isplitr; · iexact HI
    isplitr; · iexact Hl
    isplitl [HO]; · iexact HO
    isplitl [Hc]; · iexact Hc
    isplitl [HqA1 HqB1]
    · isplitl [HqA1]; · iexact HqA1
      iexact HqB1
    isplitl [Hr]; · iexact Hr
    isplitl [Hp]; · iexact Hp
    isplitl [Htg]; · iexact Htg
    isplitl [Hst0 Hst1 HzsA HzsB]
    · unfold two dIdle
      isplitl [Hst0 HzsA]
      · isplitl [Hst0]; · iexact Hst0
        iexact HzsA
      isplitl [Hst1]; · iexact Hst1
      iexact HzsB
    iexact Hout'
  unfold two dIdle
  iintro ⟨HO, ⟨HcA1, HcB1⟩, ⟨⟨HqA1, HqB1⟩, ⟨HqA0, HqB0⟩⟩, Hr, Hp, ⟨⟨Hst0, HzsA⟩, ⟨Hst1, HzsB⟩⟩, Hout⟩
  iapply Hk
  ihave Hh' := (hops_end c) $$ Hh
  icases Hh' with ⟨Hh, Hsr⟩
  unfold xIdle xRest
  icases HxA with ⟨⟨HxA, HzA⟩, HxmA⟩
  icases HxB with ⟨⟨HxB, HzB⟩, HxmB⟩
  isplitl [HO]; · iexact HO
  unfold bodyOut
  isplitl [Hb Hr Hp Hh]
  · unfold posEnd
    isplitl [Hb]; · iexact Hb
    isplitl [Hr]; · iexact Hr
    isplitl [Hp]; · iexact Hp
    iexact Hh
  isplitl [HxA HxB Hwa Hacc]
  · unfold args
    isplitl [HxA HxB]
    · isplitl [HxA]; · iexact HxA
      iexact HxB
    isplitl [Hwa]; · iexact Hwa
    iexact Hacc
  isplitl [HzA HzB]
  · isplitl [HzA]; · iexact HzA
    iexact HzB
  isplitl [HzsA HzsB]
  · isplitl [HzsA]; · iexact HzsA
    iexact HzsB
  isplitr [Hout]
  · unfold scr two
    isplitl [HcA0 HcA1 HcB0 HcB1]
    · isplitl [HcA0 HcA1]
      · iapply (slots_join c (commM false))
        isplitl [HcA0]; · iexact HcA0
        unfold freeH; iexists _; iexact HcA1
      iapply (slots_join c (commM true))
      isplitl [HcB0]; · iexact HcB0
      unfold freeH; iexists _; iexact HcB1
    isplitl [HqA0 HqA1 HqB0 HqB1]
    · isplitl [HqA0 HqA1]
      · iapply (slots_join c (qM false))
        unfold freeH
        isplitl [HqA0]; · iexists _; iexact HqA0
        iexists _; iexact HqA1
      iapply (slots_join c (qM true))
      unfold freeH
      isplitl [HqB0]; · iexists _; iexact HqB0
      iexists _; iexact HqB1
    isplitl [Hw]; · iexists _; iexact Hw
    isplitl [HxmA HxmB]
    · isplitl [HxmA]; · iexact HxmA
      iexact HxmB
    isplitl [Hst0 Hst1]
    · iapply (slots_join c stM)
      isplitl [Hst0]; · iexact Hst0
      iexact Hst1
    isplitl [Hss]; · iexact Hss
    iexact Hsr
  iapply (out_join m c)
  iexact Hout

/-! ## Closing the cells -/

theorem close_one (k : CK) : iprop(invs m K ∗ pos k (lastK k) c) ⊢ iprop(|={Set.univ}=> (semVal (cell k c) 0 : sProp 𝕄)) := by
  unfold pos
  iintro ⟨#HI, ⟨Hat, -⟩⟩
  imod (Rounds.cell_close ER (Rd m) (Set.mem_univ (K (k, c))) (fun h => h) (R := lastK k) (duties_after m k c)) $$ [Hat] with H
  · isplitr; · iapply (inv_at m K k c); iexact HI
    iexact Hat
  imodintro
  iexact H

theorem posEnd_all : (posEnd c : sProp 𝕄) ⊢ bigSep Finset.univ fun k : CK => pos k (lastK k) c := by
  rw [bigSep_univ_eq_bigSepL ckList (by decide) (by decide)]
  unfold ckList
  simp only [bigSepL_cons_cons, bigSepL_singleton]
  refine BIBase.Entails.trans ?_ (show iprop(pos .bar 1 c ∗ pos (.credit false) 12 c ∗ pos (.credit true) 12 c ∗ pos (.send false 0) 6 c ∗ pos (.send false 1) 7 c ∗ pos (.send true 0) 6 c ∗ pos (.send true 1) 7 c ∗ pos (.recv false 0) 7 c ∗ pos (.recv false 1) 6 c ∗ pos (.recv true 0) 7 c ∗ pos (.recv true 1) 6 c ∗ pos (.ssend 0) 1 c ∗ pos (.ssend 1) 1 c ∗ pos (.ssend 2) 1 c ∗ pos (.ssend 3) 1 c ∗ pos (.ssend 4) 1 c ∗ pos (.ssend 5) 1 c ∗ pos (.ssend 6) 1 c ∗ pos (.srecv 0) 1 c ∗ pos (.srecv 1) 1 c ∗ pos (.srecv 2) 1 c ∗ pos (.srecv 3) 1 c ∗ pos (.srecv 4) 1 c ∗ pos (.srecv 5) 1 c ∗ pos (.srecv 6) 1 c) ⊢ _ from BI.Entails.refl _)
  unfold posEnd ring credPos hopsEnd two posS posR
  iintro ⟨Hb, ⟨⟨HS0A, HS0B⟩, ⟨HS1A, HS1B⟩, ⟨HR1A, HR1B⟩, ⟨HR0A, HR0B⟩⟩, ⟨HcA, HcB⟩, ⟨⟨A0, B0⟩, ⟨A1, B1⟩, ⟨A2, B2⟩, ⟨A3, B3⟩, ⟨A4, B4⟩, ⟨A5, B5⟩, ⟨A6, B6⟩⟩⟩
  isplitl [Hb]; · iexact Hb
  isplitl [HcA]; · iexact HcA
  isplitl [HcB]; · iexact HcB
  isplitl [HS0A]; · iexact HS0A
  isplitl [HS1A]; · iexact HS1A
  isplitl [HS0B]; · iexact HS0B
  isplitl [HS1B]; · iexact HS1B
  isplitl [HR0A]; · iexact HR0A
  isplitl [HR1A]; · iexact HR1A
  isplitl [HR0B]; · iexact HR0B
  isplitl [HR1B]; · iexact HR1B
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [B0]; · iexact B0
  isplitl [B1]; · iexact B1
  isplitl [B2]; · iexact B2
  isplitl [B3]; · iexact B3
  isplitl [B4]; · iexact B4
  isplitl [B5]; · iexact B5
  iexact B6

theorem with_persistent {I : Type} [Fintype I] [DecidableEq I] (R : sProp (MT nD τ sig ℕ (Elt F) ℕ UU ℕ)) [BI.Persistent R] (Φ Ψ : I → sProp (MT nD τ sig ℕ (Elt F) ℕ UU ℕ))
    (h : ∀ i, iprop(R ∗ Φ i) ⊢ Ψ i) : iprop(R ∗ bigSep Finset.univ Φ) ⊢ bigSep Finset.univ Ψ :=
  (sep_mono_left (BI.bigSep_of_persistent Finset.univ R)).trans (by rw [← bigSep_sep']; exact bigSep_mono fun i _ => h i)

theorem close_all : iprop(invs m K ∗ posEnd c) ⊢ iprop(|={Set.univ}=> (bigSep Finset.univ fun k : CK => (semVal (cell k c) 0 : sProp 𝕄))) :=
  ((sep_mono_right (posEnd_all c)).trans (with_persistent (invs m K) _ _ fun k => close_one m K c k)).trans (bigSep_fupd _ _)

end Cert.Proof

end
-- ==== Proof.Deal.lean ====
/-
  What the launch deals each device: the duty tokens of all cells dealt around to the devices that pay the duties, the
  credits of what is owed to each device, and the device's positions at its own cells, put together as the phases of
  the body take them.
-/
module

public import proofs.«01_k».proof.Proof.Whole

@[expose] public section

set_option maxRecDepth 16384

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (K : CK × Dev nD → ℕ) (c : Dev nD)

/-! ## Lists of resources -/

/-- What a list names, one after the other. -/
def lsep {A : Type} (Φ : A → sProp (MT nD τ sig ℕ (Elt F) ℕ UU ℕ)) : List A → sProp (MT nD τ sig ℕ (Elt F) ℕ UU ℕ)
  | [] => iprop(emp)
  | a :: l => iprop(Φ a ∗ lsep Φ l)

theorem lsep_append {A : Type} (Φ : A → sProp (MT nD τ sig ℕ (Elt F) ℕ UU ℕ)) (l l' : List A) :
    lsep Φ (l ++ l') ⊢ iprop(lsep Φ l ∗ lsep Φ l') := by
  induction l with
  | nil =>
      show lsep Φ l' ⊢ iprop(emp ∗ lsep Φ l')
      iintro H
      isplitr; · iempintro
      iexact H
  | cons a l ih =>
      show iprop(Φ a ∗ lsep Φ (l ++ l')) ⊢ iprop((Φ a ∗ lsep Φ l) ∗ lsep Φ l')
      iintro ⟨Ha, H⟩
      ihave H' := ih $$ H
      icases H' with ⟨H1, H2⟩
      isplitl [Ha H1]
      · isplitl [Ha]; · iexact Ha
        iexact H1
      iexact H2

theorem lsep_of_set {A : Type} [DecidableEq A] (Φ : A → sProp (MT nD τ sig ℕ (Elt F) ℕ UU ℕ)) (l : List A) (h : l.Nodup) :
    bigSep l.toFinset Φ ⊢ lsep Φ l := by
  induction l with
  | nil => exact BI.Entails.refl _
  | cons a l ih =>
      rw [List.toFinset_cons, bigSep_insert (fun ha => (List.nodup_cons.mp h).1 (List.mem_toFinset.mp ha))]
      exact sep_mono_right (ih (List.nodup_cons.mp h).2)

/-- Two iterated conjunctions, one inside the other, change places. -/
theorem bigSep_swap {A B : Type} [DecidableEq A] (s : Finset A) (t : Finset B) (Φ : A → B → sProp (MT nD τ sig ℕ (Elt F) ℕ UU ℕ)) :
    (bigSep t fun b => bigSep s fun a => Φ a b) = bigSep s fun a => bigSep t fun b => Φ a b := by
  induction s using Finset.induction_on with
  | empty => simp only [bigSep_empty]; exact BI.bigSep_emp_const _
  | insert a s ha ih => simp only [bigSep_insert ha]; exact (bigSep_sep' _ _ _).trans (by rw [ih]; rfl)

/-! ## The tokens -/

/-- A duty: the cell, the round, which of its duties. -/
abbrev Tk : Type := CK × ℕ × Bool
/-- The duties of a step's copies, of its credits, of the hops; -/
def tkS (u : ℕ) : List Tk :=
  [(.send false (sl (u + 1)), u / 2, false), (.recv false (sl u), u / 2, false), (.send true (sl (u + 1)), u / 2, false), (.recv true (sl u), u / 2, false)]
def tkC (u : ℕ) : List Tk := [(.credit false, u, false), (.credit true, u, false)]
def tkH : List Tk :=
  [(.ssend 0, 0, false), (.srecv 0, 0, false), (.ssend 1, 0, false), (.srecv 1, 0, false), (.ssend 2, 0, false), (.srecv 2, 0, false), (.ssend 3, 0, false), (.srecv 3, 0, false), (.ssend 4, 0, false), (.srecv 4, 0, false), (.ssend 5, 0, false), (.srecv 5, 0, false), (.ssend 6, 0, false), (.srecv 6, 0, false)]
/-- all of them. -/
def toks : List Tk :=
  [(.bar, 0, false), (.bar, 0, true)] ++ (tkS 0 ++ (tkC 0 ++ (tkS 1 ++ (tkC 1 ++ (tkS 2 ++ (tkC 2 ++ (tkS 3 ++ (tkC 3 ++ (tkS 4 ++ (tkC 4 ++ (tkS 5 ++ (tkC 5 ++ (tkS 6 ++ (tkC 6 ++ (tkS 7 ++ (tkC 7 ++ (tkS 8 ++ (tkC 8 ++ (tkS 9 ++ (tkC 9 ++ (tkS 10 ++ (tkC 10 ++ (tkS 11 ++ (tkC 11 ++ (tkS 12 ++ tkH)))))))))))))))))))))))))

theorem toks_nodup : toks.Nodup := by decide

/-- Whose cell a device pays. -/
def tg : Tk → (Dev nD ≃ Dev nD)
  | (.bar, _, d) => ringE (!d)
  | (.credit d, _, _) => ringE (!d)
  | (.send _ _, _, _) => Equiv.refl _
  | (.recv d _, _, _) => ringE d
  | (.ssend _, _, _) => Equiv.refl _
  | (.srecv _, _, _) => ringE false

/-- The token of a duty of device `c`'s cell, -/
def tokAt (c : Dev nD) (e : Tk) : sProp 𝕄 := dutyTok ER (cell e.1 c) e.2.1 e.2.2
/-- and of the duty device `c` pays. -/
def payTok (c : Dev nD) (e : Tk) : sProp 𝕄 := tokAt (tg e c) e

def tokE (c : Dev nD) : Tk ↪ GSem nD τ sig × ℕ × Bool := ⟨fun e => (cell e.1 c, e.2.1, e.2.2), by
  rintro ⟨k, r, d⟩ ⟨k', r', d'⟩ h
  have h1 : cell k c = cell k' c := congrArg Prod.fst h
  have h2 : ((k, c) : CK × Dev nD) = (k', c) := cell_inj h1
  have h3 : (r, d) = (r', d') := congrArg Prod.snd h
  cases h2; cases h3; rfl⟩
def ringToks : Finset (GSem nD τ sig × ℕ × Bool) := Finset.univ.biUnion fun c : Dev nD => toks.toFinset.map (tokE c)

theorem deal :
    (bigSep ringToks (fun x => dutyTok ER x.1 x.2.1 x.2.2) : sProp (MT nD τ sig ℕ (Elt F) ℕ UU ℕ)) ⊢ bigSep Finset.univ fun c : Dev nD => lsep (payTok c) toks := by
  have e1 : (bigSep ringToks (fun x => dutyTok ER x.1 x.2.1 x.2.2) : sProp 𝕄) = bigSep Finset.univ fun c : Dev nD => bigSep toks.toFinset (tokAt c) := by
    unfold ringToks
    rw [bigSep_biUnion_eq _ _ _ (fun c _ c' _ hne => Finset.disjoint_left.mpr fun x hx hx' => by
      obtain ⟨e, -, rfl⟩ := Finset.mem_map.mp hx
      obtain ⟨e', -, he⟩ := Finset.mem_map.mp hx'
      exact hne (congrArg (fun g : GSem nD τ sig × ℕ × Bool => g.1.1.1) he).symm)]
    exact bigSep_congr fun c _ => by rw [bigSep_map]; rfl
  have e2 : (bigSep Finset.univ fun c : Dev nD => bigSep toks.toFinset (tokAt (F := F) c)) = bigSep Finset.univ fun c : Dev nD => bigSep toks.toFinset (payTok (F := F) c) := by
    rw [bigSep_swap toks.toFinset Finset.univ (fun e c => tokAt (F := F) c e), bigSep_swap toks.toFinset Finset.univ (fun e c => payTok (F := F) c e)]
    exact bigSep_congr fun e _ => bigSep_univ_equiv (tg e) (fun c => tokAt (F := F) c e)
  rw [e1, e2]
  exact bigSep_mono fun c _ => lsep_of_set _ _ toks_nodup

/-! ## The credits -/

def crAt (c : Dev nD) (o : Ob) : sProp 𝕄 := cred (tallyAt (cell o.k c) o.ι o.n)

theorem launch_cr (l : List Ob) (c : Dev nD) :
    (Pipeline.launchCred (fun d => sumO d l) c : sProp (MT nD τ sig ℕ (Elt F) ℕ UU ℕ)) ⊢ lsep (crAt c) l := by
  induction l with
  | nil => exact Entails.of_eq (Pipeline.launchCred_zero c)
  | cons o l ih =>
      have e : (Pipeline.launchCred (fun d => sumO d (o :: l)) c : sProp 𝕄)
          = iprop(Pipeline.launchCred (fun d => sumO d l) c ∗ Pipeline.launchCred (fun d => o.at d) c) :=
        Pipeline.launchCred_add (fun d => sumO d l) (fun d => o.at d) c
      rw [e]
      show _ ⊢ iprop(crAt c o ∗ lsep (crAt c) l)
      iintro ⟨H1, H2⟩
      isplitl [H2]
      · show _ ⊢ cred (tallyAt (cell o.k c) o.ι o.n)
        iapply (Pipeline.launchCred_tallyAt o.k.sem (nb o.dir) (fr o.dir) (nb_fr o.dir) (fr_nb o.dir) o.ι o.n c)
      iapply ih; iexact H1

def crR (u : ℕ) (c : Dev nD) : sProp 𝕄 := two fun d => recvCr d u c
theorem cr_send (u : ℕ) (l : List Ob) : lsep (crAt (F := F) c) (obSend u l) ⊢ iprop(crR u c ∗ lsep (crAt c) l) := by
  unfold crR two recvCr obSend
  show iprop(cred (tallyAt (cell (.recv false (sl u)) c) u (Nu u)) ∗ cred (tallyAt (cell (.recv true (sl u)) c) u (Nu u)) ∗ lsep (crAt c) l)
    ⊢ iprop((cred (tallyAt (cell (.recv false (sl u)) c) u (Nu u)) ∗ cred (tallyAt (cell (.recv true (sl u)) c) u (Nu u))) ∗ lsep (crAt c) l)
  iintro ⟨H1, H2, H⟩
  isplitl [H1 H2]
  · isplitl [H1]; · iexact H1
    iexact H2
  iexact H
theorem cr_cred (u : ℕ) (l : List Ob) : lsep (crAt (F := F) c) (obCred u l) ⊢ iprop(crC u c ∗ lsep (crAt c) l) := by
  unfold crC two credCr obCred
  show iprop(cred (tallyAt (cell (.credit false) c) u 1) ∗ cred (tallyAt (cell (.credit true) c) u 1) ∗ lsep (crAt c) l)
    ⊢ iprop((cred (tallyAt (cell (.credit false) c) u 1) ∗ cred (tallyAt (cell (.credit true) c) u 1)) ∗ lsep (crAt c) l)
  iintro ⟨H1, H2, H⟩
  isplitl [H1 H2]
  · isplitl [H1]; · iexact H1
    iexact H2
  iexact H
theorem cr_step (u : ℕ) (l : List Ob) : lsep (crAt (F := F) c) (obStep u l) ⊢ iprop(crR u c ∗ crC u c ∗ lsep (crAt c) l) :=
  (cr_send c u _).trans (sep_mono_right (cr_cred c u l))
theorem cr_hop (h : Fin 7) (l : List Ob) : lsep (crAt (F := F) c) (obHop h l) ⊢ iprop(cred (tallyAt (cell (.srecv h) c) 0 Ns) ∗ lsep (crAt c) l) :=
  BI.Entails.refl _
theorem cr_bar (l : List Ob) : lsep (crAt (F := F) c) (obBar l) ⊢ iprop(cred (tallyAt (cell .bar c) 0 2) ∗ lsep (crAt c) l) := by
  have e : (tallyAt (cell .bar c) 0 2 : CellTallies nD τ sig ℕ) = tallyAt (cell .bar c) 0 1 + tallyAt (cell .bar c) 0 1 := (tallyAt_add (cell .bar c) 0 1 1).symm
  show iprop(cred (tallyAt (cell .bar c) 0 1) ∗ cred (tallyAt (cell .bar c) 0 1) ∗ lsep (crAt c) l) ⊢ _
  rw [e]
  iintro ⟨H1, H2, H⟩
  isplitl [H1 H2]
  · iapply (cred_add _ _).2
    isplitl [H1]; · iexact H1
    iexact H2
  iexact H

/-! ## The tokens of a step -/

theorem tk_send (u : ℕ) : iprop(lsep (payTok (F := F) c) (tkS u) ∗ crR u c) ⊢ tokS u c := by
  unfold tokS two sendTok tkS
  show iprop((dutyTok ER (cell (.send false (sl (u + 1))) c) (u / 2) false ∗ dutyTok ER (cell (.recv false (sl u)) (nb false c)) (u / 2) false ∗ dutyTok ER (cell (.send true (sl (u + 1))) c) (u / 2) false ∗ dutyTok ER (cell (.recv true (sl u)) (nb true c)) (u / 2) false ∗ emp) ∗ crR u c)
    ⊢ iprop(((dutyTok ER (cell (.send false (sl (u + 1))) c) (u / 2) false ∗ dutyTok ER (cell (.recv false (sl u)) (nb false c)) (u / 2) false) ∗ (dutyTok ER (cell (.send true (sl (u + 1))) c) (u / 2) false ∗ dutyTok ER (cell (.recv true (sl u)) (nb true c)) (u / 2) false)) ∗ crR u c)
  iintro ⟨⟨H1, H2, H3, H4, -⟩, Hc⟩
  isplitr [Hc]
  · isplitl [H1 H2]
    · isplitl [H1]; · iexact H1
      iexact H2
    isplitl [H3]; · iexact H3
    iexact H4
  iexact Hc
theorem tk_cred (u : ℕ) : lsep (payTok (F := F) c) (tkC u) ⊢ tokC u c := by
  unfold tokC two credTok tkC
  show iprop(dutyTok ER (cell (.credit false) (fr false c)) u false ∗ dutyTok ER (cell (.credit true) (fr true c)) u false ∗ emp) ⊢ iprop(dutyTok ER (cell (.credit false) (fr false c)) u false ∗ dutyTok ER (cell (.credit true) (fr true c)) u false)
  iintro ⟨H1, H2, -⟩
  isplitl [H1]; · iexact H1
  iexact H2

theorem tk_bar : lsep (payTok (F := F) c) [(.bar, 0, false), (.bar, 0, true)]
    ⊢ iprop(dutyTok ER (cell .bar (fr false c)) 0 false ∗ dutyTok ER (cell .bar (fr true c)) 0 true ∗ emp) := BI.Entails.refl _
theorem tk_hops : lsep (payTok (F := F) c) tkH
    ⊢ iprop(dutyTok ER (cell (.ssend 0) c) 0 false ∗ dutyTok ER (cell (.srecv 0) (nb false c)) 0 false ∗ dutyTok ER (cell (.ssend 1) c) 0 false ∗ dutyTok ER (cell (.srecv 1) (nb false c)) 0 false ∗ dutyTok ER (cell (.ssend 2) c) 0 false ∗ dutyTok ER (cell (.srecv 2) (nb false c)) 0 false ∗ dutyTok ER (cell (.ssend 3) c) 0 false ∗ dutyTok ER (cell (.srecv 3) (nb false c)) 0 false ∗ dutyTok ER (cell (.ssend 4) c) 0 false ∗ dutyTok ER (cell (.srecv 4) (nb false c)) 0 false ∗ dutyTok ER (cell (.ssend 5) c) 0 false ∗ dutyTok ER (cell (.srecv 5) (nb false c)) 0 false ∗ dutyTok ER (cell (.ssend 6) c) 0 false ∗ dutyTok ER (cell (.srecv 6) (nb false c)) 0 false ∗ emp) := BI.Entails.refl _
theorem ring_in : iprop((pos (.send false 1) 0 c ∗ pos (.send true 1) 0 c) ∗ (pos (.send false 0) 0 c ∗ pos (.send true 0) 0 c)
    ∗ (pos (.recv false 0) 0 c ∗ pos (.recv true 0) 0 c) ∗ (pos (.recv false 1) 0 c ∗ pos (.recv true 1) 0 c)) ⊢ (ring 0 c : sProp 𝕄) := BI.Entails.refl _

/-! ## Everything a device starts from -/

/-- The part of `bodyIn` that the protocol makes. -/
def protoIn (c : Dev nD) : sProp 𝕄 := iprop(barT c ∗ ring 0 c ∗ credPos 0 c ∗ toksRS c ∗ toksAG c ∗ hopsT c)

set_option maxHeartbeats 4000000 in
theorem proto_in :
    iprop(lsep (payTok (F := F) c) toks ∗ lsep (crAt c) obAll ∗ lsep (fun k => pos k 0 c) ckList
        ∗ (reached ER (cell .bar (fr false c)) 0 ∗ reached ER (cell .bar (fr true c)) 0)) ⊢ protoIn c := by
  unfold toks
  iintro ⟨T, C, P, Rb⟩
  ihave T' := (lsep_append (payTok (F := F) c) _ _) $$ T
  icases T' with ⟨Tb, T⟩
  ihave T' := (lsep_append (payTok (F := F) c) (tkS 0) _) $$ T
  icases T' with ⟨S0, T⟩
  ihave T' := (lsep_append (payTok (F := F) c) (tkC 0) _) $$ T
  icases T' with ⟨D0, T⟩
  ihave T' := (lsep_append (payTok (F := F) c) (tkS 1) _) $$ T
  icases T' with ⟨S1, T⟩
  ihave T' := (lsep_append (payTok (F := F) c) (tkC 1) _) $$ T
  icases T' with ⟨D1, T⟩
  ihave T' := (lsep_append (payTok (F := F) c) (tkS 2) _) $$ T
  icases T' with ⟨S2, T⟩
  ihave T' := (lsep_append (payTok (F := F) c) (tkC 2) _) $$ T
  icases T' with ⟨D2, T⟩
  ihave T' := (lsep_append (payTok (F := F) c) (tkS 3) _) $$ T
  icases T' with ⟨S3, T⟩
  ihave T' := (lsep_append (payTok (F := F) c) (tkC 3) _) $$ T
  icases T' with ⟨D3, T⟩
  ihave T' := (lsep_append (payTok (F := F) c) (tkS 4) _) $$ T
  icases T' with ⟨S4, T⟩
  ihave T' := (lsep_append (payTok (F := F) c) (tkC 4) _) $$ T
  icases T' with ⟨D4, T⟩
  ihave T' := (lsep_append (payTok (F := F) c) (tkS 5) _) $$ T
  icases T' with ⟨S5, T⟩
  ihave T' := (lsep_append (payTok (F := F) c) (tkC 5) _) $$ T
  icases T' with ⟨D5, T⟩
  ihave T' := (lsep_append (payTok (F := F) c) (tkS 6) _) $$ T
  icases T' with ⟨S6, T⟩
  ihave T' := (lsep_append (payTok (F := F) c) (tkC 6) _) $$ T
  icases T' with ⟨D6, T⟩
  ihave T' := (lsep_append (payTok (F := F) c) (tkS 7) _) $$ T
  icases T' with ⟨S7, T⟩
  ihave T' := (lsep_append (payTok (F := F) c) (tkC 7) _) $$ T
  icases T' with ⟨D7, T⟩
  ihave T' := (lsep_append (payTok (F := F) c) (tkS 8) _) $$ T
  icases T' with ⟨S8, T⟩
  ihave T' := (lsep_append (payTok (F := F) c) (tkC 8) _) $$ T
  icases T' with ⟨D8, T⟩
  ihave T' := (lsep_append (payTok (F := F) c) (tkS 9) _) $$ T
  icases T' with ⟨S9, T⟩
  ihave T' := (lsep_append (payTok (F := F) c) (tkC 9) _) $$ T
  icases T' with ⟨D9, T⟩
  ihave T' := (lsep_append (payTok (F := F) c) (tkS 10) _) $$ T
  icases T' with ⟨S10, T⟩
  ihave T' := (lsep_append (payTok (F := F) c) (tkC 10) _) $$ T
  icases T' with ⟨D10, T⟩
  ihave T' := (lsep_append (payTok (F := F) c) (tkS 11) _) $$ T
  icases T' with ⟨S11, T⟩
  ihave T' := (lsep_append (payTok (F := F) c) (tkC 11) _) $$ T
  icases T' with ⟨D11, T⟩
  ihave T' := (lsep_append (payTok (F := F) c) (tkS 12) tkH) $$ T
  icases T' with ⟨S12, T⟩
  ihave C' := (cr_bar c _) $$ C
  icases C' with ⟨Cb, C⟩
  ihave C' := (cr_step c 0 _) $$ C
  icases C' with ⟨R0, E0, C⟩
  ihave C' := (cr_step c 1 _) $$ C
  icases C' with ⟨R1, E1, C⟩
  ihave C' := (cr_step c 2 _) $$ C
  icases C' with ⟨R2, E2, C⟩
  ihave C' := (cr_step c 3 _) $$ C
  icases C' with ⟨R3, E3, C⟩
  ihave C' := (cr_step c 4 _) $$ C
  icases C' with ⟨R4, E4, C⟩
  ihave C' := (cr_step c 5 _) $$ C
  icases C' with ⟨R5, E5, C⟩
  ihave C' := (cr_hop c 0 _) $$ C
  icases C' with ⟨J0, C⟩
  ihave C' := (cr_hop c 1 _) $$ C
  icases C' with ⟨J1, C⟩
  ihave C' := (cr_hop c 2 _) $$ C
  icases C' with ⟨J2, C⟩
  ihave C' := (cr_hop c 3 _) $$ C
  icases C' with ⟨J3, C⟩
  ihave C' := (cr_hop c 4 _) $$ C
  icases C' with ⟨J4, C⟩
  ihave C' := (cr_hop c 5 _) $$ C
  icases C' with ⟨J5, C⟩
  ihave C' := (cr_hop c 6 _) $$ C
  icases C' with ⟨J6, C⟩
  ihave C' := (cr_step c 6 _) $$ C
  icases C' with ⟨R6, E6, C⟩
  ihave C' := (cr_step c 7 _) $$ C
  icases C' with ⟨R7, E7, C⟩
  ihave C' := (cr_step c 8 _) $$ C
  icases C' with ⟨R8, E8, C⟩
  ihave C' := (cr_step c 9 _) $$ C
  icases C' with ⟨R9, E9, C⟩
  ihave C' := (cr_step c 10 _) $$ C
  icases C' with ⟨R10, E10, C⟩
  ihave C' := (cr_step c 11 _) $$ C
  icases C' with ⟨R11, E11, C⟩
  ihave C' := (cr_send c 12 _) $$ C
  icases C' with ⟨R12, -⟩
  ihave S0 := (tk_send c 0) $$ [S0 R0]
  · isplitl [S0]; · iexact S0
    iexact R0
  ihave S1 := (tk_send c 1) $$ [S1 R1]
  · isplitl [S1]; · iexact S1
    iexact R1
  ihave S2 := (tk_send c 2) $$ [S2 R2]
  · isplitl [S2]; · iexact S2
    iexact R2
  ihave S3 := (tk_send c 3) $$ [S3 R3]
  · isplitl [S3]; · iexact S3
    iexact R3
  ihave S4 := (tk_send c 4) $$ [S4 R4]
  · isplitl [S4]; · iexact S4
    iexact R4
  ihave S5 := (tk_send c 5) $$ [S5 R5]
  · isplitl [S5]; · iexact S5
    iexact R5
  ihave S6 := (tk_send c 6) $$ [S6 R6]
  · isplitl [S6]; · iexact S6
    iexact R6
  ihave S7 := (tk_send c 7) $$ [S7 R7]
  · isplitl [S7]; · iexact S7
    iexact R7
  ihave S8 := (tk_send c 8) $$ [S8 R8]
  · isplitl [S8]; · iexact S8
    iexact R8
  ihave S9 := (tk_send c 9) $$ [S9 R9]
  · isplitl [S9]; · iexact S9
    iexact R9
  ihave S10 := (tk_send c 10) $$ [S10 R10]
  · isplitl [S10]; · iexact S10
    iexact R10
  ihave S11 := (tk_send c 11) $$ [S11 R11]
  · isplitl [S11]; · iexact S11
    iexact R11
  ihave S12 := (tk_send c 12) $$ [S12 R12]
  · isplitl [S12]; · iexact S12
    iexact R12
  ihave D0 := (tk_cred c 0) $$ D0
  ihave D1 := (tk_cred c 1) $$ D1
  ihave D2 := (tk_cred c 2) $$ D2
  ihave D3 := (tk_cred c 3) $$ D3
  ihave D4 := (tk_cred c 4) $$ D4
  ihave D5 := (tk_cred c 5) $$ D5
  ihave D6 := (tk_cred c 6) $$ D6
  ihave D7 := (tk_cred c 7) $$ D7
  ihave D8 := (tk_cred c 8) $$ D8
  ihave D9 := (tk_cred c 9) $$ D9
  ihave D10 := (tk_cred c 10) $$ D10
  ihave D11 := (tk_cred c 11) $$ D11
  ihave Tb := (tk_bar c) $$ Tb
  ihave T := (tk_hops c) $$ T
  unfold ckList
  simp only [lsep]
  icases P with ⟨Pb, Pc0, Pc1, Ps00, Ps01, Ps10, Ps11, Pr00, Pr01, Pr10, Pr11, Pa0, Pa1, Pa2, Pa3, Pa4, Pa5, Pa6, Pz0, Pz1, Pz2, Pz3, Pz4, Pz5, Pz6, -⟩
  icases Tb with ⟨Tb0, Tb1, -⟩
  icases T with ⟨Ta0, Tz0, Ta1, Tz1, Ta2, Tz2, Ta3, Tz3, Ta4, Tz4, Ta5, Tz5, Ta6, Tz6, -⟩
  unfold protoIn barT credPos two toksRS toksAG stepT hopsT hopT
  isplitl [Cb Pb Tb0 Tb1 Rb]
  · isplitl [Cb]; · iexact Cb
    isplitl [Pb]; · iexact Pb
    isplitl [Tb0 Tb1]
    · isplitl [Tb0]; · iexact Tb0
      iexact Tb1
    iexact Rb
  isplitl [Ps00 Ps01 Ps10 Ps11 Pr00 Pr01 Pr10 Pr11]
  · iapply (ring_in c)
    isplitl [Ps01 Ps11]
    · isplitl [Ps01]; · iexact Ps01
      iexact Ps11
    isplitl [Ps00 Ps10]
    · isplitl [Ps00]; · iexact Ps00
      iexact Ps10
    isplitl [Pr00 Pr10]
    · isplitl [Pr00]; · iexact Pr00
      iexact Pr10
    isplitl [Pr01]; · iexact Pr01
    iexact Pr11
  isplitl [Pc0 Pc1]
  · isplitl [Pc0]; · iexact Pc0
    iexact Pc1
  isplitl [S0 D0 E0 S1 D1 E1 S2 D2 E2 S3 D3 E3 S4 D4 E4 S5 D5]
  · isplitl [S0 D0]
    · isplitl [S0]; · iexact S0
      iexact D0
    isplitl [E0 S1 D1]
    · isplitl [E0]; · iexact E0
      isplitl [S1]; · iexact S1
      iexact D1
    isplitl [E1 S2 D2]
    · isplitl [E1]; · iexact E1
      isplitl [S2]; · iexact S2
      iexact D2
    isplitl [E2 S3 D3]
    · isplitl [E2]; · iexact E2
      isplitl [S3]; · iexact S3
      iexact D3
    isplitl [E3 S4 D4]
    · isplitl [E3]; · iexact E3
      isplitl [S4]; · iexact S4
      iexact D4
    isplitl [E4]; · iexact E4
    isplitl [S5]; · iexact S5
    iexact D5
  isplitl [E5 S6 D6 E6 S7 D7 E7 S8 D8 E8 S9 D9 E9 S10 D10 E10 S11 D11 E11 S12]
  · isplitl [E5 S6 D6]
    · isplitl [E5]; · iexact E5
      isplitl [S6]; · iexact S6
      iexact D6
    isplitl [E6 S7 D7]
    · isplitl [E6]; · iexact E6
      isplitl [S7]; · iexact S7
      iexact D7
    isplitl [E7 S8 D8]
    · isplitl [E7]; · iexact E7
      isplitl [S8]; · iexact S8
      iexact D8
    isplitl [E8 S9 D9]
    · isplitl [E8]; · iexact E8
      isplitl [S9]; · iexact S9
      iexact D9
    isplitl [E9 S10 D10]
    · isplitl [E9]; · iexact E9
      isplitl [S10]; · iexact S10
      iexact D10
    isplitl [E10 S11 D11]
    · isplitl [E10]; · iexact E10
      isplitl [S11]; · iexact S11
      iexact D11
    isplitl [E11]; · iexact E11
    iexact S12
  isplitl [Ta0 Tz0 Pa0 Pz0 J0]
  · isplitl [Ta0 Tz0]
    · isplitl [Ta0]; · iexact Ta0
      iexact Tz0
    isplitl [Pa0]; · iexact Pa0
    isplitl [Pz0]; · iexact Pz0
    iexact J0
  isplitl [Ta1 Tz1 Pa1 Pz1 J1]
  · isplitl [Ta1 Tz1]
    · isplitl [Ta1]; · iexact Ta1
      iexact Tz1
    isplitl [Pa1]; · iexact Pa1
    isplitl [Pz1]; · iexact Pz1
    iexact J1
  isplitl [Ta2 Tz2 Pa2 Pz2 J2]
  · isplitl [Ta2 Tz2]
    · isplitl [Ta2]; · iexact Ta2
      iexact Tz2
    isplitl [Pa2]; · iexact Pa2
    isplitl [Pz2]; · iexact Pz2
    iexact J2
  isplitl [Ta3 Tz3 Pa3 Pz3 J3]
  · isplitl [Ta3 Tz3]
    · isplitl [Ta3]; · iexact Ta3
      iexact Tz3
    isplitl [Pa3]; · iexact Pa3
    isplitl [Pz3]; · iexact Pz3
    iexact J3
  isplitl [Ta4 Tz4 Pa4 Pz4 J4]
  · isplitl [Ta4 Tz4]
    · isplitl [Ta4]; · iexact Ta4
      iexact Tz4
    isplitl [Pa4]; · iexact Pa4
    isplitl [Pz4]; · iexact Pz4
    iexact J4
  isplitl [Ta5 Tz5 Pa5 Pz5 J5]
  · isplitl [Ta5 Tz5]
    · isplitl [Ta5]; · iexact Ta5
      iexact Tz5
    isplitl [Pa5]; · iexact Pa5
    isplitl [Pz5]; · iexact Pz5
    iexact J5
  isplitl [Ta6 Tz6]
  · isplitl [Ta6]; · iexact Ta6
    iexact Tz6
  isplitl [Pa6]; · iexact Pa6
  isplitl [Pz6]; · iexact Pz6
  iexact J6

end Cert.Proof

end
-- ==== Proof.BodyEq.lean ====
/-
  The printed body is the composition of the pieces.
-/
module

public import proofs.«01_k».proof.Proof.Steps

@[expose] public section

namespace Cert.Proof

open Cert.KernelIdeal Cert.KernelIdeal.Gen
open Idealize.ShloMosaic Idealize.ShloMosaic.TcCoe Idealize.SL.Sem

variable {F : FTy → Type} [FloatOps F]

set_option maxRecDepth 1000000 in
set_option maxHeartbeats 4000000 in
theorem body_eq : cc0__body (F := F) xA (Memref.isWhole_whole _) wA (Memref.isWhole_whole _) (accA false) (Memref.isWhole_whole _)
    (accA true) (Memref.isWhole_whole _) outA (Memref.isWhole_whole _) (commM false) (Memref.isWhole_whole _) (commM true) (Memref.isWhole_whole _)
    (qM false) (Memref.isWhole_whole _) (qM true) (Memref.isWhole_whole _) wM (Memref.isWhole_whole _) (xM false) (Memref.isWhole_whole _)
    (xM true) (Memref.isWhole_whole _) stM (Memref.isWhole_whole _) ssM (Memref.isWhole_whole _) srM (Memref.isWhole_whole _)
    cc0_scratch10 cc0_scratch11 cc0_scratch12 cc0_scratch13 cc0_scratch14 cc0_scratch15 cc0_scratch16 cc0_scratch17 cc0_scratch18 cc0_scratch19 cc0_scratch20
    = bodyP := by
  rw [cc0__body_eq_skeleton]
  rfl

end Cert.Proof

end
-- ==== Proof.Launch.lean ====
/-
  The launch: the kernel's semaphores and buffers as the launch hands them to each device, the cells opened at once on
  all devices, the body's obligation, and the run of the whole program for any float values.
-/
module

public import proofs.«01_k».proof.Proof.Deal
public import proofs.«01_k».proof.Proof.BodyEq
public import Idealize.ShloMosaic.Lib.Pipeline.CollectiveSegs

@[expose] public section

set_option maxRecDepth 16384

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg) (K : CK × Dev nD → ℕ) (c : Dev nD)

/-! ## The semaphores -/

/-- The kernel's own semaphores: the cells of the protocol but the barrier's, and those of the local copies. -/
abbrev OK : Type := {k : CK // k ≠ .bar} ⊕ Bool ⊕ Bool
def osem : OK → SemLoc sig
  | .inl k => k.1.sem
  | .inr (.inl d) => .dma (seedSem d)
  | .inr (.inr d) => .dma (storeSem d)

instance : Fintype {k : CK // k ≠ .bar} := inferInstance
theorem ownSemFacts : Pipeline.OwnSemFacts cfg0.spec osem := by
  refine ⟨?_, ?_, fun _ w => w.elim0⟩
  · decide
  · decide

theorem share_eq (D : Dat τ (Elt F) ℕ ℕ UU ℕ cfg0 c) (w : Fin cfg0.W) : D.share w = fullShare := w.elim0

def okL : List OK :=
  [.inl ⟨.credit false, by decide⟩, .inl ⟨.credit true, by decide⟩, .inl ⟨.send false 0, by decide⟩, .inl ⟨.send false 1, by decide⟩, .inl ⟨.send true 0, by decide⟩, .inl ⟨.send true 1, by decide⟩, .inl ⟨.recv false 0, by decide⟩, .inl ⟨.recv false 1, by decide⟩, .inl ⟨.recv true 0, by decide⟩, .inl ⟨.recv true 1, by decide⟩, .inl ⟨.ssend 0, by decide⟩, .inl ⟨.ssend 1, by decide⟩, .inl ⟨.ssend 2, by decide⟩, .inl ⟨.ssend 3, by decide⟩, .inl ⟨.ssend 4, by decide⟩, .inl ⟨.ssend 5, by decide⟩, .inl ⟨.ssend 6, by decide⟩, .inl ⟨.srecv 0, by decide⟩, .inl ⟨.srecv 1, by decide⟩, .inl ⟨.srecv 2, by decide⟩, .inl ⟨.srecv 3, by decide⟩, .inl ⟨.srecv 4, by decide⟩, .inl ⟨.srecv 5, by decide⟩, .inl ⟨.srecv 6, by decide⟩,
    .inr (.inl false), .inr (.inl true), .inr (.inr false), .inr (.inr true)]

abbrev owns0 (c : Dev nD) : sProp 𝕄 := Pipeline.ownSems0 (Ix := ℕ) (Name := ℕ) (U := UU) (Lvl := ℕ) (Val := Elt F) (τ := τ) osem c

theorem owns0_eq : (owns0 c : sProp 𝕄)
    = iprop(semVal (cell (.credit false) c) 0 ∗ semVal (cell (.credit true) c) 0 ∗ semVal (cell (.send false 0) c) 0 ∗ semVal (cell (.send false 1) c) 0 ∗ semVal (cell (.send true 0) c) 0 ∗ semVal (cell (.send true 1) c) 0 ∗ semVal (cell (.recv false 0) c) 0 ∗ semVal (cell (.recv false 1) c) 0 ∗ semVal (cell (.recv true 0) c) 0 ∗ semVal (cell (.recv true 1) c) 0 ∗ semVal (cell (.ssend 0) c) 0 ∗ semVal (cell (.ssend 1) c) 0 ∗ semVal (cell (.ssend 2) c) 0 ∗ semVal (cell (.ssend 3) c) 0 ∗ semVal (cell (.ssend 4) c) 0 ∗ semVal (cell (.ssend 5) c) 0 ∗ semVal (cell (.ssend 6) c) 0 ∗ semVal (cell (.srecv 0) c) 0 ∗ semVal (cell (.srecv 1) c) 0 ∗ semVal (cell (.srecv 2) c) 0 ∗ semVal (cell (.srecv 3) c) 0 ∗ semVal (cell (.srecv 4) c) 0 ∗ semVal (cell (.srecv 5) c) 0 ∗ semVal (cell (.srecv 6) c) 0
      ∗ zCopy 0 c ∗ zCopy 1 c ∗ zStore false c ∗ zStore true c) := by
  unfold owns0
  rw [Pipeline.ownSems0_eq_of_list c osem okL (by decide) (by decide)]; rfl
theorem unscopedSems0_eq : (unscopedSems0 c : sProp 𝕄) = semVal (cell .bar c) 0 := by
  unfold unscopedSems0; rw [bigSep_eq_bigSepL_of_eq [SemLoc.reg barSem] (by decide) (by decide)]; rfl

theorem cells_eq (Φ : CK → sProp (MT nD τ sig ℕ (Elt F) ℕ UU ℕ)) : bigSep Finset.univ Φ
    = iprop(Φ (.bar) ∗ Φ (.credit false) ∗ Φ (.credit true) ∗ Φ (.send false 0) ∗ Φ (.send false 1) ∗ Φ (.send true 0) ∗ Φ (.send true 1) ∗ Φ (.recv false 0) ∗ Φ (.recv false 1) ∗ Φ (.recv true 0) ∗ Φ (.recv true 1) ∗ Φ (.ssend 0) ∗ Φ (.ssend 1) ∗ Φ (.ssend 2) ∗ Φ (.ssend 3) ∗ Φ (.ssend 4) ∗ Φ (.ssend 5) ∗ Φ (.ssend 6) ∗ Φ (.srecv 0) ∗ Φ (.srecv 1) ∗ Φ (.srecv 2) ∗ Φ (.srecv 3) ∗ Φ (.srecv 4) ∗ Φ (.srecv 5) ∗ Φ (.srecv 6)) := by
  rw [bigSep_univ_eq_bigSepL ckList (by decide) (by decide)]; rfl
theorem cells_lsep (Φ : CK → sProp (MT nD τ sig ℕ (Elt F) ℕ UU ℕ)) : bigSep Finset.univ Φ ⊢ lsep Φ ckList :=
  lsep_of_set Φ ckList (by decide)

/-- The local copies' semaphores. -/
def zs (c : Dev nD) : sProp 𝕄 := iprop((zCopy 0 c ∗ zCopy 1 c) ∗ (zStore false c ∗ zStore true c))

theorem sems_in : iprop(owns0 c ∗ unscopedSems0 c) ⊢ iprop((bigSep Finset.univ fun k : CK => (semVal (cell k c) 0 : sProp 𝕄)) ∗ zs c) := by
  rw [owns0_eq, unscopedSems0_eq, cells_eq]
  unfold zs
  iintro ⟨⟨v1, v2, v3, v4, v5, v6, v7, v8, v9, v10, v11, v12, v13, v14, v15, v16, v17, v18, v19, v20, v21, v22, v23, v24, z0, z1, z2, z3⟩, v0⟩
  isplitl [v0 v1 v2 v3 v4 v5 v6 v7 v8 v9 v10 v11 v12 v13 v14 v15 v16 v17 v18 v19 v20 v21 v22 v23 v24]
  · isplitl [v0]; · iexact v0
    isplitl [v1]; · iexact v1
    isplitl [v2]; · iexact v2
    isplitl [v3]; · iexact v3
    isplitl [v4]; · iexact v4
    isplitl [v5]; · iexact v5
    isplitl [v6]; · iexact v6
    isplitl [v7]; · iexact v7
    isplitl [v8]; · iexact v8
    isplitl [v9]; · iexact v9
    isplitl [v10]; · iexact v10
    isplitl [v11]; · iexact v11
    isplitl [v12]; · iexact v12
    isplitl [v13]; · iexact v13
    isplitl [v14]; · iexact v14
    isplitl [v15]; · iexact v15
    isplitl [v16]; · iexact v16
    isplitl [v17]; · iexact v17
    isplitl [v18]; · iexact v18
    isplitl [v19]; · iexact v19
    isplitl [v20]; · iexact v20
    isplitl [v21]; · iexact v21
    isplitl [v22]; · iexact v22
    isplitl [v23]; · iexact v23
    iexact v24
  isplitl [z0 z1]
  · isplitl [z0]; · iexact z0
    iexact z1
  isplitl [z2]; · iexact z2
  iexact z3

theorem sems_out : iprop((bigSep Finset.univ fun k : CK => (semVal (cell k c) 0 : sProp 𝕄)) ∗ (zCopy 0 c ∗ zCopy 1 c) ∗ (zStore false c ∗ zStore true c))
    ⊢ iprop(unscopedSems0 c ∗ owns0 c) := by
  rw [owns0_eq, unscopedSems0_eq, cells_eq]
  iintro ⟨⟨v0, v1, v2, v3, v4, v5, v6, v7, v8, v9, v10, v11, v12, v13, v14, v15, v16, v17, v18, v19, v20, v21, v22, v23, v24⟩, ⟨z0, z1⟩, ⟨z2, z3⟩⟩
  isplitl [v0]; · iexact v0
  isplitl [v1]; · iexact v1
  isplitl [v2]; · iexact v2
  isplitl [v3]; · iexact v3
  isplitl [v4]; · iexact v4
  isplitl [v5]; · iexact v5
  isplitl [v6]; · iexact v6
  isplitl [v7]; · iexact v7
  isplitl [v8]; · iexact v8
  isplitl [v9]; · iexact v9
  isplitl [v10]; · iexact v10
  isplitl [v11]; · iexact v11
  isplitl [v12]; · iexact v12
  isplitl [v13]; · iexact v13
  isplitl [v14]; · iexact v14
  isplitl [v15]; · iexact v15
  isplitl [v16]; · iexact v16
  isplitl [v17]; · iexact v17
  isplitl [v18]; · iexact v18
  isplitl [v19]; · iexact v19
  isplitl [v20]; · iexact v20
  isplitl [v21]; · iexact v21
  isplitl [v22]; · iexact v22
  isplitl [v23]; · iexact v23
  isplitl [v24]; · iexact v24
  isplitl [z0]; · iexact z0
  isplitl [z1]; · iexact z1
  isplitl [z2]; · iexact z2
  iexact z3

/-! ## The buffers -/

theorem own_pt (b : Ref sig .tc) (X : Buf (Elt F) ((c : Thread nD τ).loc b)) :
    (own c (Memref.whole b) fullShare X : sProp 𝕄) = (((c : Thread nD τ).loc b) ↦{fullShare} X) := owns_whole (c : Thread nD τ) b fullShare X

theorem own_ex (b : Ref sig .tc) :
    (iprop(∃ X : Buf (Elt F) ((c : Thread nD τ).loc b), own c (Memref.whole b) fullShare X) : sProp 𝕄)
      = iprop(∃ X : Buf (Elt F) ((c : Thread nD τ).loc b), ((c : Thread nD τ).loc b) ↦{fullShare} X) :=
  congrArg BIBase.exists (funext fun X => own_pt c b X)

theorem scr_in : (Pipeline.scopedRest (Ix := ℕ) (Name := ℕ) (U := UU) (Lvl := ℕ) (Val := Elt F) (cfg0.spec) c : sProp 𝕄) = scr c := by
  rw [scopedRest0_eq]
  unfold scr two
  show _ = iprop(((∃ X, own c (commM false) fullShare X) ∗ (∃ X, own c (commM true) fullShare X)) ∗ ((∃ X, own c (qM false) fullShare X) ∗ (∃ X, own c (qM true) fullShare X)) ∗ (∃ X, own c (wM) fullShare X) ∗ ((∃ X, own c (xM false) fullShare X) ∗ (∃ X, own c (xM true) fullShare X)) ∗ (∃ X, own c (stM) fullShare X) ∗ (∃ X, own c (ssM) fullShare X) ∗ (∃ X, own c (srM) fullShare X))
  rw [show (iprop(∃ X, own c (commM false) fullShare X) : sProp 𝕄) = _ from own_ex c cc0_scratch0,
    show (iprop(∃ X, own c (commM true) fullShare X) : sProp 𝕄) = _ from own_ex c cc0_scratch1,
    show (iprop(∃ X, own c (qM false) fullShare X) : sProp 𝕄) = _ from own_ex c cc0_scratch2,
    show (iprop(∃ X, own c (qM true) fullShare X) : sProp 𝕄) = _ from own_ex c cc0_scratch3,
    show (iprop(∃ X, own c (wM) fullShare X) : sProp 𝕄) = _ from own_ex c cc0_scratch4,
    show (iprop(∃ X, own c (xM false) fullShare X) : sProp 𝕄) = _ from own_ex c cc0_scratch5,
    show (iprop(∃ X, own c (xM true) fullShare X) : sProp 𝕄) = _ from own_ex c cc0_scratch6,
    show (iprop(∃ X, own c (stM) fullShare X) : sProp 𝕄) = _ from own_ex c cc0_scratch7,
    show (iprop(∃ X, own c (ssM) fullShare X) : sProp 𝕄) = _ from own_ex c cc0_scratch8,
    show (iprop(∃ X, own c (srM) fullShare X) : sProp 𝕄) = _ from own_ex c cc0_scratch9]
  simp only [sepA]

/-- The five buffers of the program, -/
def bufsIn (c : Dev nD) : sProp 𝕄 :=
  iprop((((c : Thread nD τ).loc main_arg0) ↦{fullShare} xs m c) ∗ (((c : Thread nD τ).loc main_arg1) ↦{fullShare} ws m c)
    ∗ (((c : Thread nD τ).loc main_arg2) ↦{fullShare} sd m false c) ∗ (((c : Thread nD τ).loc main_arg3) ↦{fullShare} sd m true c)
    ∗ ∃ X : Buf (Elt F) ((c : Thread nD τ).loc main_v1), ((c : Thread nD τ).loc main_v1) ↦{fullShare} X)
/-- and after the run. -/
def bufsOut (c : Dev nD) : sProp 𝕄 :=
  iprop((((c : Thread nD τ).loc main_arg0) ↦{fullShare} xs m c) ∗ (((c : Thread nD τ).loc main_arg1) ↦{fullShare} ws m c)
    ∗ (((c : Thread nD τ).loc main_arg2) ↦{fullShare} sd m false c) ∗ (((c : Thread nD τ).loc main_arg3) ↦{fullShare} sd m true c)
    ∗ ((c : Thread nD τ).loc main_v1) ↦{fullShare} outV m c)

theorem args_in : bufsIn m c ⊢ iprop(args m c ∗ ∃ X, own c outA fullShare X) := by
  unfold bufsIn args
  rw [← own_pt c main_arg0 (xs m c), ← own_pt c main_arg1 (ws m c), ← own_pt c main_arg2 (sd m false c), ← own_pt c main_arg3 (sd m true c), ← own_ex c main_v1]
  iintro ⟨H0, H1, H2, H3, H4⟩
  ihave H0' := (own_halves c xA (xs m c)) $$ H0
  icases H0' with ⟨A0, B0⟩
  ihave H1' := (own_halves c wA (ws m c)) $$ H1
  icases H1' with ⟨A1, B1⟩
  isplitl [A0 B0 A1 B1 H2 H3]
  · isplitl [A0 B0]
    · isplitl [A0]; · iexact A0
      iexact B0
    isplitl [A1 B1]
    · isplitl [A1]; · iexact A1
      iexact B1
    isplitl [H2]; · iexact H2
    iexact H3
  iexact H4
theorem args_out : iprop(args m c ∗ own c outA fullShare (outV m c)) ⊢ bufsOut m c := by
  unfold bufsOut args
  rw [← own_pt c main_arg0 (xs m c), ← own_pt c main_arg1 (ws m c), ← own_pt c main_arg2 (sd m false c), ← own_pt c main_arg3 (sd m true c), ← own_pt c main_v1 (outV m c)]
  iintro ⟨⟨⟨A0, B0⟩, ⟨A1, B1⟩, ⟨H2, H3⟩⟩, H4⟩
  isplitl [A0 B0]
  · iapply (own_join c xA (xs m c))
    isplitl [A0]; · iexact A0
    iexact B0
  isplitl [A1 B1]
  · iapply (own_join c wA (ws m c))
    isplitl [A1]; · iexact A1
    iexact B1
  isplitl [H2]; · iexact H2
  isplitl [H3]; · iexact H3
  iexact H4

/-! ## The cells opened -/

def ringCells : Finset (GSem nD τ sig) := Finset.univ.map ⟨fun p : CK × Dev nD => cell p.1 p.2, cell_inj⟩

/-- What the launch element deals device `c`, -/
def G (c : Dev nD) : sProp 𝕄 :=
  iprop((bigSep Finset.univ fun k : CK => roundState ER (Rd m) (cell k c) 0) ∗ (bigSep Finset.univ fun k : CK => pos k 0 c) ∗ lsep (payTok c) toks)
/-- what of it and of the local copies' semaphores stays with the device, -/
def lin (c : Dev nD) : sProp 𝕄 := iprop(zs c ∗ lsep (fun k => pos k 0 c) ckList ∗ lsep (payTok c) toks)
/-- and what the opening of all cells makes of it. -/
def G' (c : Dev nD) : sProp 𝕄 :=
  iprop(∃ K, invs m K ∗ (reached ER (cell .bar (fr false c)) 0 ∗ reached ER (cell .bar (fr true c)) 0) ∗ lin c)

theorem by_dev (Φ : CK → Dev nD → sProp (MT nD τ sig ℕ (Elt F) ℕ UU ℕ)) :
    (bigSep Finset.univ fun p : CK × Dev nD => Φ p.1 p.2) = bigSep Finset.univ fun c : Dev nD => bigSep Finset.univ fun k : CK => Φ k c := by
  rw [bigSep_univ_prod]; exact bigSep_swap Finset.univ Finset.univ (fun c k => Φ k c)

theorem fund_ring : (BI.own (ER (initOf ringCells ringToks)) : sProp 𝕄) ⊢ |==> bigSep Finset.univ (G m) := by
  have hX (Φ : GSem nD τ sig → sProp 𝕄) : bigSep ringCells Φ = bigSep Finset.univ fun c : Dev nD => bigSep Finset.univ fun k : CK => Φ (cell k c) := by
    unfold ringCells; rw [bigSep_map]; exact by_dev fun k c => Φ (cell k c)
  have hP : iprop((bigSep Finset.univ fun c : Dev nD => bigSep Finset.univ fun k : CK => atPos ER (cell k c) 0 ∅ 0)
      ∗ (bigSep Finset.univ fun c : Dev nD => bigSep Finset.univ fun k : CK => reached ER (cell k c) 0))
      ⊢ (bigSep Finset.univ fun c : Dev nD => bigSep Finset.univ fun k : CK => pos k 0 c : sProp 𝕄) := by
    rw [← bigSep_sep']
    exact bigSep_mono fun c _ => by rw [← bigSep_sep']; exact BI.Entails.refl _
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Hp := hP $$ [Hat' Hr']
  · isplitl [Hat']; · iexact Hat'
    iexact Hr'
  ihave Htok' := deal $$ Htok
  unfold G; simp only [bigSep_sep']
  isplitl [Hst']; · iexact Hst'
  isplitl [Hp]; · iexact Hp
  iexact Htok'

theorem pos_bar : (lsep (fun k => pos k 0 c) ckList : sProp 𝕄) ⊢ iprop(lsep (fun k => pos k 0 c) ckList ∗ reached ER (cell .bar c) 0) := by
  unfold ckList
  simp only [lsep]
  iintro ⟨H, HT⟩
  ihave H' := (pos_split c .bar 0) $$ H
  icases H' with ⟨H, #hr⟩
  isplitl [H HT]
  · isplitl [H]; · iexact H
    iexact HT
  iexact hr

theorem core_alloc : iprop(owns0 c ∗ unscopedSems0 c ∗ G m c)
    ⊢ |={Set.univ}=> iprop((bigSep Finset.univ fun k : CK => iprop(∃ κ : ℕ, cellInv ER (Rd m) κ (cell k c))) ∗ reached ER (cell .bar c) 0 ∗ lin c) := by
  unfold G lin
  iintro ⟨Hos, Hus, Hst, Hat, Htok⟩
  ihave Hv := (sems_in (F := F) c) $$ [Hos Hus]
  · isplitl [Hos]; · iexact Hos
    iexact Hus
  icases Hv with ⟨Hv, Hz⟩
  imod (show iprop((bigSep Finset.univ fun k : CK => semVal (cell k c) 0) ∗ bigSep Finset.univ fun k : CK => roundState ER (Rd m) (cell k c) 0)
      ⊢ (|={Set.univ}=> bigSep Finset.univ fun k : CK => iprop(∃ κ : ℕ, cellInv ER (Rd m) κ (cell k c)) : sProp 𝕄) from by
        rw [← bigSep_sep']
        exact (bigSep_mono fun k _ => (Rounds.body_intro ER (Rd m) (cell k c)).trans inv_alloc).trans (bigSep_fupd _ _)) $$ [Hv Hst] with Hinv
  · isplitl [Hv]; · iexact Hv
    iexact Hst
  ihave Hp := (cells_lsep (F := F) fun k => pos k 0 c) $$ Hat
  ihave Hp' := (pos_bar c) $$ Hp
  icases Hp' with ⟨Hp, Hr⟩
  imodintro
  isplitl [Hinv]; · iexact Hinv
  isplitl [Hr]; · iexact Hr
  isplitl [Hz]; · iexact Hz
  isplitl [Hp]; · iexact Hp
  iexact Htok

def records (K : CK × Dev nD → ℕ) : sProp 𝕄 := iprop(invs m K ∗ bigSep Finset.univ fun c : Dev nD => reached ER (cell .bar c) 0)
instance records_persistent : BI.Persistent (records m K) := by unfold records; infer_instance

theorem bar_reach (n : Dev nD) : (bigSep Finset.univ fun c : Dev nD => reached ER (cell .bar c) 0 : sProp 𝕄) ⊢ reached ER (cell .bar n) 0 :=
  bigSep_elim (Finset.mem_univ n)

theorem lin_intro : iprop(records m K ∗ lin c) ⊢ G' m c := by
  unfold records G'
  iintro ⟨⟨#HI, #HR⟩, H⟩
  iexists K
  isplitr; · iexact HI
  isplitr
  · isplitr
    · iapply (bar_reach (fr false c)); iexact HR
    iapply (bar_reach (fr true c)); iexact HR
  iexact H

theorem regroup :
    (bigSep Finset.univ fun c : Dev nD => iprop((bigSep Finset.univ fun k : CK => iprop(∃ κ : ℕ, cellInv ER (Rd m) κ (cell k c))) ∗ reached ER (cell .bar c) 0 ∗ lin c) : sProp 𝕄)
      ⊢ bigSep Finset.univ (G' m) := by
  rw [bigSep_sep', bigSep_sep', ← by_dev (fun k c => iprop(∃ κ : ℕ, cellInv ER (Rd m) κ (cell k c)))]
  iintro ⟨HI, #HR, H⟩
  ihave HK := (BI.bigSep_exists_pi Finset.univ (fun (p : CK × Dev nD) (κ : ℕ) => (cellInv ER (Rd m) κ (cell p.1 p.2) : sProp 𝕄))) $$ HI
  icases HK with ⟨%K, #HI⟩
  iapply (with_persistent (records m K) lin (G' m) fun c => lin_intro m K c)
  isplitr
  · unfold records invs
    isplitr; · iexact HI
    iexact HR
  iexact H

theorem glob : (bigSep Finset.univ fun c => iprop(owns0 c ∗ unscopedSems0 c ∗ G m c) : sProp 𝕄) ⊢ |={Set.univ}=> bigSep Finset.univ (G' m) :=
  ((bigSep_mono fun c _ => core_alloc m c).trans (bigSep_fupd _ _)).trans (BI.fupd_mono (regroup m))

/-! ## The launch element -/

def u₀ : UU :=
  (initOf (Pipeline.cells cfgs cellOf_inj) (Pipeline.launchToks cfgs cellOf_inj), (initOf ringCells ringToks, 1))

theorem own_u₀ : (ownU u₀ : sProp (MT nD τ sig ℕ (Elt F) ℕ UU ℕ))
    ⊢ iprop(BI.own (EP (initOf (Pipeline.cells cfgs cellOf_inj) (Pipeline.launchToks cfgs cellOf_inj))) ∗ BI.own (ER (initOf ringCells ringToks))) := by
  unfold u₀
  iintro Hu
  ihave H := (ownU_pair _ _) $$ Hu
  icases H with ⟨HP, HX⟩
  ihave HX' := (own_pair_emb embR (initOf ringCells ringToks) (1 : Counters)) $$ HX
  icases HX' with ⟨HX, -⟩
  isplitl [HP]; · iexact HP
  iexact HX

/-! ## The data of the launch -/

abbrev scop (c : Dev nD) : sProp 𝕄 := Pipeline.scopedRest (Ix := ℕ) (Name := ℕ) (U := UU) (Lvl := ℕ) (Val := Elt F) (cfg0.spec) c

/-- What the body starts from, -/
def start (c : Dev nD) : sProp 𝕄 := iprop(G' m c ∗ lsep (crAt c) obAll ∗ levAts L lv ∗ bufsIn m c)
/-- and what it leaves. -/
def fin (c : Dev nD) : sProp 𝕄 := iprop(unscopedSems0 c ∗ bufsOut m c)
def Φ₀ (c : Dev nD) : sProp 𝕄 := iprop(start m c ∗ scop c)
def Φ₁ (c : Dev nD) : sProp 𝕄 := iprop(fin m c ∗ owns0 c ∗ scop c)

def dats (_ : Fin 1) (c : Dev nD) : Dat τ (Elt F) ℕ ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => sumO c obAll
    | ⟨_ + 1, _⟩ => 0

/-- The whole body from the launch to the end. -/
theorem body_run : iprop(Φ₀ m c ∗ Own c obAll) ⊢ WP c bodyP fun _ => iprop(Φ₁ m c ∗ Own c []) := by
  unfold Φ₀ start G' lin zs
  iintro ⟨⟨⟨⟨%K, #HI, HR, ⟨⟨HzA, HzB⟩, Hp, Ht⟩⟩, Hc, #Hl, Hb⟩, Hs⟩, HO⟩
  ihave Hpr := (proto_in c) $$ [Ht Hc Hp HR]
  · isplitl [Ht]; · iexact Ht
    isplitl [Hc]; · iexact Hc
    isplitl [Hp]; · iexact Hp
    iexact HR
  unfold protoIn
  icases Hpr with ⟨P1, P2, P3, P4, P5, P6⟩
  ihave Ha := (args_in m c) $$ Hb
  icases Ha with ⟨Ha, Ho⟩
  ihave Hs' := (Entails.of_eq (scr_in c)) $$ Hs
  unfold WP
  iapply wp_fupd
  iapply (body_spec m K c) $$ [HO P1 P2 P3 P4 P5 P6 Ha Ho Hs' HzA HzB]
  · isplitr; · iexact HI
    isplitr; · iexact Hl
    isplitl [HO]; · iexact HO
    unfold bodyIn
    isplitl [P1]; · iexact P1
    isplitl [P2]; · iexact P2
    isplitl [P3]; · iexact P3
    isplitl [P4]; · iexact P4
    isplitl [P5]; · iexact P5
    isplitl [P6]; · iexact P6
    isplitl [Ha]; · iexact Ha
    isplitl [HzA]; · iexact HzA
    isplitl [HzB]; · iexact HzB
    isplitl [Hs']; · iexact Hs'
    iexact Ho
  iintro ⟨HO, H⟩
  unfold bodyOut
  icases H with ⟨He, Ha, HzA, HzB, Hs, Ho⟩
  imod (close_all m K c) $$ [He] with Hv
  · isplitr; · iexact HI
    iexact He
  ihave Hv' := (sems_out c) $$ [Hv HzA HzB]
  · isplitl [Hv]; · iexact Hv
    isplitl [HzA]; · iexact HzA
    iexact HzB
  icases Hv' with ⟨Hu, Hw⟩
  ihave Hb := (args_out m c) $$ [Ha Ho]
  · isplitl [Ha]; · iexact Ha
    iexact Ho
  ihave Hs' := (Entails.of_eq (scr_in c).symm) $$ Hs
  imodintro
  isplitr [HO]
  · unfold Φ₁ fin
    isplitl [Hu Hb]
    · isplitl [Hu]; · iexact Hu
      iexact Hb
    isplitl [Hw]; · iexact Hw
    iexact Hs'
  iexact HO

theorem owes_in : (dats m 0 c).owesAt 0 t0_0.castSucc ⊢ Own c obAll := by
  unfold Dat.owesAt Pipeline.owesWithin Own
  iintro ⟨%W, -, H⟩
  iexists W; iexact H
theorem owes_out : Own (F := F) c [] ⊢ (dats m 0 c).owesAt 0 t0_0.succ := by
  unfold Dat.owesAt Pipeline.owesWithin Own
  iintro ⟨%W, H⟩
  iexists W
  isplitr; · ipureintro; exact fun _ _ => Or.inl trivial
  iexact H

theorem body_of (p : Pg F PUnit) (h : iprop(Φ₀ m c ∗ Own c obAll) ⊢ WP c p fun _ => iprop(Φ₁ m c ∗ Own c [])) :
    iprop((dats m 0 c).Φ t0_0.castSucc ∗ (dats m 0 c).owesAt 0 t0_0.castSucc ∗ emp)
      ⊢ WP c p fun _ => iprop((dats m 0 c).Φ t0_0.succ ∗ (dats m 0 c).owesAt 0 t0_0.succ ∗ emp) := by
  refine BIBase.Entails.trans (show _ ⊢ iprop(Φ₀ m c ∗ Own c obAll) from ?_) (h.trans (wp_mono _ _ _ fun _ => ?_))
  · show iprop(Φ₀ m c ∗ _) ⊢ _
    iintro ⟨H, HO, -⟩
    isplitl [H]; · iexact H
    iapply (owes_in m c); iexact HO
  · show _ ⊢ iprop(Φ₁ m c ∗ _)
    iintro ⟨H, HO⟩
    isplitl [H]; · iexact H
    isplitl [HO]
    · iapply (owes_out m c); iexact HO
    iempintro

set_option maxRecDepth 1000000 in
theorem body_obligation (c : Dev nD) : BodyObligation (dats (F := F) m 0 c) (defs₀ (F := F)) 𝒱₀ 0 Set.univ := fun t => by
  have hb : (defs₀ (F := F)) Proc.tc cfg0.body (cfg0.bodyArgs t0_0 (cfg0.slots t0_0)) = bodyP := body_eq
  rw [fin_N0 t]
  rw [Finset.univ_eq_empty, bigSep_empty, bigSep_empty]
  exact body_of m c _ (hb ▸ body_run m c)

theorem start_intro :
    iprop(Pipeline.unscopedRestP Pipeline.Prefetch.none cfg0.spec c (fun b => m ((c : Thread nD τ).loc b)) ∗ levAts L lv
        ∗ Pipeline.launchCred (fun c => sumO c obAll) c ∗ prngReg c (ρ c) ∗ G' m c)
      ⊢ |={Set.univ}=> iprop(start m c ∗ emp) := by
  rw [Pipeline.unscopedRestP_none, unscopedRest0_eq]
  iintro ⟨⟨H0, H1, H2, H3, H4⟩, Hlev, Hcr, -, HG⟩
  ihave Hc := (launch_cr obAll c) $$ Hcr
  imodintro
  unfold start bufsIn
  isplitl
  · isplitl [HG]; · iexact HG
    isplitl [Hc]; · iexact Hc
    isplitl [Hlev]; · iexact Hlev
    isplitl [H0]; · iexact H0
    isplitl [H1]; · iexact H1
    isplitl [H2]; · iexact H2
    isplitl [H3]; · iexact H3
    iexists (m ((c : Thread nD τ).loc main_v1)); iexact H4
  · iempintro

theorem phi0_intro :
    iprop(start m c ∗ Pipeline.prefHeld Pipeline.Prefetch.none c (fun _ => fullShare.right) (fun k => k.elim0) ∗ Pipeline.scopedRest cfg0.spec c)
      ⊢ (dats m 0 c).Φ 0 := by
  show _ ⊢ Φ₀ m c
  unfold Φ₀
  iintro ⟨Hs, -, Hr⟩
  isplitl [Hs]; · iexact Hs
  iexact Hr

theorem waits (c : Dev nD) : (levAts L lv : sProp 𝕄) ⊢ Pipeline.cellsWaits cfgs (dats m) 0 0 c :=
  Pipeline.cellsWaits_intro cfgs (dats m) 0 0 c fun w s t => w.elim0

/-! ## What the run leaves -/

/-- The contents of the five buffers of device `c` at the end. -/
def Left (c : Dev nD) (M : (ℓ : Loc nD τ sig) → Buf (Elt F) ℓ) : Prop :=
  (M ((c : Thread nD τ).loc main_arg0) = m ((c : Thread nD τ).loc main_arg0) ∧ M ((c : Thread nD τ).loc main_arg1) = m ((c : Thread nD τ).loc main_arg1)
    ∧ M ((c : Thread nD τ).loc main_arg2) = m ((c : Thread nD τ).loc main_arg2) ∧ M ((c : Thread nD τ).loc main_arg3) = m ((c : Thread nD τ).loc main_arg3))
  ∧ M ((c : Thread nD τ).loc main_v1) = outV m c

theorem left_read (s' : Phys nD τ sig (Elt F)) : iprop(bufsOut m c ∗ SI s') ⊢ (⌜Left m c s'.mem.mem⌝ : sProp 𝕄) := by
  unfold bufsOut
  iintro ⟨⟨H0, H1, H2, H3, H4⟩, HSI⟩
  ihave %h0 := (SI_pointsTo_agree (st := s') (ℓ := (c : Thread nD τ).loc main_arg0) (I := Finset.univ) (q := fullShare) (f := xs m c)) $$ [H0 HSI]
  · isplitl [HSI]; · iexact HSI
    iexact H0
  ihave %h1 := (SI_pointsTo_agree (st := s') (ℓ := (c : Thread nD τ).loc main_arg1) (I := Finset.univ) (q := fullShare) (f := ws m c)) $$ [H1 HSI]
  · isplitl [HSI]; · iexact HSI
    iexact H1
  ihave %h2 := (SI_pointsTo_agree (st := s') (ℓ := (c : Thread nD τ).loc main_arg2) (I := Finset.univ) (q := fullShare) (f := sd m false c)) $$ [H2 HSI]
  · isplitl [HSI]; · iexact HSI
    iexact H2
  ihave %h3 := (SI_pointsTo_agree (st := s') (ℓ := (c : Thread nD τ).loc main_arg3) (I := Finset.univ) (q := fullShare) (f := sd m true c)) $$ [H3 HSI]
  · isplitl [HSI]; · iexact HSI
    iexact H3
  ihave %h4 := (SI_pointsTo_agree (st := s') (ℓ := (c : Thread nD τ).loc main_v1) (I := Finset.univ) (q := fullShare) (f := outV m c)) $$ [H4 HSI]
  · isplitl [HSI]; · iexact HSI
    iexact H4
  ipureintro
  exact ⟨⟨Buf.eq_of_forall_mem_univ h0, Buf.eq_of_forall_mem_univ h1, Buf.eq_of_forall_mem_univ h2, Buf.eq_of_forall_mem_univ h3⟩, Buf.eq_of_forall_mem_univ h4⟩

set_option maxRecDepth 1000000 in
/-- For any float values, from any memory with zero counters: every weakly fair execution of the program terminates, and
    in every final state each device's arguments are unchanged, its result is `outV`, and every counter is zero. -/
theorem run_main : θ_run defs (onTc (τ := τ) (main (F := F))) ⟨m, fun _ => 0, ρ⟩ (fun r => (∀ c : Dev nD, Left m c r.2.mem) ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun c w => w.elim0)
    (hdistinct := winFacts0.arr_inj)
    (O₀ := fun c => sumO c obAll) (howed₀ := fun _ => rfl) (howedN := fun _ => rfl)
    (L := L) (lv := lv) (hL := L_of_ne) (hwaits := waits m)
    (G := G m) (G' := G' m) (u₀ := u₀)
    (hu₀ := by
      iintro Hu
      ihave H := own_u₀ $$ Hu
      icases H with ⟨HP, HX⟩
      imod (fund_ring m) $$ HX with HG
      imodintro
      isplitl [HP]; · iexact HP
      iexact HG)
    (hglob := glob m)
    (hA := fun _ w => w.elim0) (hpf := fun _ k => k.elim0)
    (X := start m) (Y := fin m) (Z := fun _ => iprop(emp))
    (hX := start_intro m ρ) (hin := phi0_intro m) (hout := fun c => BI.Entails.refl _)
    (QY := fun c s => (∀ sm : SemLoc sig, sm.isScoped .tc = false → s.sem ((c.tc : Thread nD τ), sm) = 0) ∧ Left m c s.mem)
    (hY := fun c s' => by
      unfold fin
      iintro ⟨⟨Hu, Hb⟩, -, HSI⟩
      ihave %hl := (left_read m c s') $$ [Hb HSI]
      · isplitl [Hb]; · iexact Hb
        iexact HSI
      imod (Pipeline.unscopedSems0_read (X := unscopedSems0 c) (c := c) fupd_intro s') $$ [Hu HSI] with ⟨%hs, HSI⟩
      · isplitl [Hu]; · iexact Hu
        iexact HSI
      imodintro
      isplitr; · ipureintro; exact ⟨hs, hl⟩
      iexact HSI)
    (hQ := fun _ h hs => ⟨fun c => (h c).2.2.2, sem_eq_zero hs fun c => (h c).2.2.1⟩)

end Cert.Proof

end
-- ==== Proof.Frames.lean ====
/- The frames: each program leaves its arguments as they were and every counter at zero. -/
module

public import proofs.«01_k».proof.Defs
public import proofs.«01_k».proof.Proof.Launch
public import proofs.«01_k».proof.Proof.Gen.Kernel
public import proofs.«01_k».proof.Proof.Gen.ReferenceIdeal.Run
public import Idealize.ShloMosaic.Lib.Quiescent

@[expose] public section

noncomputable section

namespace Cert.Proof

open Idealize.ShloMosaic Idealize.SL.Sem

attribute [local instance] Cert.Kernel.Gen.facts Cert.KernelIdeal.Gen.facts Cert.ReferenceIdeal.Gen.facts

theorem frame_ideal : Cert.quiescent_KernelIdeal := fun m ρ _ =>
  (θ_run Cert.KernelIdeal.defs _ _).mono (fun _ h => ⟨fun c => (h.1 c).1, h.2⟩) (run_main (F := Ideal) m ρ)

theorem frame_reference : Cert.quiescent_ReferenceIdeal := fun m ρ _ =>
  (θ_run Cert.ReferenceIdeal.defs _ _).mono
    (fun _ h => ⟨fun c => (h c).2, sem_eq_zero_of_no_sems rfl _⟩) (Cert.ReferenceIdeal.Value.run (F := Ideal) m ρ)

/-- The kernel's text and its reading over ideal values are one, so the run serves both. -/
theorem frame_kernel : Cert.quiescent_Kernel := fun m ρ _ =>
  (θ_run Cert.KernelIdeal.defs _ _).mono (fun _ h => ⟨fun c => (h.1 c).1, h.2⟩) (run_main (F := Bits) m ρ)

end Cert.Proof

end
-- ==== Proof.Values.lean ====
/- What the blocks of the kernel hold over the extended reals, entry by entry. -/
module

public import proofs.«01_k».proof.Proof.Mem
public import Idealize.ShloMosaic.Lib.ValueIdx
public import Idealize.ShloMosaic.Lib.ValueLayout
public import Idealize.ShloMosaic.Lib.MatmulPlain
public import Idealize.ShloMosaic.PureOps.Ideal.Laws

@[expose] public section

noncomputable section

namespace Cert.Proof

open Cert.KernelIdeal Cert.KernelIdeal.Gen
open Idealize.ShloMosaic Idealize.ShloMosaic.TcCoe Idealize.ShloMosaic.ValueIdx

variable (m : (ℓ : Loc nD τ sig) → Buf (Elt Ideal) ℓ)

/-! ## Places -/

theorem down_ix (r : Fin 256) (j : Fin 8192) :
    Shape.reshapeEquiv squeezes_S1x256x8192_S256x8192.numel_eq (ix2 r j : S256x8192.Idx) = (ix3 0 r j : S1x256x8192.Idx) := by
  apply Shape.reshapeEquiv_eq_of_rowMajor
  rw [Shape.rowMajor_val_three, Shape.rowMajor_val_two]
  show ((0 * 256 + r.val) * 8192 + j.val) = r.val * 8192 + j.val
  omega

theorem up_ix {A : Type} (X : S256x8192.Idx → A) (r : Fin 256) (j : Fin 8192) : up X (ix3 0 r j) = X (ix2 r j) := by
  unfold up
  rw [← down_ix, Equiv.symm_apply_apply]

/-- The device which holds half `d` of chunk `C` before step `u`. -/
def hold (d : Bool) (u : ℕ) (C : Fin 8) : Dev nD := ⟨(C.val + cond d (15 - u) (1 + u)) % 8, Nat.mod_lt _ (by decide)⟩
theorem fr_hold : ∀ (d : Bool) (u : Fin 7) (C : Fin 8), fr d (hold d (u.val + 1) C) = hold d u.val C := by decide

/-- A row of half `d` of chunk `C` in the whole result. -/
def row (d : Bool) (C : Fin 8) (r : Fin 256) : Fin 4096 :=
  ⟨512 * C.val + cond d 256 0 + r.val, by cases d <;> simp only [cond] <;> omega⟩

theorem xO_off : ∀ (d : Bool) (u : Fin 6) (C : Fin 8) (a : Fin 2),
    (xO d u.val (hold d (u.val + 1) C)).off a = ![512 * C.val + cond d 256 0, 0] a := by decide

/-! ## Entries -/

theorem xrows_ix (d : Bool) (u : Fin 6) (C : Fin 8) (r : Fin 256) (k : Fin 512) (e : Dev nD) :
    xrows m (xO d u.val (hold d (u.val + 1) C)) e (ix2 r k) = xs m e (ix2 (row d C r) k) := by
  unfold xrows
  congr 1
  have h0 := xO_off d u C 0
  have h1 := xO_off d u C 1
  funext a
  apply Fin.ext
  match a with
  | ⟨0, _⟩ =>
    show (xO d u.val (hold d (u.val + 1) C)).off 0 + 1 * r.val = _
    rw [h0, one_mul]; rfl
  | ⟨1, _⟩ =>
    show (xO d u.val (hold d (u.val + 1) C)).off 1 + 1 * k.val = _
    rw [h1, one_mul]; show 0 + k.val = k.val; omega

theorem wbf_ix (c : Dev nD) (k : Fin 512) (j : Fin 8192) : wbf m c (ix2 k j) = ws m c (ix2 k j) := by
  have hH : inH (ix2 k j) = ix2 (⟨k.val % 256, Nat.mod_lt _ (by decide)⟩ : Fin 256) j := by
    funext a
    match a with
    | ⟨0, _⟩ => rfl
    | ⟨1, _⟩ => rfl
  unfold wbf k0_pay1
  rw [hH]
  show shapeCast S256x8192 (truncf .bf16 (shapeCast S256x8192 (up (wrow m (hOf (ix2 k j)) c)) _) _) _ (ix2 _ j) = _
  rw [shapeCast_apply _ _ _ (ix2 (⟨k.val % 256, Nat.mod_lt _ (by decide)⟩ : Fin 256) j) rfl]
  show shapeCast S256x8192 (up (wrow m (hOf (ix2 k j)) c)) _ (ix2 _ j) = _
  rw [shapeCast_1ab_ab_apply, up_ix]
  unfold wrow
  congr 1
  funext a
  apply Fin.ext
  match a with
  | ⟨0, _⟩ =>
    show 256 * (k.val / 256) + 1 * (k.val % 256) = k.val
    omega
  | ⟨1, _⟩ => show 0 + 1 * j.val = j.val; omega

theorem mac_ix (acc : S1x256x8192.Idx → Ideal .bf16) (x : S256x512.Idx → Ideal .f32) (w : S512x8192.Idx → Ideal .bf16)
    (r : Fin 256) (j : Fin 8192) :
    mac (F := Ideal) acc x w (ix3 0 r j) = (acc (ix3 0 r j) + ∑ k : Fin 512, x (ix2 r k) * w (ix2 k j) : EReal) := by
  have hS : inS (ix3 0 r j) = ix3 0 r (⟨j.val % 2048, Nat.mod_lt _ (by decide)⟩ : Fin 2048) := by
    funext a
    match a with
    | ⟨0, _⟩ => rfl
    | ⟨1, _⟩ => rfl
    | ⟨2, _⟩ => rfl
  have hk : 2048 * (j.val / 2048) + 1 * (j.val % 2048) = j.val := by omega
  unfold mac k0_pay5
  rw [hS]
  show shapeCast S1x256x2048 _ _ (ix3 0 r _) = _
  rw [shapeCast_ab_1ab_apply]
  rw [truncf_apply, addf_apply, extf_apply, shapeCast_1ab_ab_apply,
    show dot_S256x512_S512x2048_S256x2048_1_0_0_1_n_n = DotDims.plain 256 512 2048 from rfl]
  simp only [matmul]
  rw [Ideal.matmul_plain_apply]
  have h1 : sIx (kOf (ix3 0 r j)) (ix3 0 r (⟨j.val % 2048, Nat.mod_lt _ (by decide)⟩ : Fin 2048)) = (ix3 0 r j : S1x256x8192.Idx) := by
    funext a
    apply Fin.ext
    match a with
    | ⟨0, _⟩ => rfl
    | ⟨1, _⟩ => show 0 + 1 * r.val = r.val; omega
    | ⟨2, _⟩ => exact hk
  have h2 (k : Fin 512) : (wstripR (kOf (ix3 0 r j))).emb (ix2 k (⟨j.val % 2048, Nat.mod_lt _ (by decide)⟩ : Fin 2048)) = (ix2 k j : S512x8192.Idx) := by
    funext a
    apply Fin.ext
    match a with
    | ⟨0, _⟩ => show 0 + 1 * k.val = k.val; omega
    | ⟨1, _⟩ => exact hk
  show (acc (sIx (kOf (ix3 0 r j)) (ix3 0 r _)) + (Ideal.ofBits .f32 0x00000000#32 + ∑ k : Fin 512, x (ix2 r k) * w ((wstripR (kOf (ix3 0 r j))).emb (ix2 k _))) : EReal) = _
  rw [h1, Ideal.ofBits_zero_f32, zero_add]
  simp only [h2]

/-- The part of an entry of the product that device `e` has. -/
def part (e : Dev nD) (i : Fin 4096) (j : Fin 8192) : EReal := ∑ k : Fin 512, (xs m e (ix2 i k) : EReal) * ws m e (ix2 k j)

/-- Before step `u` a chunk's holder has the seed and the parts of the devices passed. -/
theorem cc_ix (d : Bool) (C : Fin 8) (r : Fin 256) (j : Fin 8192) : ∀ u ≤ 6,
    cc m d u (hold d u C) (ix3 0 r j)
      = (sd m d (hold d 0 C) (ix2 r j) + ∑ v ∈ Finset.range u, part m (hold d (v + 1) C) (row d C r) j : EReal)
  | 0, _ => by
    show up (sd m d (hold d 0 C)) (ix3 0 r j) = _
    rw [up_ix, Finset.range_zero, Finset.sum_empty, add_zero]
  | u + 1, h => by
    have ih := cc_ix d C r j u (by omega)
    show mac (F := Ideal) (cc m d u (fr d (hold d (u + 1) C))) (xrows m (xO d u (hold d (u + 1) C)) (hold d (u + 1) C)) (wbf m (hold d (u + 1) C)) (ix3 0 r j) = _
    rw [mac_ix, fr_hold d ⟨u, by omega⟩ C, ih, Finset.sum_range_succ, add_assoc]
    congr 2
    unfold part
    refine Finset.sum_congr rfl fun k _ => ?_
    rw [wbf_ix, xrows_ix m d ⟨u, by omega⟩ C]

end Cert.Proof

end
-- ==== Proof.Quant.lean ====
/- The common scale and the quantised values of the kernel over the extended reals. -/
module

public import proofs.«01_k».proof.Proof.Values
public import Idealize.ShloMosaic.Lib.IdealHost

@[expose] public section

noncomputable section

namespace Cert.Proof

open Cert.KernelIdeal Cert.KernelIdeal.Gen
open Idealize.ShloMosaic Idealize.ShloMosaic.TcCoe Idealize.ShloMosaic.ValueIdx

variable (m : (ℓ : Loc nD τ sig) → Buf (Elt Ideal) ℓ)

/-! ## Numbers -/

abbrev k127 : EReal := Ideal.ofBits .f32 0x42FE0000#32
abbrev n127 : EReal := Ideal.ofBits .f32 0xC2FE0000#32
theorem k127_eq : k127 = ((127 : ℝ) : EReal) := by
  simp [k127, Ideal.ofBits, Ideal.ieee, -EReal.coe_mul]; norm_num
theorem n127_eq : n127 = ((-127 : ℝ) : EReal) := by
  simp [n127, Ideal.ofBits, Ideal.ieee, -EReal.coe_mul, -EReal.coe_neg]; norm_num
theorem bot_eq : Ideal.ofBits .f32 0xFF800000#32 = ⊥ := by simp [Ideal.ofBits, Ideal.ieee]

/-- An entry rounded to a step of the scale and clipped. -/
def quant (y s : EReal) : EReal := min k127 (max n127 (Ideal.liftRound Ideal.roundHalfEven (Ideal.div y s)))

/-- It is an integer of at most 127 in size. -/
theorem quant_int (y s : EReal) : ∃ z : ℤ, -127 ≤ z ∧ z ≤ 127 ∧ quant y s = ((z : ℝ) : EReal) := by
  unfold quant
  rw [k127_eq, n127_eq]
  generalize Ideal.div y s = t
  induction t with
  | bot => exact ⟨-127, by norm_num, by norm_num, by
      rw [Ideal.liftRound_bot, max_eq_left bot_le, ← EReal.coe_strictMono.monotone.map_min]; norm_num⟩
  | top => exact ⟨127, by norm_num, by norm_num, by
      rw [Ideal.liftRound_top, max_eq_right le_top, min_eq_left le_top]; norm_num⟩
  | coe x =>
    refine ⟨min 127 (max (-127) (Ideal.roundHalfEven x)), by omega, by omega, ?_⟩
    rw [Ideal.liftRound_coe, ← EReal.coe_strictMono.monotone.map_max, ← EReal.coe_strictMono.monotone.map_min]
    push_cast
    rfl

/-- So the way through eight bits keeps it. -/
theorem quant_byte (y s : EReal) : (((Ideal.fptosi 8 (quant y s)).toInt : ℝ) : EReal) = quant y s := by
  obtain ⟨z, h1, h2, h⟩ := quant_int y s
  rw [h, Ideal.fptosi, Ideal.toIntClamped_coe, Int.floor_intCast, Int.ceil_intCast, ite_self]
  have e : max (-((2 ^ (8 - 1) : ℕ) : ℤ)) (min (((2 ^ (8 - 1) : ℕ) : ℤ) - 1) z) = z := by
    norm_num
    omega
  rw [e, BitVec.toInt_ofInt]
  congr 2
  rw [Int.bmod_def]
  norm_num
  omega

/-! ## The maximum -/

/-- The size of a number. -/
abbrev mag (y : EReal) : EReal := max y (-y)

theorem fold_sup {ι : Type} [DecidableEq ι] (s : Finset ι) (v : ι → EReal) : s.fold max ⊥ v = s.sup v := by
  induction s using Finset.induction_on with
  | empty => rw [Finset.fold_empty, Finset.sup_empty]
  | insert a s ha ih => rw [Finset.fold_insert ha, Finset.sup_insert, ih]

theorem redmax (v : FVec Ideal S1x256x8192 .f32) (j : S1.Idx) :
    multiReduction (F := Ideal) (φ := .f32) .maximumf [1, 2] S1 v 0xFF800000#32 reduces_S1x256x8192_S1 (.inl rfl) rfl j = (Finset.univ.sup v : EReal) := by
  refine (multiReduction_maximumf_eq_fold (F := Ideal) (φ := .f32) (s := S1x256x8192) (axes := [1, 2]) (t := S1) v 0xFF800000#32 reduces_S1x256x8192_S1 (.inl rfl) rfl j).trans ?_
  have hf : (Finset.univ.filter fun i => reduces_S1x256x8192_S1.drop i = j) = Finset.univ := by
    refine Finset.filter_true_of_mem fun i _ => ?_
    funext a
    match a with
    | ⟨0, _⟩ => exact Fin.ext (by have h1 := (reduces_S1x256x8192_S1.drop i 0).isLt; have h2 := (j 0).isLt; change _ < 1 at h1; change _ < 1 at h2; show (reduces_S1x256x8192_S1.drop i 0).val = (j 0).val; omega)
  rw [hf]
  show Finset.univ.fold max (Ideal.ofBits .f32 0xFF800000#32) v = _
  rw [bot_eq, fold_sup]

theorem pay70_eq (a : S1x256x8192.Idx → EReal) : k0_pay70 (F := Ideal) a = fun i => mag (a i) := by
  funext i
  obtain ⟨r, j, rfl⟩ : ∃ (r : Fin 256) (j : Fin 8192), i = ix3 0 r j := ⟨i 1, i 2, by
    rw [eq_ix3 i]; congr 1; exact Subsingleton.elim (α := Fin 1) _ _⟩
  unfold k0_pay70
  show shapeCast S1x256x8192 _ _ (ix3 0 r j) = _
  rw [shapeCast_ab_1ab_apply]
  show mag (shapeCast S256x8192 a _ (ix2 r j)) = _
  rw [shapeCast_1ab_ab_apply]

/-- The largest size in what device `c` ends with. -/
def top1 (c : Dev nD) : EReal :=
  max (Finset.univ.sup fun i => mag (cc m false 6 c i)) (Finset.univ.sup fun i => mag (cc m true 6 c i))

/-- The maximum of an array over its two long axes, as the kernel takes it. -/
def most {F : FTy → Type} [FloatOps F] (v : FVec F S1x256x8192 .f32) : F .f32 :=
  extractAt ![0, 0, 0] (shapeCast S1x1x1 (multiReduction .maximumf [1, 2] S1 v 0xFF800000#32 reduces_S1x256x8192_S1 (.inl rfl) rfl) shapeCasts_S1_S1x1x1) inpos_S1x1x1_p0_0_0
theorem pay71_form {F : FTy → Type} [FloatOps F] (a : FVec F S1x256x8192 .f32) (b : Vec F S1x256x8192 .bf16) :
    k0_pay71 a b = Scalar.maximumf (most a) (most (k0_pay70 b)) := rfl
theorem most_eq (v : S1x256x8192.Idx → EReal) : most (F := Ideal) v = Finset.univ.sup v := by
  unfold most extractAt shapeCast
  exact redmax v _
theorem max_eq (x y : EReal) : Scalar.maximumf (F := Ideal) (φ := .f32) x y = max x y := rfl

theorem sacc_zero (c : Dev nD) : sacc m 0 c = top1 m c := by
  unfold sacc top1
  rw [pay71_form, most_eq, most_eq, max_eq, pay70_eq, pay70_eq]

theorem sacc_succ (h : ℕ) (c : Dev nD) : sacc m (h + 1) c = (max (sacc m h c) (sacc m h (fr false c)) : EReal) := rfl

/-- The largest size of all. -/
def top : EReal := Finset.univ.sup (top1 m)

theorem sacc_le : ∀ (h : ℕ) (c : Dev nD), (sacc m h c : EReal) ≤ top m
  | 0, c => by rw [sacc_zero]; exact Finset.le_sup (Finset.mem_univ c)
  | h + 1, c => by rw [sacc_succ]; exact max_le (sacc_le h c) (sacc_le h _)

theorem le_sacc : ∀ (h v : ℕ) (c : Dev nD), v ≤ h → top1 m ⟨(c.val + 7 * v) % 8, Nat.mod_lt _ (by decide)⟩ ≤ (sacc m h c : EReal)
  | 0, v, c, hv => by
    obtain rfl : v = 0 := by omega
    rw [sacc_zero]
    refine le_of_eq (congrArg (top1 m) (Fin.ext ?_))
    have h : c.val < 8 := c.isLt
    show (c.val + 7 * 0) % 8 = c.val
    omega
  | h + 1, v, c, hv => by
    rw [sacc_succ]
    by_cases hh : v ≤ h
    · exact (le_sacc h v c hh).trans (le_max_left _ _)
    · refine le_trans (le_of_eq (congrArg (top1 m) (Fin.ext ?_))) ((le_sacc h h (fr false c) le_rfl).trans (le_max_right _ _))
      show (c.val + 7 * v) % 8 = ((c.val + 7) % 8 + 7 * h) % 8
      omega

theorem sacc_seven (c : Dev nD) : (sacc m 7 c : EReal) = top m := by
  refine le_antisymm (sacc_le m 7 c) (Finset.sup_le fun e _ => ?_)
  have hc : c.val < 8 := c.isLt
  have he : e.val < 8 := e.isLt
  refine le_trans (le_of_eq (congrArg (top1 m) (Fin.ext ?_))) (le_sacc m 7 ((c.val + 8 - e.val) % 8) c (by omega))
  show e.val = (c.val + 7 * ((c.val + 8 - e.val) % 8)) % 8
  omega

theorem scale_eq (c : Dev nD) : scale m c = Ideal.div (top m) k127 := by
  rw [← sacc_seven m c]; rfl

/-! ## The result -/

/-- The device whose block comes to `c` after `h` steps. -/
def back (d : Bool) (h : ℕ) (c : Dev nD) : Dev nD := ⟨(c.val + h * cond d 1 7) % 8, Nat.mod_lt _ (by decide)⟩
theorem qq_back (d : Bool) : ∀ (h : ℕ) (c : Dev nD), qq m d h c = k0_pay88 (F := Ideal) (scale m (back d h c)) (cc m d 6 (back d h c))
  | 0, c => by
    have e : back d 0 c = c := Fin.ext (by have h : c.val < 8 := c.isLt; show (c.val + 0 * cond d 1 7) % 8 = c.val; omega)
    rw [e]; rfl
  | h + 1, c => by
    have e : back d h (fr d c) = back d (h + 1) c := Fin.ext (by
      cases d
      · show ((c.val + 7) % 8 + h * 7) % 8 = (c.val + (h + 1) * 7) % 8; omega
      · show ((c.val + 1) % 8 + h * 1) % 8 = (c.val + (h + 1) * 1) % 8; omega)
    rw [← e]; exact qq_back d h (fr d c)

theorem pay88_ix (s : EReal) (a : S1x256x8192.Idx → EReal) (r : Fin 256) (j : Fin 8192) :
    k0_pay88 (F := Ideal) s a (ix3 0 r j) = Ideal.fptosi 8 (quant (a (ix3 0 r j)) s) := by
  unfold k0_pay88
  show shapeCast S1x256x8192 _ _ (ix3 0 r j) = _
  rw [shapeCast_ab_1ab_apply]
  show Ideal.fptosi 8 (quant (shapeCast S256x8192 a _ (ix2 r j)) s) = _
  rw [shapeCast_1ab_ab_apply]

theorem pay91_ix (s : EReal) (q : S1x256x8192.Idx → BitVec 8) (r : Fin 256) (j : Fin 8192) :
    k0_pay91 (F := Ideal) s q (ix3 0 r j) = ((((q (ix3 0 r j)).toInt : ℝ) : EReal) * s : EReal) := by
  unfold k0_pay91
  show shapeCast S1x256x8192 _ _ (ix3 0 r j) = _
  rw [shapeCast_ab_1ab_apply]
  show ((((shapeCast S256x8192 q _ (ix2 r j)).toInt : ℝ) : EReal) * s : EReal) = _
  rw [shapeCast_1ab_ab_apply]

/-- Every device's result is the quantised sum, times the scale. -/
theorem outV_ix (c : Dev nD) (d : Bool) (C : Fin 8) (r : Fin 256) (j : Fin 8192) :
    outV m c (ix2 (row d C r) j)
      = (quant (cc m d 6 (hold d 6 C) (ix3 0 r j)) (Ideal.div (top m) k127) * Ideal.div (top m) k127 : EReal) := by
  have hd : dOf (ix2 (row d C r) j) = d := by
    unfold dOf
    cases d
    · exact decide_eq_false (by show ¬ (512 * C.val + 0 + r.val) / 256 % 2 = 1; omega)
    · exact decide_eq_true (by show (512 * C.val + 256 + r.val) / 256 % 2 = 1; omega)
  have hb : back d (bOf c (ix2 (row d C r) j)) c = hold d 6 C := by
    unfold bOf
    rw [hd]
    have hc : c.val < 8 := c.isLt
    have hC := C.isLt
    apply Fin.ext
    cases d
    · show (c.val + (c.val + 9 - (512 * C.val + 0 + r.val) / 512) % 8 * 7) % 8 = (C.val + 7) % 8
      omega
    · show (c.val + ((512 * C.val + 256 + r.val) / 512 + 9 - c.val) % 8 * 1) % 8 = (C.val + 9) % 8
      omega
  have hi : inB (ix2 (row d C r) j) = ix2 r j := by
    funext a
    apply Fin.ext
    match a with
    | ⟨0, _⟩ =>
      cases d
      · show (512 * C.val + 0 + r.val) % 256 = r.val; omega
      · show (512 * C.val + 256 + r.val) % 256 = r.val; omega
    | ⟨1, _⟩ => rfl
  unfold outV deq
  rw [hd, hi, down_ix, pay91_ix, qq_back, hb, pay88_ix, scale_eq, scale_eq, quant_byte]

end Cert.Proof

end
-- ==== Proof.RefValue.lean ====
/- What the reference returns over the extended reals, entry by entry. -/
module

public import proofs.«01_k».proof.Proof.Quant
public import proofs.«01_k».proof.Proof.Gen.ReferenceIdeal.Run
public import Idealize.ShloMosaic.Lib.StackMember
public import Idealize.ShloMosaic.Lib.Pipeline.Value

@[expose] public section

noncomputable section

namespace Cert.Proof.Ref

open Cert.ReferenceIdeal Cert.ReferenceIdeal.Gen
open Idealize.ShloMosaic Idealize.ShloMosaic.TcCoe Idealize.ShloMosaic.ValueIdx

/-! ## The pieces of the reference -/

/-- The sums of the first halves, each moved to the chunk it belongs to. -/
def turnA (a : FVec Ideal S2048x8192 .bf16) : FVec Ideal S8x256x8192 .f32 :=
  concatenate S8x256x8192 0 [⟨S7x256x8192, extractStridedSlice S7x256x8192 ![1, 0, 0] (shapeCast _ (extf .f32 a bitsLt_bf16_f32) shapeCasts_S2048x8192_S8x256x8192) slices_S8x256x8192_S7x256x8192_1_0_0⟩, ⟨S1x256x8192, extractStridedSlice S1x256x8192 ![0, 0, 0] (shapeCast _ (extf .f32 a bitsLt_bf16_f32) shapeCasts_S2048x8192_S8x256x8192) slices_S8x256x8192_S1x256x8192_0_0_0⟩] concatenates_S7x256x8192_S1x256x8192_S8x256x8192_d0
/-- And of the second halves. -/
def turnB (b : FVec Ideal S2048x8192 .bf16) : FVec Ideal S8x256x8192 .f32 :=
  concatenate S8x256x8192 0 [⟨S1x256x8192, extractStridedSlice S1x256x8192 ![7, 0, 0] (shapeCast _ (extf .f32 b bitsLt_bf16_f32) shapeCasts_S2048x8192_S8x256x8192) slices_S8x256x8192_S1x256x8192_7_0_0⟩, ⟨S7x256x8192, extractStridedSlice S7x256x8192 ![0, 0, 0] (shapeCast _ (extf .f32 b bitsLt_bf16_f32) shapeCasts_S2048x8192_S8x256x8192) slices_S8x256x8192_S7x256x8192_0_0_0⟩] concatenates_S1x256x8192_S7x256x8192_S8x256x8192_d0
/-- Both, as rows of the whole. -/
def stacked (p q : FVec Ideal S8x256x8192 .f32) : FVec Ideal S4096x8192 .f32 :=
  shapeCast _ (concatenate S8x2x256x8192 1 [⟨S8x1x256x8192, broadcastInDim S8x1x256x8192 ![0, 2, 3] bcast_S8x256x8192_S8x1x256x8192_0_2_3 p⟩, ⟨S8x1x256x8192, broadcastInDim S8x1x256x8192 ![0, 2, 3] bcast_S8x256x8192_S8x1x256x8192_0_2_3 q⟩] concatenates_S8x1x256x8192_S8x1x256x8192_S8x2x256x8192_d1) shapeCasts_S8x2x256x8192_S4096x8192
/-- How far a device lies behind the chunk, around the ring. -/
def far : IVec S8x2x8 32 :=
  select (cmpi .eq (iotaInDim S8x2x8 32 1) (broadcastInDim S8x2x8 ![] bcast_S_S8x2x8 (constantI S_ 32 0#32))) (subi (iotaInDim S8x2x8 32 2) (iotaInDim S8x2x8 32 0)) (subi (iotaInDim S8x2x8 32 0) (iotaInDim S8x2x8 32 2))
/-- Whether the device's product is in the sums already. -/
def done : IVec S8x2x8 1 :=
  ori (ori (cmpi .eq far (broadcastInDim S8x2x8 ![] bcast_S_S8x2x8 (constantI S_ 32 0#32))) (cmpi .eq far (broadcastInDim S8x2x8 ![] bcast_S_S8x2x8 (constantI S_ 32 1#32)))) (cmpi .eq far (broadcastInDim S8x2x8 ![] bcast_S_S8x2x8 (constantI S_ 32 4294967289#32)))
/-- The left factor without those. -/
def masked (x : FVec Ideal S4096x4096 .f32) : FVec Ideal S4096x4096 .f32 :=
  shapeCast _ (select (broadcastInDim S8x2x256x8x512 ![0, 1, 2, 3, 4] bcast_S8x2x1x8x1_S8x2x256x8x512_0_1_2_3_4 (broadcastInDim S8x2x1x8x1 ![0, 1, 3] bcast_S8x2x8_S8x2x1x8x1_0_1_3 done)) (broadcastInDim S8x2x256x8x512 ![] bcast_S_S8x2x256x8x512 (id (constant S_ .f32 0x00000000#32))) (shapeCast _ x shapeCasts_S4096x4096_S8x2x256x8x512)) shapeCasts_S8x2x256x8x512_S4096x4096
/-- The whole sum. -/
def whole (x : FVec Ideal S4096x4096 .f32) (w : FVec Ideal S4096x8192 .f32) (a b : FVec Ideal S2048x8192 .bf16) : FVec Ideal S4096x8192 .f32 :=
  addf (stacked (turnA a) (turnB b)) (Host.dotGeneral dot_S4096x4096_S4096x8192_S4096x8192_1_0_0_1_n_n none (masked x) w)
/-- Its scale. -/
def step (y : FVec Ideal S4096x8192 .f32) : FVec Ideal S_ .f32 :=
  Host.divf (Host.reduce FloatOps.maximumf (Host.absf y) (constant S_ .f32 0xFF800000#32) reducesTo_S4096x8192_S_d0_1 h_S_) (constant S_ .f32 0x42FE0000#32)
/-- And the sum in steps of it. -/
def graded (y : FVec Ideal S4096x8192 .f32) : FVec Ideal S4096x8192 .f32 :=
  mulf (minimumf (broadcastInDim S4096x8192 ![] bcast_S_S4096x8192 (id (constant S_ .f32 0x42FE0000#32))) (maximumf (broadcastInDim S4096x8192 ![] bcast_S_S4096x8192 (id (constant S_ .f32 0xC2FE0000#32))) (Host.roundeven (Host.divf y (broadcastInDim S4096x8192 ![] bcast_S_S4096x8192 (step y)))))) (broadcastInDim S4096x8192 ![] bcast_S_S4096x8192 (step y))

theorem res_form (m : (ℓ : Loc nD τ sig) → Buf (Elt Ideal) ℓ) (c : Dev nD) :
    Value.res_out0 m c = graded (whole (m ((c.tc : Thread nD τ).loc main_arg0)) (m ((c.tc : Thread nD τ).loc main_arg1)) (m ((c.tc : Thread nD τ).loc main_arg2)) (m ((c.tc : Thread nD τ).loc main_arg3))) := by
  unfold Value.res_out0 Value.res_main_v44
  rfl

/-! ## The sums given -/

/-- The place of a row among the eight blocks of sums. -/
def seat (e : Fin 8) (r : Fin 256) : Fin 2048 := ⟨256 * e.val + r.val, by omega⟩
theorem blocks_ix (a : FVec Ideal S2048x8192 .bf16) (e : Fin 8) (r : Fin 256) (j : Fin 8192) :
    shapeCast S8x256x8192 (extf .f32 a bitsLt_bf16_f32) shapeCasts_S2048x8192_S8x256x8192 (ix3 e r j) = (a (ix2 (seat e r) j) : EReal) := by
  rw [shapeCast_apply _ _ _ (ix2 (seat e r) j)]
  · rfl
  · rw [Shape.rowMajor_val_three, Shape.rowMajor_val_two]
    show (256 * e.val + r.val) * 8192 + j.val = (e.val * 256 + r.val) * 8192 + j.val
    omega

theorem turnA_ix (a : FVec Ideal S2048x8192 .bf16) (C : Fin 8) (r : Fin 256) (j : Fin 8192) :
    turnA a (ix3 C r j) = (a (ix2 (seat (hold false 0 C) r) j) : EReal) := by
  unfold turnA
  by_cases hC : C.val < 7
  · rw [concatenate_pair_apply_left (s₁ := S7x256x8192) (s₂ := S1x256x8192) 0 _ _ _ (ix3 C r j) rfl (ix3 (⟨C.val, hC⟩ : Fin 7) r j) (fun b => match b with | ⟨0, _⟩ => rfl | ⟨1, _⟩ => rfl | ⟨2, _⟩ => rfl)]
    rw [extractStridedSlice_apply _ _ _ _ (ix3 (hold false 0 C : Fin 8) r j), blocks_ix]
    intro b
    match b with
    | ⟨0, _⟩ => show (C.val + 1) % 8 = 1 + C.val; omega
    | ⟨1, _⟩ => show r.val = 0 + r.val; omega
    | ⟨2, _⟩ => show j.val = 0 + j.val; omega
  · rw [concatenate_pair_apply_right (s₁ := S7x256x8192) (s₂ := S1x256x8192) 0 _ _ _ (ix3 C r j) rfl rfl (ix3 (0 : Fin 1) r j)
      (fun b hb => match b, hb with | ⟨0, _⟩, hb => absurd rfl hb | ⟨1, _⟩, _ => rfl | ⟨2, _⟩, _ => rfl)
      (by show 0 + 7 = C.val; omega)]
    rw [extractStridedSlice_apply _ _ _ _ (ix3 (hold false 0 C : Fin 8) r j), blocks_ix]
    intro b
    match b with
    | ⟨0, _⟩ => show (C.val + 1) % 8 = 0 + 0; omega
    | ⟨1, _⟩ => show r.val = 0 + r.val; omega
    | ⟨2, _⟩ => show j.val = 0 + j.val; omega

theorem turnB_ix (a : FVec Ideal S2048x8192 .bf16) (C : Fin 8) (r : Fin 256) (j : Fin 8192) :
    turnB a (ix3 C r j) = (a (ix2 (seat (hold true 0 C) r) j) : EReal) := by
  unfold turnB
  by_cases hC : C.val < 1
  · rw [concatenate_pair_apply_left (s₁ := S1x256x8192) (s₂ := S7x256x8192) 0 _ _ _ (ix3 C r j) rfl (ix3 (⟨C.val, hC⟩ : Fin 1) r j) (fun b => match b with | ⟨0, _⟩ => rfl | ⟨1, _⟩ => rfl | ⟨2, _⟩ => rfl)]
    rw [extractStridedSlice_apply _ _ _ _ (ix3 (hold true 0 C : Fin 8) r j), blocks_ix]
    intro b
    match b with
    | ⟨0, _⟩ => show (C.val + 15) % 8 = 7 + C.val; omega
    | ⟨1, _⟩ => show r.val = 0 + r.val; omega
    | ⟨2, _⟩ => show j.val = 0 + j.val; omega
  · rw [concatenate_pair_apply_right (s₁ := S1x256x8192) (s₂ := S7x256x8192) 0 _ _ _ (ix3 C r j) rfl rfl (ix3 (⟨C.val - 1, by omega⟩ : Fin 7) r j)
      (fun b hb => match b, hb with | ⟨0, _⟩, hb => absurd rfl hb | ⟨1, _⟩, _ => rfl | ⟨2, _⟩, _ => rfl)
      (by show C.val - 1 + 1 = C.val; omega)]
    rw [extractStridedSlice_apply _ _ _ _ (ix3 (hold true 0 C : Fin 8) r j), blocks_ix]
    intro b
    match b with
    | ⟨0, _⟩ => show (C.val + 15) % 8 = 0 + (C.val - 1); omega
    | ⟨1, _⟩ => show r.val = 0 + r.val; omega
    | ⟨2, _⟩ => show j.val = 0 + j.val; omega

/-- A half, by its number. -/
def half (d : Bool) : Fin 2 := cond d 1 0

theorem stacked_ix (p q : FVec Ideal S8x256x8192 .f32) (d : Bool) (C : Fin 8) (r : Fin 256) (j : Fin 8192) :
    stacked p q (ix2 (row d C r) j) = cond d (q (ix3 C r j)) (p (ix3 C r j)) := by
  unfold stacked
  rw [shapeCast_apply _ _ _ (ix4 C (half d) r j)]
  swap
  · rw [Shape.rowMajor_val_four, Shape.rowMajor_val_two]
    cases d
    · show ((C.val * 2 + 0) * 256 + r.val) * 8192 + j.val = (512 * C.val + 0 + r.val) * 8192 + j.val
      omega
    · show ((C.val * 2 + 1) * 256 + r.val) * 8192 + j.val = (512 * C.val + 256 + r.val) * 8192 + j.val
      omega
  cases d
  · rw [concatenate_pair_apply_left (s₁ := S8x1x256x8192) (s₂ := S8x1x256x8192) 1 _ _ _ (ix4 C (half false) r j) rfl (ix4 C (0 : Fin 1) r j)
      (fun b => match b with | ⟨0, _⟩ => rfl | ⟨1, _⟩ => rfl | ⟨2, _⟩ => rfl | ⟨3, _⟩ => rfl)]
    exact broadcastInDim_apply _ _ _ _ (ix3 C r j) (fun b => match b with | ⟨0, _⟩ => rfl | ⟨1, _⟩ => rfl | ⟨2, _⟩ => rfl)
  · rw [concatenate_pair_apply_right (s₁ := S8x1x256x8192) (s₂ := S8x1x256x8192) 1 _ _ _ (ix4 C (half true) r j) rfl rfl (ix4 C (0 : Fin 1) r j)
      (fun b hb => match b, hb with | ⟨0, _⟩, _ => rfl | ⟨1, _⟩, hb => absurd rfl hb | ⟨2, _⟩, _ => rfl | ⟨3, _⟩, _ => rfl) rfl]
    exact broadcastInDim_apply _ _ _ _ (ix3 C r j) (fun b => match b with | ⟨0, _⟩ => rfl | ⟨1, _⟩ => rfl | ⟨2, _⟩ => rfl)

/-! ## The product -/

/-- A column of device `e`. -/
def col (e : Fin 8) (k : Fin 512) : Fin 4096 := ⟨512 * e.val + k.val, by omega⟩
theorem sum_cols (f : Fin 4096 → EReal) : ∑ t, f t = ∑ e : Fin 8, ∑ k : Fin 512, f (col e k) := by
  rw [← Fintype.sum_prod_type' (fun e k => f (col e k))]
  refine (Equiv.sum_comp (finProdFinEquiv : Fin 8 × Fin 512 ≃ Fin (8 * 512)) f).symm.trans (Fintype.sum_congr _ _ fun p => congrArg f (Fin.ext ?_))
  show p.2.val + 512 * p.1.val = 512 * p.1.val + p.2.val
  omega

theorem done_ix : ∀ (d : Bool) (C e : Fin 8), done (ix3 C (half d) e) = if e ∈ (Finset.range 6).image (fun v => (hold d (v + 1) C : Fin 8)) then 0#1 else 1#1 := by
  decide

theorem left_inj : ∀ (d : Bool) (C : Fin 8) (v w : Fin 6), hold d (v.val + 1) C = hold d (w.val + 1) C → v = w := by decide

theorem masked_ix (x : FVec Ideal S4096x4096 .f32) (d : Bool) (C : Fin 8) (r : Fin 256) (e : Fin 8) (k : Fin 512) :
    masked x (ix2 (row d C r) (col e k))
      = if e ∈ (Finset.range 6).image (fun v => (hold d (v + 1) C : Fin 8)) then (x (ix2 (row d C r) (col e k)) : EReal) else 0 := by
  have hk : (S8x2x256x8x512.rowMajor (ix5 C (half d) r e k)).val = (S4096x4096.rowMajor (ix2 (row d C r) (col e k))).val := by
    rw [Shape.rowMajor_val_five, Shape.rowMajor_val_two]
    cases d
    · show (((C.val * 2 + 0) * 256 + r.val) * 8 + e.val) * 512 + k.val = (512 * C.val + 0 + r.val) * 4096 + (512 * e.val + k.val)
      omega
    · show (((C.val * 2 + 1) * 256 + r.val) * 8 + e.val) * 512 + k.val = (512 * C.val + 256 + r.val) * 4096 + (512 * e.val + k.val)
      omega
  unfold masked
  rw [shapeCast_apply _ _ _ (ix5 C (half d) r e k) hk, select_apply, shapeCast_apply x _ _ (ix2 (row d C r) (col e k)) hk.symm]
  rw [broadcastInDim_apply _ _ _ _ (ix5 C (half d) (0 : Fin 1) e (0 : Fin 1)) (fun b => match b with | ⟨0, _⟩ => rfl | ⟨1, _⟩ => rfl | ⟨2, _⟩ => rfl | ⟨3, _⟩ => rfl | ⟨4, _⟩ => rfl)]
  rw [broadcastInDim_apply _ _ _ _ (ix3 C (half d) e) (fun b => match b with | ⟨0, _⟩ => rfl | ⟨1, _⟩ => rfl | ⟨2, _⟩ => rfl)]
  rw [done_ix]
  have hz : broadcastInDim S8x2x256x8x512 ![] bcast_S_S8x2x256x8x512 (id (constant (F := Ideal) S_ .f32 0x00000000#32)) (ix5 C (half d) r e k) = (0 : EReal) := by
    show Ideal.ofBits .f32 0x00000000#32 = 0
    simp [Ideal.ofBits, Ideal.ieee]
  rw [hz]
  unfold Scalar.select
  by_cases h : e ∈ (Finset.range 6).image (fun v => (hold d (v + 1) C : Fin 8))
  · rw [if_pos h, if_pos h]; exact if_neg (by decide)
  · rw [if_neg h, if_neg h]; exact if_pos rfl

theorem whole_ix (x : FVec Ideal S4096x4096 .f32) (w : FVec Ideal S4096x8192 .f32) (a b : FVec Ideal S2048x8192 .bf16)
    (d : Bool) (C : Fin 8) (r : Fin 256) (j : Fin 8192) :
    whole x w a b (ix2 (row d C r) j)
      = ((cond d b a) (ix2 (seat (hold d 0 C) r) j) : EReal)
        + ∑ v ∈ Finset.range 6, ∑ k : Fin 512, (x (ix2 (row d C r) (col (hold d (v + 1) C) k)) * w (ix2 (col (hold d (v + 1) C) k) j) : EReal) := by
  have hs : stacked (turnA a) (turnB b) (ix2 (row d C r) j) = ((cond d b a) (ix2 (seat (hold d 0 C) r) j) : EReal) := by
    rw [stacked_ix]
    cases d
    · exact turnA_ix a C r j
    · exact turnB_ix b C r j
  unfold whole
  rw [addf_apply, hs, show dot_S4096x4096_S4096x8192_S4096x8192_1_0_0_1_n_n = DotDims.plain 4096 4096 8192 from rfl,
    StackMember.dotGeneral_plain_apply, sum_cols]
  congr 1
  have hm : ∀ e : Fin 8, ∑ k : Fin 512, (masked x (ix2 (row d C r) (col e k)) * w (ix2 (col e k) j) : EReal)
      = if e ∈ (Finset.range 6).image (fun v => (hold d (v + 1) C : Fin 8)) then ∑ k : Fin 512, (x (ix2 (row d C r) (col e k)) * w (ix2 (col e k) j) : EReal) else 0 := by
    intro e
    by_cases h : e ∈ (Finset.range 6).image (fun v => (hold d (v + 1) C : Fin 8))
    · rw [if_pos h]
      refine Finset.sum_congr rfl fun k _ => ?_
      rw [masked_ix, if_pos h]
    · rw [if_neg h]
      refine Finset.sum_eq_zero fun k _ => ?_
      rw [masked_ix, if_neg h, zero_mul]
  rw [Finset.sum_congr rfl fun e _ => hm e, Finset.sum_ite_mem, Finset.univ_inter, Finset.sum_image]
  intro v hv u hu h
  have := left_inj d C ⟨v, Finset.mem_range.mp hv⟩ ⟨u, Finset.mem_range.mp hu⟩ h
  exact congrArg Fin.val this

/-! ## The scale and the result -/

theorem step_ix (y : FVec Ideal S4096x8192 .f32) (i : S_.Idx) :
    step y i = Ideal.div (Finset.univ.sup fun t => mag (y t)) k127 := by
  have e := Host.reduce_eq_fold (FloatOps.maximumf (F := Ideal) (φ := .f32)) (Host.absf y) (constant S_ .f32 0xFF800000#32) reducesTo_S4096x8192_S_d0_1 h_S_ i
  have hf : (Finset.univ.filter fun t => reducesTo_S4096x8192_S_d0_1.drop t = i) = Finset.univ :=
    Finset.filter_true_of_mem fun t _ => funext fun a => a.elim0
  rw [hf] at e
  have e2 : Host.reduce (FloatOps.maximumf (F := Ideal) (φ := .f32)) (Host.absf y) (constant S_ .f32 0xFF800000#32) reducesTo_S4096x8192_S_d0_1 h_S_ i = (Finset.univ.sup fun t => mag (y t) : EReal) := by
    refine e.trans ?_
    show Finset.univ.fold max (Ideal.ofBits .f32 0xFF800000#32) (fun t => mag (y t)) = _
    rw [bot_eq, fold_sup]
  unfold step
  rw [hostDivf_apply, e2]
  rfl

theorem graded_ix (y : FVec Ideal S4096x8192 .f32) (i : S4096x8192.Idx) :
    graded y i = (quant (y i) (Ideal.div (Finset.univ.sup fun t => mag (y t)) k127) * Ideal.div (Finset.univ.sup fun t => mag (y t)) k127 : EReal) := by
  have h : graded y i = (quant (y i) (step y ix0) * step y ix0 : EReal) := by
    unfold graded
    rw [mulf_apply, minimumf_apply, maximumf_apply, broadcastInDim_scalar_apply, broadcastInDim_scalar_apply, broadcastInDim_scalar_apply]
    unfold quant
    rw [← broadcastInDim_scalar_apply bcast_S_S4096x8192 (step y) i]
    rfl
  rw [h, step_ix]

end Cert.Proof.Ref

end
-- ==== Proof.Equal.lean ====
/- The kernel's results are the reference's, over the extended reals. -/
module

public import proofs.«01_k».proof.Proof.RefValue
public import proofs.«01_k».proof.Proof.Frames
public import Idealize.ShloMosaic.Lib.Layout

@[expose] public section

noncomputable section

namespace Cert.Proof

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)
variable (X : FVec Ideal Cert.ReferenceIdeal.S4096x4096 .f32) (W : FVec Ideal Cert.ReferenceIdeal.S4096x8192 .f32)
  (A B : FVec Ideal Cert.ReferenceIdeal.S2048x8192 .bf16)

/-- The devices' arguments are the blocks of whole arrays. -/
structure Cut : Prop where
  x : ∀ c : Dev nD, xs m c = Layout.block ⟨2, ![4096, 512]⟩ ⟨2, ![4096, 4096]⟩ 1 8 c X
  w : ∀ c : Dev nD, ws m c = Layout.block ⟨2, ![512, 8192]⟩ ⟨2, ![4096, 8192]⟩ 0 8 c W
  a : ∀ c : Dev nD, sd m false c = Layout.block ⟨2, ![256, 8192]⟩ ⟨2, ![2048, 8192]⟩ 0 8 c A
  b : ∀ c : Dev nD, sd m true c = Layout.block ⟨2, ![256, 8192]⟩ ⟨2, ![2048, 8192]⟩ 0 8 c B

variable {m X W A B}

namespace Cut

variable (h : Cut m X W A B)
include h

theorem x_ix (c : Dev nD) (i : Fin 4096) (k : Fin 512) : xs m c (ix2 i k) = (X (ix2 i (Ref.col c k)) : EReal) := by
  rw [h.x c, Layout.block_apply]
  congr 1
  funext a
  apply Fin.ext
  match a with
  | ⟨0, _⟩ => rfl
  | ⟨1, _⟩ => show c.val * 512 + k.val = 512 * c.val + k.val; omega

theorem w_ix (c : Dev nD) (k : Fin 512) (j : Fin 8192) : ws m c (ix2 k j) = (W (ix2 (Ref.col c k) j) : EReal) := by
  rw [h.w c, Layout.block_apply]
  congr 1
  funext a
  apply Fin.ext
  match a with
  | ⟨0, _⟩ => show c.val * 512 + k.val = 512 * c.val + k.val; omega
  | ⟨1, _⟩ => rfl

theorem s_ix (d : Bool) (c : Dev nD) (r : Fin 256) (j : Fin 8192) :
    sd m d c (ix2 r j) = ((cond d B A) (ix2 (Ref.seat c r) j) : EReal) := by
  cases d
  · rw [h.a c, Layout.block_apply]
    show A _ = A _
    congr 1
    funext a
    apply Fin.ext
    match a with
    | ⟨0, _⟩ => show c.val * 256 + r.val = 256 * c.val + r.val; omega
    | ⟨1, _⟩ => rfl
  · rw [h.b c, Layout.block_apply]
    show B _ = B _
    congr 1
    funext a
    apply Fin.ext
    match a with
    | ⟨0, _⟩ => show c.val * 256 + r.val = 256 * c.val + r.val; omega
    | ⟨1, _⟩ => rfl

theorem entry (d : Bool) (C : Fin 8) (r : Fin 256) (j : Fin 8192) :
    cc m d 6 (hold d 6 C) (ix3 0 r j) = (Ref.whole X W A B (ix2 (row d C r) j) : EReal) := by
  rw [cc_ix m d C r j 6 le_rfl, Ref.whole_ix, h.s_ix]
  congr 1
  refine Finset.sum_congr rfl fun v _ => Finset.sum_congr rfl fun k _ => ?_
  rw [h.x_ix, h.w_ix]

end Cut

theorem row_all (i : Fin 4096) : ∃ (d : Bool) (C : Fin 8) (r : Fin 256), i = row d C r := by
  by_cases hd : i.val / 256 % 2 = 1
  · exact ⟨true, ⟨i.val / 512, by omega⟩, ⟨i.val % 256, by omega⟩, Fin.ext (by
      show i.val = 512 * (i.val / 512) + 256 + i.val % 256; omega)⟩
  · exact ⟨false, ⟨i.val / 512, by omega⟩, ⟨i.val % 256, by omega⟩, Fin.ext (by
      show i.val = 512 * (i.val / 512) + 0 + i.val % 256; omega)⟩

theorem hold_all : ∀ (d : Bool) (e : Fin 8), ∃ C : Fin 8, e = hold d 6 C := by decide

theorem block_all (i : S1x256x8192.Idx) : ∃ (r : Fin 256) (j : Fin 8192), i = ix3 0 r j := ⟨i 1, i 2, by
  rw [eq_ix3 i]; congr 1; exact Subsingleton.elim (α := Fin 1) _ _⟩

theorem Cut.top_eq (h : Cut m X W A B) : top m = Finset.univ.sup fun t => mag (Ref.whole X W A B t) := by
  apply le_antisymm
  · have hd : ∀ (d : Bool) (e : Dev nD), (Finset.univ.sup fun i => mag (cc m d 6 e i)) ≤ Finset.univ.sup fun t => mag (Ref.whole X W A B t) := by
      intro d e
      refine Finset.sup_le fun i _ => ?_
      obtain ⟨r, j, rfl⟩ := block_all i
      obtain ⟨C, rfl⟩ := hold_all d e
      rw [h.entry]
      exact Finset.le_sup (f := fun t => mag (Ref.whole X W A B t)) (Finset.mem_univ _)
    exact Finset.sup_le fun e _ => max_le (hd false e) (hd true e)
  · refine Finset.sup_le fun t _ => ?_
    obtain ⟨i, j, rfl⟩ : ∃ (i : Fin 4096) (j : Fin 8192), t = ix2 i j := ⟨t 0, t 1, eq_ix2 t⟩
    obtain ⟨d, C, r, rfl⟩ := row_all i
    rw [← h.entry]
    have h1 : mag (cc m d 6 (hold d 6 C) (ix3 0 r j)) ≤ Finset.univ.sup fun i => mag (cc m d 6 (hold d 6 C) i) :=
      Finset.le_sup (f := fun i => mag (cc m d 6 (hold d 6 C) i)) (Finset.mem_univ _)
    have h2 : (Finset.univ.sup fun i => mag (cc m d 6 (hold d 6 C) i)) ≤ top1 m (hold d 6 C) := by
      cases d
      · exact le_max_left _ _
      · exact le_max_right _ _
    exact (h1.trans h2).trans (Finset.le_sup (Finset.mem_univ _))

theorem Cut.out_eq (h : Cut m X W A B) (c : Dev nD) : outV m c = Ref.graded (Ref.whole X W A B) := by
  funext t
  obtain ⟨i, j, rfl⟩ : ∃ (i : Fin 4096) (j : Fin 8192), t = ix2 i j := ⟨t 0, t 1, eq_ix2 t⟩
  obtain ⟨d, C, r, rfl⟩ := row_all i
  rw [outV_ix, Ref.graded_ix, h.entry, h.top_eq]

theorem equal : algebraic_KernelIdeal_ReferenceIdeal (hKernelIdeal := Cert.KernelIdeal.Gen.facts) (hReferenceIdeal := Cert.ReferenceIdeal.Gen.facts) := by
  intro m g m' g' _ H
  have h : Cut m _ _ _ _ := ⟨fun c => (H c).1, fun c => (H c).2.1, fun c => (H c).2.2.1, fun c => (H c).2.2.2⟩
  refine ⟨Cert.ReferenceIdeal.Value.res_out0 m' 0, (θ_run _ _ _).mono (fun r hr c => ?_) (run_main m g),
    (θ_run _ _ _).mono (fun r hr => hr 0) (Cert.ReferenceIdeal.Value.run m' g')⟩
  have hc := hr.1 c
  refine ⟨?_, hc.1.1, hc.1.2.1, hc.1.2.2.1, hc.1.2.2.2⟩
  rw [Ref.res_form]
  exact hc.2.trans (h.out_eq c)

end Cert.Proof

end
-- ==== Proof.lean ====
/- The certificate: the facts of the three programs, the frames, and the value equation (proofs.«01_k».proof.Defs). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Frames
public import proofs.«01_k».proof.Proof.Equal
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  frame_kernel, frame_ideal, frame_reference, trivial, equal⟩

end Cert.Proof

end
